-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  bcast_S_S512x16x8x128 : S_.BroadcastsInDim S512x16x8x128 (![] : Fin 0 → Fin S512x16x8x128.rank)
  bcast_S_S8 : S_.BroadcastsInDim S8 (![] : Fin 0 → Fin S8.rank)
  bcast_S_S8x512 : S_.BroadcastsInDim S8x512 (![] : Fin 0 → Fin S8x512.rank)

variable [Facts]

def fn_where {F : FTy → Type} [FloatOps F] (arg0 : IVec S8x512 1) (arg1 : IVec S8x512 32) (arg2 : IVec S_ 32) : IVec S8x512 32 :=
  let v0 : IVec S_ 32 := id arg2
  let v1 : IVec S8x512 32 := broadcastInDim S8x512 ![] bcast_S_S8x512 v0
  let v2 : IVec S8x512 32 := select arg0 arg1 v1
  v2

def fn_part1 {F : FTy → Type} [FloatOps F] (main_v8 : IVec S8x1x8x128 1) (main_v11 : IVec S512x16x8x128 1) (main_v13 : IVec S8 1) (main_v16 : IVec S8x512 1) (main_v17 : IVec S8x512 32) : IVec S8x1x8x128 1 × IVec S512x16x8x128 1 × IVec S8 1 × IVec S8x512 1 × IVec S8x512 1 :=
  let main_c_4 : IVec S_ 32 := constantI S_ 32 1023#32
  let main_v18 : IVec S8x512 32 := broadcastInDim S8x512 ![] bcast_S_S8x512 main_c_4
  let main_v19 : IVec S8x512 1 := cmpi .sle main_v17 main_v18
  (main_v8, main_v11, main_v13, main_v16, main_v19)

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8x1x8x128 1 × IVec S512x16x8x128 1 × IVec S8 1 × IVec S8x512 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_v9 : FVec F S512x16x8x128 .f32 := Host.absf main_arg1
  let main_cst_0 : FVec F S_ .f32 := constant S_ .f32 0x7F800000#32
  let main_v10 : FVec F S512x16x8x128 .f32 := broadcastInDim S512x16x8x128 ![] bcast_S_S512x16x8x128 main_cst_0
  let main_v11 : IVec S512x16x8x128 1 := cmpf .olt main_v9 main_v10
  let main_c : IVec S_ 32 := constantI S_ 32 1#32
  let main_v12 : IVec S8 32 := broadcastInDim S8 ![] bcast_S_S8 main_c
  let main_v13 : IVec S8 1 := cmpi .sge main_arg4 main_v12
  let main_c_1 : IVec S_ 32 := constantI S_ 32 0#32
  let main_v14 : IVec S8x512 32 := fn_where (F := F) main_v5 main_arg3 main_c_1
  let main_c_2 : IVec S_ 32 := constantI S_ 32 0#32
  let main_v15 : IVec S8x512 32 := broadcastInDim S8x512 ![] bcast_S_S8x512 main_c_2
  let main_v16 : IVec S8x512 1 := cmpi .sge main_v14 main_v15
  let main_c_3 : IVec S_ 32 := constantI S_ 32 0#32
  let main_v17 : IVec S8x512 32 := fn_where (F := F) main_v5 main_arg3 main_c_3
  fn_part1 (F := F) main_v8 main_v11 main_v13 main_v16 main_v17
-- ==== Pre_served_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  bcast_S_S1024x16x8x128 : S_.BroadcastsInDim S1024x16x8x128 (![] : Fin 0 → Fin S1024x16x8x128.rank)
  bcast_S_S8 : S_.BroadcastsInDim S8 (![] : Fin 0 → Fin S8.rank)
  bcast_S_S8x512 : S_.BroadcastsInDim S8x512 (![] : Fin 0 → Fin S8x512.rank)

variable [Facts]

def fn_where {F : FTy → Type} [FloatOps F] (arg0 : IVec S8x512 1) (arg1 : IVec S8x512 32) (arg2 : IVec S_ 32) : IVec S8x512 32 :=
  let v0 : IVec S_ 32 := id arg2
  let v1 : IVec S8x512 32 := broadcastInDim S8x512 ![] bcast_S_S8x512 v0
  let v2 : IVec S8x512 32 := select arg0 arg1 v1
  v2

def fn_part1 {F : FTy → Type} [FloatOps F] (main_v8 : IVec S8x1x8x128 1) (main_v11 : IVec S1024x16x8x128 1) (main_v13 : IVec S8 1) (main_v16 : IVec S8x512 1) (main_v17 : IVec S8x512 32) : IVec S8x1x8x128 1 × IVec S1024x16x8x128 1 × IVec S8 1 × IVec S8x512 1 × IVec S8x512 1 :=
  let main_c_4 : IVec S_ 32 := constantI S_ 32 1023#32
  let main_v18 : IVec S8x512 32 := broadcastInDim S8x512 ![] bcast_S_S8x512 main_c_4
  let main_v19 : IVec S8x512 1 := cmpi .sle main_v17 main_v18
  (main_v8, main_v11, main_v13, main_v16, main_v19)

def fn {F : FTy → Type} [FloatOps F] (main_arg0 : FVec F S8x1x8x128 .f32) (main_arg1 : FVec F S1024x16x8x128 .f32) (main_arg2 : FVec F S1024x16x8x128 .f32) (main_arg3 : IVec S8x512 32) (main_arg4 : IVec S8 32) : IVec S8x1x8x128 1 × IVec S1024x16x8x128 1 × IVec S8 1 × IVec S8x512 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_v9 : FVec F S1024x16x8x128 .f32 := Host.absf main_arg1
  let main_cst_0 : FVec F S_ .f32 := constant S_ .f32 0x7F800000#32
  let main_v10 : FVec F S1024x16x8x128 .f32 := broadcastInDim S1024x16x8x128 ![] bcast_S_S1024x16x8x128 main_cst_0
  let main_v11 : IVec S1024x16x8x128 1 := cmpf .olt main_v9 main_v10
  let main_c : IVec S_ 32 := constantI S_ 32 1#32
  let main_v12 : IVec S8 32 := broadcastInDim S8 ![] bcast_S_S8 main_c
  let main_v13 : IVec S8 1 := cmpi .sge main_arg4 main_v12
  let main_c_1 : IVec S_ 32 := constantI S_ 32 0#32
  let main_v14 : IVec S8x512 32 := fn_where (F := F) main_v5 main_arg3 main_c_1
  let main_c_2 : IVec S_ 32 := constantI S_ 32 0#32
  let main_v15 : IVec S8x512 32 := broadcastInDim S8x512 ![] bcast_S_S8x512 main_c_2
  let main_v16 : IVec S8x512 1 := cmpi .sge main_v14 main_v15
  let main_c_3 : IVec S_ 32 := constantI S_ 32 0#32
  let main_v17 : IVec S8x512 32 := fn_where (F := F) main_v5 main_arg3 main_c_3
  fn_part1 (F := F) main_v8 main_v11 main_v13 main_v16 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S2x64x16x8x128 : Shape := ⟨5, ![2, 64, 16, 8, 128]⟩
abbrev S8x8 : Shape := ⟨2, ![8, 8]⟩
abbrev S8x8x128 : Shape := ⟨3, ![8, 8, 128]⟩
abbrev S8x8x8 : Shape := ⟨3, ![8, 8, 8]⟩
abbrev S8x8x8x128 : Shape := ⟨4, ![8, 8, 8, 128]⟩
abbrev S2 : Shape := ⟨1, ![2]⟩
abbrev S24 : Shape := ⟨1, ![24]⟩
abbrev S1 : Shape := ⟨1, ![1]⟩
abbrev S_ : Shape := ⟨0, ![]⟩
abbrev S1x64x16x8x128 : Shape := ⟨5, ![1, 64, 16, 8, 128]⟩
abbrev S64x16x8x128 : Shape := ⟨4, ![64, 16, 8, 128]⟩
abbrev S1x1x128 : Shape := ⟨3, ![1, 1, 128]⟩
abbrev S8x1 : Shape := ⟨2, ![8, 1]⟩
abbrev S8x512x1 : Shape := ⟨3, ![8, 512, 1]⟩
abbrev S8x512x128 : Shape := ⟨3, ![8, 512, 128]⟩
abbrev S8x128 : Shape := ⟨2, ![8, 128]⟩
abbrev S128x2048 : Shape := ⟨2, ![128, 2048]⟩
abbrev S8x2048 : Shape := ⟨2, ![8, 2048]⟩
abbrev S8x1024 : Shape := ⟨2, ![8, 1024]⟩
abbrev S8x1x1x128 : Shape := ⟨4, ![8, 1, 1, 128]⟩
abbrev S1x64x16x1x128 : Shape := ⟨5, ![1, 64, 16, 1, 128]⟩
abbrev S64x16x128 : Shape := ⟨3, ![64, 16, 128]⟩
abbrev S1024x128 : Shape := ⟨2, ![1024, 128]⟩
abbrev S8x1x128 : Shape := ⟨3, ![8, 1, 128]⟩
abbrev S1x8x8 : Shape := ⟨3, ![1, 8, 8]⟩
abbrev S1x8x8x128 : Shape := ⟨4, ![1, 8, 8, 128]⟩
abbrev S8x8x1 : Shape := ⟨3, ![8, 8, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8, .i32⟩
  | .local _ .vmem, ⟨3, _⟩ => ⟨S8x1x8x128, .f32⟩
  | .local _ .vmem, ⟨4, _⟩ => ⟨S2x64x16x8x128, .f32⟩
  | .local _ .vmem, ⟨5, _⟩ => ⟨S2x64x16x8x128, .f32⟩
  | .local _ .vmem, ⟨6, _⟩ => ⟨S8x8, .f32⟩
  | .local _ .vmem, ⟨7, _⟩ => ⟨S8x8, .f32⟩
  | .local _ .vmem, ⟨8, _⟩ => ⟨S8x8x128, .f32⟩
  | .local _ .vmem, ⟨9, _⟩ => ⟨S8x8x8, .f32⟩
  | .local _ .vmem, ⟨10, _⟩ => ⟨S8x8x8, .f32⟩
  | .local _ .vmem, ⟨11, _⟩ => ⟨S8x8x8x128, .f32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32 : BitVec 32 := 128#32
  let v11 : BitVec 32 := Scalar.muli v10 c128_i32
  let v12 : BitVec 32 := Scalar.addi v11 c0_i32
  let c0_i32_11 : BitVec 32 := 0#32
  let c0_i32_12 : BitVec 32 := 0#32
  let c0_i32_13 : BitVec 32 := 0#32
  ![v12.toNat, 0, 0, 0]
def k0_dev1 : Nat :=
  let c0_i32_552 : BitVec 32 := 0#32
  let c0_i32_548 : BitVec 32 := 0#32
  let c4_i32_551 : BitVec 32 := 4#32
  let v758 : BitVec 32 := Scalar.muli c0_i32_548 c4_i32_551
  let v759 : BitVec 32 := Scalar.addi c0_i32_552 v758
  let c0_i32_549 : BitVec 32 := 0#32
  let c2_i32_553 : BitVec 32 := 2#32
  let v760 : BitVec 32 := Scalar.muli c0_i32_549 c2_i32_553
  let v761 : BitVec 32 := Scalar.addi v759 v760
  let c0_i32_550 : BitVec 32 := 0#32
  let c1_i32_554 : BitVec 32 := 1#32
  let v762 : BitVec 32 := Scalar.muli c0_i32_550 c1_i32_554
  let v763 : BitVec 32 := Scalar.addi v761 v762
  v763.toNat
def k0_dev2 : Nat :=
  let c0_i32_560 : BitVec 32 := 0#32
  let c0_i32_556 : BitVec 32 := 0#32
  let c4_i32_559 : BitVec 32 := 4#32
  let v764 : BitVec 32 := Scalar.muli c0_i32_556 c4_i32_559
  let v765 : BitVec 32 := Scalar.addi c0_i32_560 v764
  let c0_i32_557 : BitVec 32 := 0#32
  let c2_i32_561 : BitVec 32 := 2#32
  let v766 : BitVec 32 := Scalar.muli c0_i32_557 c2_i32_561
  let v767 : BitVec 32 := Scalar.addi v765 v766
  let c1_i32_558 : BitVec 32 := 1#32
  let c1_i32_562 : BitVec 32 := 1#32
  let v768 : BitVec 32 := Scalar.muli c1_i32_558 c1_i32_562
  let v769 : BitVec 32 := Scalar.addi v767 v768
  v769.toNat
def k0_dev3 : Nat :=
  let c0_i32_568 : BitVec 32 := 0#32
  let c0_i32_564 : BitVec 32 := 0#32
  let c4_i32_567 : BitVec 32 := 4#32
  let v770 : BitVec 32 := Scalar.muli c0_i32_564 c4_i32_567
  let v771 : BitVec 32 := Scalar.addi c0_i32_568 v770
  let c1_i32_565 : BitVec 32 := 1#32
  let c2_i32_569 : BitVec 32 := 2#32
  let v772 : BitVec 32 := Scalar.muli c1_i32_565 c2_i32_569
  let v773 : BitVec 32 := Scalar.addi v771 v772
  let c0_i32_566 : BitVec 32 := 0#32
  let c1_i32_570 : BitVec 32 := 1#32
  let v774 : BitVec 32 := Scalar.muli c0_i32_566 c1_i32_570
  let v775 : BitVec 32 := Scalar.addi v773 v774
  v775.toNat
def k0_dev4 : Nat :=
  let c0_i32_576 : BitVec 32 := 0#32
  let c0_i32_572 : BitVec 32 := 0#32
  let c4_i32_575 : BitVec 32 := 4#32
  let v776 : BitVec 32 := Scalar.muli c0_i32_572 c4_i32_575
  let v777 : BitVec 32 := Scalar.addi c0_i32_576 v776
  let c1_i32_573 : BitVec 32 := 1#32
  let c2_i32_577 : BitVec 32 := 2#32
  let v778 : BitVec 32 := Scalar.muli c1_i32_573 c2_i32_577
  let v779 : BitVec 32 := Scalar.addi v777 v778
  let c1_i32_574 : BitVec 32 := 1#32
  let c1_i32_578 : BitVec 32 := 1#32
  let v780 : BitVec 32 := Scalar.muli c1_i32_574 c1_i32_578
  let v781 : BitVec 32 := Scalar.addi v779 v780
  v781.toNat
def k0_dev5 : Nat :=
  let c0_i32_584 : BitVec 32 := 0#32
  let c1_i32_580 : BitVec 32 := 1#32
  let c4_i32_583 : BitVec 32 := 4#32
  let v782 : BitVec 32 := Scalar.muli c1_i32_580 c4_i32_583
  let v783 : BitVec 32 := Scalar.addi c0_i32_584 v782
  let c0_i32_581 : BitVec 32 := 0#32
  let c2_i32_585 : BitVec 32 := 2#32
  let v784 : BitVec 32 := Scalar.muli c0_i32_581 c2_i32_585
  let v785 : BitVec 32 := Scalar.addi v783 v784
  let c0_i32_582 : BitVec 32 := 0#32
  let c1_i32_586 : BitVec 32 := 1#32
  let v786 : BitVec 32 := Scalar.muli c0_i32_582 c1_i32_586
  let v787 : BitVec 32 := Scalar.addi v785 v786
  v787.toNat
def k0_dev6 : Nat :=
  let c0_i32_592 : BitVec 32 := 0#32
  let c1_i32_588 : BitVec 32 := 1#32
  let c4_i32_591 : BitVec 32 := 4#32
  let v788 : BitVec 32 := Scalar.muli c1_i32_588 c4_i32_591
  let v789 : BitVec 32 := Scalar.addi c0_i32_592 v788
  let c0_i32_589 : BitVec 32 := 0#32
  let c2_i32_593 : BitVec 32 := 2#32
  let v790 : BitVec 32 := Scalar.muli c0_i32_589 c2_i32_593
  let v791 : BitVec 32 := Scalar.addi v789 v790
  let c1_i32_590 : BitVec 32 := 1#32
  let c1_i32_594 : BitVec 32 := 1#32
  let v792 : BitVec 32 := Scalar.muli c1_i32_590 c1_i32_594
  let v793 : BitVec 32 := Scalar.addi v791 v792
  v793.toNat
def k0_dev7 : Nat :=
  let c0_i32_600 : BitVec 32 := 0#32
  let c1_i32_596 : BitVec 32 := 1#32
  let c4_i32_599 : BitVec 32 := 4#32
  let v794 : BitVec 32 := Scalar.muli c1_i32_596 c4_i32_599
  let v795 : BitVec 32 := Scalar.addi c0_i32_600 v794
  let c1_i32_597 : BitVec 32 := 1#32
  let c2_i32_601 : BitVec 32 := 2#32
  let v796 : BitVec 32 := Scalar.muli c1_i32_597 c2_i32_601
  let v797 : BitVec 32 := Scalar.addi v795 v796
  let c0_i32_598 : BitVec 32 := 0#32
  let c1_i32_602 : BitVec 32 := 1#32
  let v798 : BitVec 32 := Scalar.muli c0_i32_598 c1_i32_602
  let v799 : BitVec 32 := Scalar.addi v797 v798
  v799.toNat
def k0_dev8 : Nat :=
  let c0_i32_608 : BitVec 32 := 0#32
  let c1_i32_604 : BitVec 32 := 1#32
  let c4_i32_607 : BitVec 32 := 4#32
  let v800 : BitVec 32 := Scalar.muli c1_i32_604 c4_i32_607
  let v801 : BitVec 32 := Scalar.addi c0_i32_608 v800
  let c1_i32_605 : BitVec 32 := 1#32
  let c2_i32_609 : BitVec 32 := 2#32
  let v802 : BitVec 32 := Scalar.muli c1_i32_605 c2_i32_609
  let v803 : BitVec 32 := Scalar.addi v801 v802
  let c1_i32_606 : BitVec 32 := 1#32
  let c1_i32_610 : BitVec 32 := 1#32
  let v804 : BitVec 32 := Scalar.muli c1_i32_606 c1_i32_610
  let v805 : BitVec 32 := Scalar.addi v803 v804
  v805.toNat
def k0_off2 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v753 : BitVec 32 := Scalar.muli v2 c4_i32_545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_546 : BitVec 32 := 2#32
  let v754 : BitVec 32 := Scalar.muli v5 c2_i32_546
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v756 : BitVec 32 := Scalar.addi v755 v8
  ![v756.toNat]
def k0_off3 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v753 : BitVec 32 := Scalar.muli v2 c4_i32_545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_546 : BitVec 32 := 2#32
  let v754 : BitVec 32 := Scalar.muli v5 c2_i32_546
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v756 : BitVec 32 := Scalar.addi v755 v8
  let c0_i32_619 : BitVec 32 := 0#32
  let c0_i32_620 : BitVec 32 := 0#32
  ![v756.toNat, 0, 0]
def k0_dev9 : Nat :=
  let c0_i32_616 : BitVec 32 := 0#32
  let c0_i32_612 : BitVec 32 := 0#32
  let c4_i32_615 : BitVec 32 := 4#32
  let v806 : BitVec 32 := Scalar.muli c0_i32_612 c4_i32_615
  let v807 : BitVec 32 := Scalar.addi c0_i32_616 v806
  let c0_i32_613 : BitVec 32 := 0#32
  let c2_i32_617 : BitVec 32 := 2#32
  let v808 : BitVec 32 := Scalar.muli c0_i32_613 c2_i32_617
  let v809 : BitVec 32 := Scalar.addi v807 v808
  let c0_i32_614 : BitVec 32 := 0#32
  let c1_i32_618 : BitVec 32 := 1#32
  let v810 : BitVec 32 := Scalar.muli c0_i32_614 c1_i32_618
  let v811 : BitVec 32 := Scalar.addi v809 v810
  v811.toNat
def k0_dev10 : Nat :=
  let c0_i32_626 : BitVec 32 := 0#32
  let c0_i32_622 : BitVec 32 := 0#32
  let c4_i32_625 : BitVec 32 := 4#32
  let v818 : BitVec 32 := Scalar.muli c0_i32_622 c4_i32_625
  let v819 : BitVec 32 := Scalar.addi c0_i32_626 v818
  let c0_i32_623 : BitVec 32 := 0#32
  let c2_i32_627 : BitVec 32 := 2#32
  let v820 : BitVec 32 := Scalar.muli c0_i32_623 c2_i32_627
  let v821 : BitVec 32 := Scalar.addi v819 v820
  let c0_i32_624 : BitVec 32 := 0#32
  let c1_i32_628 : BitVec 32 := 1#32
  let v822 : BitVec 32 := Scalar.muli c0_i32_624 c1_i32_628
  let v823 : BitVec 32 := Scalar.addi v821 v822
  v823.toNat
def k0_off4 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v753 : BitVec 32 := Scalar.muli v2 c4_i32_545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_546 : BitVec 32 := 2#32
  let v754 : BitVec 32 := Scalar.muli v5 c2_i32_546
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v756 : BitVec 32 := Scalar.addi v755 v8
  let c0_i32_639 : BitVec 32 := 0#32
  let c0_i32_640 : BitVec 32 := 0#32
  let c0_i32_641 : BitVec 32 := 0#32
  ![v756.toNat, 0, 0, 0]
def k0_dev11 : Nat :=
  let c0_i32_636 : BitVec 32 := 0#32
  let c0_i32_632 : BitVec 32 := 0#32
  let c4_i32_635 : BitVec 32 := 4#32
  let v830 : BitVec 32 := Scalar.muli c0_i32_632 c4_i32_635
  let v831 : BitVec 32 := Scalar.addi c0_i32_636 v830
  let c0_i32_633 : BitVec 32 := 0#32
  let c2_i32_637 : BitVec 32 := 2#32
  let v832 : BitVec 32 := Scalar.muli c0_i32_633 c2_i32_637
  let v833 : BitVec 32 := Scalar.addi v831 v832
  let c0_i32_634 : BitVec 32 := 0#32
  let c1_i32_638 : BitVec 32 := 1#32
  let v834 : BitVec 32 := Scalar.muli c0_i32_634 c1_i32_638
  let v835 : BitVec 32 := Scalar.addi v833 v834
  v835.toNat
def k0_dev12 : Nat :=
  let c0_i32_646 : BitVec 32 := 0#32
  let c0_i32_642 : BitVec 32 := 0#32
  let c4_i32_645 : BitVec 32 := 4#32
  let v842 : BitVec 32 := Scalar.muli c0_i32_642 c4_i32_645
  let v843 : BitVec 32 := Scalar.addi c0_i32_646 v842
  let c0_i32_643 : BitVec 32 := 0#32
  let c2_i32_647 : BitVec 32 := 2#32
  let v844 : BitVec 32 := Scalar.muli c0_i32_643 c2_i32_647
  let v845 : BitVec 32 := Scalar.addi v843 v844
  let c1_i32_644 : BitVec 32 := 1#32
  let c1_i32_648 : BitVec 32 := 1#32
  let v846 : BitVec 32 := Scalar.muli c1_i32_644 c1_i32_648
  let v847 : BitVec 32 := Scalar.addi v845 v846
  v847.toNat
def k0_dev13 : Nat :=
  let c0_i32_656 : BitVec 32 := 0#32
  let c0_i32_652 : BitVec 32 := 0#32
  let c4_i32_655 : BitVec 32 := 4#32
  let v854 : BitVec 32 := Scalar.muli c0_i32_652 c4_i32_655
  let v855 : BitVec 32 := Scalar.addi c0_i32_656 v854
  let c0_i32_653 : BitVec 32 := 0#32
  let c2_i32_657 : BitVec 32 := 2#32
  let v856 : BitVec 32 := Scalar.muli c0_i32_653 c2_i32_657
  let v857 : BitVec 32 := Scalar.addi v855 v856
  let c1_i32_654 : BitVec 32 := 1#32
  let c1_i32_658 : BitVec 32 := 1#32
  let v858 : BitVec 32 := Scalar.muli c1_i32_654 c1_i32_658
  let v859 : BitVec 32 := Scalar.addi v857 v858
  v859.toNat
def k0_dev14 : Nat :=
  let c0_i32_665 : BitVec 32 := 0#32
  let c0_i32_661 : BitVec 32 := 0#32
  let c4_i32_664 : BitVec 32 := 4#32
  let v866 : BitVec 32 := Scalar.muli c0_i32_661 c4_i32_664
  let v867 : BitVec 32 := Scalar.addi c0_i32_665 v866
  let c0_i32_662 : BitVec 32 := 0#32
  let c2_i32_666 : BitVec 32 := 2#32
  let v868 : BitVec 32 := Scalar.muli c0_i32_662 c2_i32_666
  let v869 : BitVec 32 := Scalar.addi v867 v868
  let c1_i32_663 : BitVec 32 := 1#32
  let c1_i32_667 : BitVec 32 := 1#32
  let v870 : BitVec 32 := Scalar.muli c1_i32_663 c1_i32_667
  let v871 : BitVec 32 := Scalar.addi v869 v870
  v871.toNat
def k0_dev15 : Nat :=
  let c0_i32_675 : BitVec 32 := 0#32
  let c0_i32_671 : BitVec 32 := 0#32
  let c4_i32_674 : BitVec 32 := 4#32
  let v878 : BitVec 32 := Scalar.muli c0_i32_671 c4_i32_674
  let v879 : BitVec 32 := Scalar.addi c0_i32_675 v878
  let c1_i32_672 : BitVec 32 := 1#32
  let c2_i32_676 : BitVec 32 := 2#32
  let v880 : BitVec 32 := Scalar.muli c1_i32_672 c2_i32_676
  let v881 : BitVec 32 := Scalar.addi v879 v880
  let c0_i32_673 : BitVec 32 := 0#32
  let c1_i32_677 : BitVec 32 := 1#32
  let v882 : BitVec 32 := Scalar.muli c0_i32_673 c1_i32_677
  let v883 : BitVec 32 := Scalar.addi v881 v882
  v883.toNat
def k0_dev16 : Nat :=
  let c0_i32_684 : BitVec 32 := 0#32
  let c0_i32_680 : BitVec 32 := 0#32
  let c4_i32_683 : BitVec 32 := 4#32
  let v890 : BitVec 32 := Scalar.muli c0_i32_680 c4_i32_683
  let v891 : BitVec 32 := Scalar.addi c0_i32_684 v890
  let c1_i32_681 : BitVec 32 := 1#32
  let c2_i32_685 : BitVec 32 := 2#32
  let v892 : BitVec 32 := Scalar.muli c1_i32_681 c2_i32_685
  let v893 : BitVec 32 := Scalar.addi v891 v892
  let c0_i32_682 : BitVec 32 := 0#32
  let c1_i32_686 : BitVec 32 := 1#32
  let v894 : BitVec 32 := Scalar.muli c0_i32_682 c1_i32_686
  let v895 : BitVec 32 := Scalar.addi v893 v894
  v895.toNat
def k0_dev17 : Nat :=
  let c0_i32_694 : BitVec 32 := 0#32
  let c0_i32_690 : BitVec 32 := 0#32
  let c4_i32_693 : BitVec 32 := 4#32
  let v902 : BitVec 32 := Scalar.muli c0_i32_690 c4_i32_693
  let v903 : BitVec 32 := Scalar.addi c0_i32_694 v902
  let c1_i32_691 : BitVec 32 := 1#32
  let c2_i32_695 : BitVec 32 := 2#32
  let v904 : BitVec 32 := Scalar.muli c1_i32_691 c2_i32_695
  let v905 : BitVec 32 := Scalar.addi v903 v904
  let c0_i32_692 : BitVec 32 := 0#32
  let c1_i32_696 : BitVec 32 := 1#32
  let v906 : BitVec 32 := Scalar.muli c0_i32_692 c1_i32_696
  let v907 : BitVec 32 := Scalar.addi v905 v906
  v907.toNat
def k0_dev18 : Nat :=
  let c0_i32_704 : BitVec 32 := 0#32
  let c0_i32_700 : BitVec 32 := 0#32
  let c4_i32_703 : BitVec 32 := 4#32
  let v914 : BitVec 32 := Scalar.muli c0_i32_700 c4_i32_703
  let v915 : BitVec 32 := Scalar.addi c0_i32_704 v914
  let c1_i32_701 : BitVec 32 := 1#32
  let c2_i32_705 : BitVec 32 := 2#32
  let v916 : BitVec 32 := Scalar.muli c1_i32_701 c2_i32_705
  let v917 : BitVec 32 := Scalar.addi v915 v916
  let c1_i32_702 : BitVec 32 := 1#32
  let c1_i32_706 : BitVec 32 := 1#32
  let v918 : BitVec 32 := Scalar.muli c1_i32_702 c1_i32_706
  let v919 : BitVec 32 := Scalar.addi v917 v918
  v919.toNat
def k0_dev19 : Nat :=
  let c0_i32_713 : BitVec 32 := 0#32
  let c0_i32_709 : BitVec 32 := 0#32
  let c4_i32_712 : BitVec 32 := 4#32
  let v926 : BitVec 32 := Scalar.muli c0_i32_709 c4_i32_712
  let v927 : BitVec 32 := Scalar.addi c0_i32_713 v926
  let c1_i32_710 : BitVec 32 := 1#32
  let c2_i32_714 : BitVec 32 := 2#32
  let v928 : BitVec 32 := Scalar.muli c1_i32_710 c2_i32_714
  let v929 : BitVec 32 := Scalar.addi v927 v928
  let c1_i32_711 : BitVec 32 := 1#32
  let c1_i32_715 : BitVec 32 := 1#32
  let v930 : BitVec 32 := Scalar.muli c1_i32_711 c1_i32_715
  let v931 : BitVec 32 := Scalar.addi v929 v930
  v931.toNat
def k0_dev20 : Nat :=
  let c0_i32_722 : BitVec 32 := 0#32
  let c0_i32_718 : BitVec 32 := 0#32
  let c4_i32_721 : BitVec 32 := 4#32
  let v938 : BitVec 32 := Scalar.muli c0_i32_718 c4_i32_721
  let v939 : BitVec 32 := Scalar.addi c0_i32_722 v938
  let c1_i32_719 : BitVec 32 := 1#32
  let c2_i32_723 : BitVec 32 := 2#32
  let v940 : BitVec 32 := Scalar.muli c1_i32_719 c2_i32_723
  let v941 : BitVec 32 := Scalar.addi v939 v940
  let c1_i32_720 : BitVec 32 := 1#32
  let c1_i32_724 : BitVec 32 := 1#32
  let v942 : BitVec 32 := Scalar.muli c1_i32_720 c1_i32_724
  let v943 : BitVec 32 := Scalar.addi v941 v942
  v943.toNat
def k0_dev21 : Nat :=
  let c0_i32_732 : BitVec 32 := 0#32
  let c1_i32_728 : BitVec 32 := 1#32
  let c4_i32_731 : BitVec 32 := 4#32
  let v950 : BitVec 32 := Scalar.muli c1_i32_728 c4_i32_731
  let v951 : BitVec 32 := Scalar.addi c0_i32_732 v950
  let c0_i32_729 : BitVec 32 := 0#32
  let c2_i32_733 : BitVec 32 := 2#32
  let v952 : BitVec 32 := Scalar.muli c0_i32_729 c2_i32_733
  let v953 : BitVec 32 := Scalar.addi v951 v952
  let c0_i32_730 : BitVec 32 := 0#32
  let c1_i32_734 : BitVec 32 := 1#32
  let v954 : BitVec 32 := Scalar.muli c0_i32_730 c1_i32_734
  let v955 : BitVec 32 := Scalar.addi v953 v954
  v955.toNat
def k0_dev22 : Nat :=
  let c0_i32_741 : BitVec 32 := 0#32
  let c1_i32_737 : BitVec 32 := 1#32
  let c4_i32_740 : BitVec 32 := 4#32
  let v962 : BitVec 32 := Scalar.muli c1_i32_737 c4_i32_740
  let v963 : BitVec 32 := Scalar.addi c0_i32_741 v962
  let c0_i32_738 : BitVec 32 := 0#32
  let c2_i32_742 : BitVec 32 := 2#32
  let v964 : BitVec 32 := Scalar.muli c0_i32_738 c2_i32_742
  let v965 : BitVec 32 := Scalar.addi v963 v964
  let c0_i32_739 : BitVec 32 := 0#32
  let c1_i32_743 : BitVec 32 := 1#32
  let v966 : BitVec 32 := Scalar.muli c0_i32_739 c1_i32_743
  let v967 : BitVec 32 := Scalar.addi v965 v966
  v967.toNat
def k0_dev23 : Nat :=
  let c0_i32_750 : BitVec 32 := 0#32
  let c1_i32_746 : BitVec 32 := 1#32
  let c4_i32_749 : BitVec 32 := 4#32
  let v974 : BitVec 32 := Scalar.muli c1_i32_746 c4_i32_749
  let v975 : BitVec 32 := Scalar.addi c0_i32_750 v974
  let c0_i32_747 : BitVec 32 := 0#32
  let c2_i32_751 : BitVec 32 := 2#32
  let v976 : BitVec 32 := Scalar.muli c0_i32_747 c2_i32_751
  let v977 : BitVec 32 := Scalar.addi v975 v976
  let c0_i32_748 : BitVec 32 := 0#32
  let c1_i32_752 : BitVec 32 := 1#32
  let v978 : BitVec 32 := Scalar.muli c0_i32_748 c1_i32_752
  let v979 : BitVec 32 := Scalar.addi v977 v978
  v979.toNat
def k0_dev24 : Nat :=
  let c0_i32_760 : BitVec 32 := 0#32
  let c1_i32_756 : BitVec 32 := 1#32
  let c4_i32_759 : BitVec 32 := 4#32
  let v986 : BitVec 32 := Scalar.muli c1_i32_756 c4_i32_759
  let v987 : BitVec 32 := Scalar.addi c0_i32_760 v986
  let c0_i32_757 : BitVec 32 := 0#32
  let c2_i32_761 : BitVec 32 := 2#32
  let v988 : BitVec 32 := Scalar.muli c0_i32_757 c2_i32_761
  let v989 : BitVec 32 := Scalar.addi v987 v988
  let c1_i32_758 : BitVec 32 := 1#32
  let c1_i32_762 : BitVec 32 := 1#32
  let v990 : BitVec 32 := Scalar.muli c1_i32_758 c1_i32_762
  let v991 : BitVec 32 := Scalar.addi v989 v990
  v991.toNat
def k0_dev25 : Nat :=
  let c0_i32_770 : BitVec 32 := 0#32
  let c1_i32_766 : BitVec 32 := 1#32
  let c4_i32_769 : BitVec 32 := 4#32
  let v998 : BitVec 32 := Scalar.muli c1_i32_766 c4_i32_769
  let v999 : BitVec 32 := Scalar.addi c0_i32_770 v998
  let c0_i32_767 : BitVec 32 := 0#32
  let c2_i32_771 : BitVec 32 := 2#32
  let v1000 : BitVec 32 := Scalar.muli c0_i32_767 c2_i32_771
  let v1001 : BitVec 32 := Scalar.addi v999 v1000
  let c1_i32_768 : BitVec 32 := 1#32
  let c1_i32_772 : BitVec 32 := 1#32
  let v1002 : BitVec 32 := Scalar.muli c1_i32_768 c1_i32_772
  let v1003 : BitVec 32 := Scalar.addi v1001 v1002
  v1003.toNat
def k0_dev26 : Nat :=
  let c0_i32_779 : BitVec 32 := 0#32
  let c1_i32_775 : BitVec 32 := 1#32
  let c4_i32_778 : BitVec 32 := 4#32
  let v1010 : BitVec 32 := Scalar.muli c1_i32_775 c4_i32_778
  let v1011 : BitVec 32 := Scalar.addi c0_i32_779 v1010
  let c0_i32_776 : BitVec 32 := 0#32
  let c2_i32_780 : BitVec 32 := 2#32
  let v1012 : BitVec 32 := Scalar.muli c0_i32_776 c2_i32_780
  let v1013 : BitVec 32 := Scalar.addi v1011 v1012
  let c1_i32_777 : BitVec 32 := 1#32
  let c1_i32_781 : BitVec 32 := 1#32
  let v1014 : BitVec 32 := Scalar.muli c1_i32_777 c1_i32_781
  let v1015 : BitVec 32 := Scalar.addi v1013 v1014
  v1015.toNat
def k0_dev27 : Nat :=
  let c0_i32_789 : BitVec 32 := 0#32
  let c1_i32_785 : BitVec 32 := 1#32
  let c4_i32_788 : BitVec 32 := 4#32
  let v1022 : BitVec 32 := Scalar.muli c1_i32_785 c4_i32_788
  let v1023 : BitVec 32 := Scalar.addi c0_i32_789 v1022
  let c1_i32_786 : BitVec 32 := 1#32
  let c2_i32_790 : BitVec 32 := 2#32
  let v1024 : BitVec 32 := Scalar.muli c1_i32_786 c2_i32_790
  let v1025 : BitVec 32 := Scalar.addi v1023 v1024
  let c0_i32_787 : BitVec 32 := 0#32
  let c1_i32_791 : BitVec 32 := 1#32
  let v1026 : BitVec 32 := Scalar.muli c0_i32_787 c1_i32_791
  let v1027 : BitVec 32 := Scalar.addi v1025 v1026
  v1027.toNat
def k0_dev28 : Nat :=
  let c0_i32_798 : BitVec 32 := 0#32
  let c1_i32_794 : BitVec 32 := 1#32
  let c4_i32_797 : BitVec 32 := 4#32
  let v1034 : BitVec 32 := Scalar.muli c1_i32_794 c4_i32_797
  let v1035 : BitVec 32 := Scalar.addi c0_i32_798 v1034
  let c1_i32_795 : BitVec 32 := 1#32
  let c2_i32_799 : BitVec 32 := 2#32
  let v1036 : BitVec 32 := Scalar.muli c1_i32_795 c2_i32_799
  let v1037 : BitVec 32 := Scalar.addi v1035 v1036
  let c0_i32_796 : BitVec 32 := 0#32
  let c1_i32_800 : BitVec 32 := 1#32
  let v1038 : BitVec 32 := Scalar.muli c0_i32_796 c1_i32_800
  let v1039 : BitVec 32 := Scalar.addi v1037 v1038
  v1039.toNat
def k0_dev29 : Nat :=
  let c0_i32_807 : BitVec 32 := 0#32
  let c1_i32_803 : BitVec 32 := 1#32
  let c4_i32_806 : BitVec 32 := 4#32
  let v1046 : BitVec 32 := Scalar.muli c1_i32_803 c4_i32_806
  let v1047 : BitVec 32 := Scalar.addi c0_i32_807 v1046
  let c1_i32_804 : BitVec 32 := 1#32
  let c2_i32_808 : BitVec 32 := 2#32
  let v1048 : BitVec 32 := Scalar.muli c1_i32_804 c2_i32_808
  let v1049 : BitVec 32 := Scalar.addi v1047 v1048
  let c0_i32_805 : BitVec 32 := 0#32
  let c1_i32_809 : BitVec 32 := 1#32
  let v1050 : BitVec 32 := Scalar.muli c0_i32_805 c1_i32_809
  let v1051 : BitVec 32 := Scalar.addi v1049 v1050
  v1051.toNat
def k0_dev30 : Nat :=
  let c0_i32_817 : BitVec 32 := 0#32
  let c1_i32_813 : BitVec 32 := 1#32
  let c4_i32_816 : BitVec 32 := 4#32
  let v1058 : BitVec 32 := Scalar.muli c1_i32_813 c4_i32_816
  let v1059 : BitVec 32 := Scalar.addi c0_i32_817 v1058
  let c1_i32_814 : BitVec 32 := 1#32
  let c2_i32_818 : BitVec 32 := 2#32
  let v1060 : BitVec 32 := Scalar.muli c1_i32_814 c2_i32_818
  let v1061 : BitVec 32 := Scalar.addi v1059 v1060
  let c1_i32_815 : BitVec 32 := 1#32
  let c1_i32_819 : BitVec 32 := 1#32
  let v1062 : BitVec 32 := Scalar.muli c1_i32_815 c1_i32_819
  let v1063 : BitVec 32 := Scalar.addi v1061 v1062
  v1063.toNat
def k0_dev31 : Nat :=
  let c0_i32_826 : BitVec 32 := 0#32
  let c1_i32_822 : BitVec 32 := 1#32
  let c4_i32_825 : BitVec 32 := 4#32
  let v1070 : BitVec 32 := Scalar.muli c1_i32_822 c4_i32_825
  let v1071 : BitVec 32 := Scalar.addi c0_i32_826 v1070
  let c1_i32_823 : BitVec 32 := 1#32
  let c2_i32_827 : BitVec 32 := 2#32
  let v1072 : BitVec 32 := Scalar.muli c1_i32_823 c2_i32_827
  let v1073 : BitVec 32 := Scalar.addi v1071 v1072
  let c1_i32_824 : BitVec 32 := 1#32
  let c1_i32_828 : BitVec 32 := 1#32
  let v1074 : BitVec 32 := Scalar.muli c1_i32_824 c1_i32_828
  let v1075 : BitVec 32 := Scalar.addi v1073 v1074
  v1075.toNat
def k0_dev32 : Nat :=
  let c0_i32_835 : BitVec 32 := 0#32
  let c1_i32_831 : BitVec 32 := 1#32
  let c4_i32_834 : BitVec 32 := 4#32
  let v1082 : BitVec 32 := Scalar.muli c1_i32_831 c4_i32_834
  let v1083 : BitVec 32 := Scalar.addi c0_i32_835 v1082
  let c1_i32_832 : BitVec 32 := 1#32
  let c2_i32_836 : BitVec 32 := 2#32
  let v1084 : BitVec 32 := Scalar.muli c1_i32_832 c2_i32_836
  let v1085 : BitVec 32 := Scalar.addi v1083 v1084
  let c1_i32_833 : BitVec 32 := 1#32
  let c1_i32_837 : BitVec 32 := 1#32
  let v1086 : BitVec 32 := Scalar.muli c1_i32_833 c1_i32_837
  let v1087 : BitVec 32 := Scalar.addi v1085 v1086
  v1087.toNat
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8192 : Shape := ⟨1, ![8192]⟩
abbrev S_ : Shape := ⟨0, ![]⟩
abbrev S1x1x1x8192 : Shape := ⟨4, ![1, 1, 1, 8192]⟩
abbrev S8x1x1x1 : Shape := ⟨4, ![8, 1, 1, 1]⟩
abbrev S8x1x1x8192 : Shape := ⟨4, ![8, 1, 1, 8192]⟩
abbrev S8x8x1x8192 : Shape := ⟨4, ![8, 8, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 57
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S1024x16x8x128, .f32⟩
  | .hbm, ⟨2, _⟩ => ⟨S1024x16x8x128, .f32⟩
  | .hbm, ⟨3, _⟩ => ⟨S8x512, .i32⟩
  | .hbm, ⟨4, _⟩ => ⟨S8, .i32⟩
  | .hbm, ⟨5, _⟩ => ⟨S8x512x1, .i32⟩
  | .hbm, ⟨6, _⟩ => ⟨S8x512x16x8x128, .f32⟩
  | .hbm, ⟨7, _⟩ => ⟨S8x8192x8x128, .f32⟩
  | .hbm, ⟨8, _⟩ => ⟨S8x512x1, .i32⟩
  | .hbm, ⟨9, _⟩ => ⟨S8x512x16x8x128, .f32⟩
  | .hbm, ⟨10, _⟩ => ⟨S8x8192x8x128, .f32⟩
  | .hbm, ⟨11, _⟩ => ⟨S8192, .i32⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S1x1x1x8192, .i32⟩
  | .hbm, ⟨31, _⟩ => ⟨S8x1x1x1, .i32⟩
  | .hbm, ⟨32, _⟩ => ⟨S8x1x1x8192, .i32⟩
  | .hbm, ⟨33, _⟩ => ⟨S8x1x1x8192, .i32⟩
  | .hbm, ⟨34, _⟩ => ⟨S8x1x1x8192, .i1⟩
  | .hbm, ⟨35, _⟩ => ⟨S8x8x1x8192, .f32⟩
  | .hbm, ⟨36, _⟩ => ⟨S_, .f32⟩
  | .hbm, ⟨37, _⟩ => ⟨S8x8x1x8192, .f32⟩
  | .hbm, ⟨38, _⟩ => ⟨S8x8x1x8192, .f32⟩
  | .hbm, ⟨39, _⟩ => ⟨S_, .f32⟩
  | .hbm, ⟨40, _⟩ => ⟨S_, .f32⟩
  | .hbm, ⟨41, _⟩ => ⟨S8x8x1x8192, .i1⟩
  | .hbm, ⟨42, _⟩ => ⟨S8x8x1x8192, .f32⟩
  | .hbm, ⟨43, _⟩ => ⟨S8x8x1x8192, .f32⟩
  | .hbm, ⟨44, _⟩ => ⟨S_, .f32⟩
  | .hbm, ⟨45, _⟩ => ⟨S8x8x1, .f32⟩
  | .hbm, ⟨46, _⟩ => ⟨S8x8x1x1, .f32⟩
  | .hbm, ⟨47, _⟩ => ⟨S8x8x1x8192, .f32⟩
  | .hbm, ⟨48, _⟩ => ⟨S8x8x1x8192, .f32⟩
  | .hbm, ⟨49, _⟩ => ⟨S8x8x1x8192, .f32⟩
  | .hbm, ⟨50, _⟩ => ⟨S_, .f32⟩
  | .hbm, ⟨51, _⟩ => ⟨S8x8x1, .f32⟩
  | .hbm, ⟨52, _⟩ => ⟨S8x8x1x1, .f32⟩
  | .hbm, ⟨53, _⟩ => ⟨S8x8x1x8192, .f32⟩
  | .hbm, ⟨54, _⟩ => ⟨S8x8x1x8192, .f32⟩
  | .hbm, ⟨55, _⟩ => ⟨S8x8x128x1, .f32⟩
  | .hbm, ⟨56, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call2_v0 : Ref sig .tc := ⟨.hbm, 13, rfl⟩
abbrev main_call2_v1 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_v6 : Ref sig .tc := ⟨.hbm, 19, rfl⟩
abbrev main_call2_v7 : Ref sig .tc := ⟨.hbm, 20, rfl⟩
abbrev main_call2_v8 : Ref sig .tc := ⟨.hbm, 21, rfl⟩
abbrev main_call2_c : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_0 : Ref sig .tc := ⟨.hbm, 26, rfl⟩
abbrev main_call2_v12 : Ref sig .tc := ⟨.hbm, 27, rfl⟩
abbrev main_call2_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]
-- ==== Proof.Algebra.lean ====
/-
The resource algebra of the launch: the pipeline library's rounds, the kernel's own rounds cells (barrier, send and
receive semaphores; a duty is named by a device), and the counters of the transfers inside one device.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Rounds

@[expose] public section

set_option maxRecDepth 16384

noncomputable section

namespace Cert.PagedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × (UB × Counters)

abbrev EP : Emb (UR sig nD τ) (MT nD τ sig Unit (Elt F) ℕ UU ℕ) := embL
/-- The kernel's own cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance

abbrev 𝒱₀ : Variants := Variants.none

end Cert.PagedProof

end
-- ==== Proof.Protocol.lean ====
/-
The protocol of the exchange. Each device has one barrier cell, twenty-four send cells (for target `t` and array `i` the
cell `3 t + i`) and twenty-four receive cells (for array `i` and sender `q` the cell `24 + 8 i + q`). Every cell has one
round. Device `d` pays duty `d` of device `c`'s barrier cell with its own landing slots `c`; a send cell's only duty
gives the lent share of the source back; a receive cell's only duty gives the slot holding the sender's partial result.
-/
module

public import proofs.«01_k».proof.Proof.Algebra
public import Idealize.ShloMosaic.Lib.ValueLayout
public import Idealize.ShloMosaic.Lib.Transfers

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf)
open Idealize.ShloMosaic.ValueIdx

variable {F : FTy → Type} [FloatOps F]

local notation "𝕄" => MT nD τ sig Unit (Elt F) ℕ UU ℕ

/-! ## The memrefs -/

abbrev mM : Memref sig .tc .vmem S8x8 .f32 := Memref.whole cc0_scratch2
abbrev lM : Memref sig .tc .vmem S8x8 .f32 := Memref.whole cc0_scratch3
abbrev oM : Memref sig .tc .vmem S8x8x128 .f32 := Memref.whole cc0_scratch4

/-- The landing slots of sender `d`, as the transfers name them. -/
abbrev slotM (d : Dev nD) : Memref sig .tc .vmem S8x8 .f32 :=
  ((Memref.whole cc0_scratch5 : Memref sig .tc .vmem S8x8x8 .f32).slice (Rect.unit (s := S8x8x8) (k0_off3 d) S1x8x8.size (k0_off3_inb d)) (fun _ => rfl)).squeeze S8x8 squeezes_S1x8x8_S8x8
abbrev slotL (d : Dev nD) : Memref sig .tc .vmem S8x8 .f32 :=
  ((Memref.whole cc0_scratch6 : Memref sig .tc .vmem S8x8x8 .f32).slice (Rect.unit (s := S8x8x8) (k0_off3 d) S1x8x8.size (k0_off3_inb d)) (fun _ => rfl)).squeeze S8x8 squeezes_S1x8x8_S8x8
abbrev slotO (d : Dev nD) : Memref sig .tc .vmem S8x8x128 .f32 :=
  ((Memref.whole cc0_scratch7 : Memref sig .tc .vmem S8x8x8x128 .f32).slice (Rect.unit (s := S8x8x8x128) (k0_off4 d) S1x8x8x128.size (k0_off4_inb d)) (fun _ => rfl)).squeeze S8x8x128 squeezes_S1x8x8x128_S8x8x128

/-! ## The cells -/

abbrev barS : Sem sig := (SemArray.scalar (sig.barrier 0 rfl) : Sems sig S_).sem

set_option backward.proofsInPublic true in
/-- The kernel's semaphores: the barrier at 0, its own transfer semaphores from 1 on. -/
def csem (k : Fin 49) : SemLoc sig := if k = 0 then .reg barS else .dma ⟨7 + k.val, by have := k.isLt; show 7 + k.val < 56; omega⟩

abbrev kcell (ck : Dev nD × Fin 49) : GSem nD τ sig := ((ck.1 : Thread nD τ), csem ck.2)

set_option backward.proofsInPublic true in
/-- The send cell of target `t` and array `i`. -/
def ksnd (t : Dev nD) (i : Fin 3) : Fin 49 := ⟨1 + 3 * t.val + i.val, by have h1 : t.val < 8 := t.isLt; have := i.isLt; omega⟩
set_option backward.proofsInPublic true in
/-- The receive cell of array `i` and sender `q`. -/
def krcv (i : Fin 3) (q : Dev nD) : Fin 49 := ⟨25 + 8 * i.val + q.val, by have h1 : q.val < 8 := q.isLt; have := i.isLt; omega⟩

theorem csem_inj : Function.Injective csem := by decide

/-- What one transfer of a maxima or sums array credits, and of a weighted-values array. -/
abbrev NM : ℕ := (mM).view.dmaCredit
abbrev NO : ℕ := (oM).view.dmaCredit
theorem NM_pos : 0 < NM := View.dmaCredit_pos _ (by decide)
theorem NO_pos : 0 < NO := View.dmaCredit_pos _ (by decide)
abbrev NN (i : Fin 3) : ℕ := if i = 2 then NO else NM
theorem NN_pos (i : Fin 3) : 0 < NN i := by unfold NN; split; exacts [NO_pos, NM_pos]

theorem slotM_credit (d : Dev nD) : (slotM d).view.dmaCredit = NM := rfl
theorem slotL_credit (d : Dev nD) : (slotL d).view.dmaCredit = NM := rfl
theorem slotO_credit (d : Dev nD) : (slotO d).view.dmaCredit = NO := rfl

/-! ## Contents -/

variable (AM : Dev nD → (cc0_scratch2 : Ref sig .tc).ty.Contents (Elt F)) (AL : Dev nD → (cc0_scratch3 : Ref sig .tc).ty.Contents (Elt F))
  (AO : Dev nD → (cc0_scratch4 : Ref sig .tc).ty.Contents (Elt F))

/-- The landing arrays once every sender's partial result is there. -/
def GM : (cc0_scratch5 : Ref sig .tc).ty.Contents (Elt F) := fun (i : S8x8x8.Idx) => AM (i 0) (ix2 (i 1) (i 2))
def GL : (cc0_scratch6 : Ref sig .tc).ty.Contents (Elt F) := fun (i : S8x8x8.Idx) => AL (i 0) (ix2 (i 1) (i 2))
def GO : (cc0_scratch7 : Ref sig .tc).ty.Contents (Elt F) := fun (i : S8x8x8x128.Idx) => AO (i 0) (ix3 (i 1) (i 2) (i 3))

/-- The share of a source lent to the transfer to `t`. -/
def srcM (c t : Dev nD) : sProp 𝕄 := mM.view.loc (c : Thread nD τ) ↦[mM.view.set]{dealOf fullShare Finset.univ t} AM c
def srcL (c t : Dev nD) : sProp 𝕄 := lM.view.loc (c : Thread nD τ) ↦[lM.view.set]{dealOf fullShare Finset.univ t} AL c
def srcO (c t : Dev nD) : sProp 𝕄 := oM.view.loc (c : Thread nD τ) ↦[oM.view.set]{dealOf fullShare Finset.univ t} AO c

/-- Slot `q` of device `g`'s landing arrays at given contents. -/
def atM (g q : Dev nD) (f : Buf (Elt F) ((slotM q).view.loc (g : Thread nD τ))) : sProp 𝕄 := (slotM q).view.loc (g : Thread nD τ) ↦[(slotM q).view.set]{fullShare} f
def atL (g q : Dev nD) (f : Buf (Elt F) ((slotL q).view.loc (g : Thread nD τ))) : sProp 𝕄 := (slotL q).view.loc (g : Thread nD τ) ↦[(slotL q).view.set]{fullShare} f
def atO (g q : Dev nD) (f : Buf (Elt F) ((slotO q).view.loc (g : Thread nD τ))) : sProp 𝕄 := (slotO q).view.loc (g : Thread nD τ) ↦[(slotO q).view.set]{fullShare} f
instance (c t : Dev nD) (f) : BI.Storable (upEmb : UEmb _ 𝕄) (atM (F := F) c t f) := by unfold atM; infer_instance
instance (c t : Dev nD) (f) : BI.Storable (upEmb : UEmb _ 𝕄) (atL (F := F) c t f) := by unfold atL; infer_instance
instance (c t : Dev nD) (f) : BI.Storable (upEmb : UEmb _ 𝕄) (atO (F := F) c t f) := by unfold atO; infer_instance

/-- Slot `q` of device `g`'s landing arrays holding `q`'s partial result. -/
def gotM (g q : Dev nD) : sProp 𝕄 := atM g q (GM AM)
def gotL (g q : Dev nD) : sProp 𝕄 := atL g q (GL AL)
def gotO (g q : Dev nD) : sProp 𝕄 := atO g q (GO AO)

/-- Slot `q` of device `g`'s landing arrays at some contents. -/
def freeM (g q : Dev nD) : sProp 𝕄 := iprop(∃ f, atM (F := F) g q f)
def freeL (g q : Dev nD) : sProp 𝕄 := iprop(∃ f, atL (F := F) g q f)
def freeO (g q : Dev nD) : sProp 𝕄 := iprop(∃ f, atO (F := F) g q f)

/-- What device `d`'s signal hands device `c`: `d`'s landing slots for `c`. -/
def barPay (c d : Dev nD) : sProp 𝕄 := iprop(freeM (F := F) d c ∗ freeL (F := F) d c ∗ freeO (F := F) d c)

def pick3 {α : Type _} (i : Fin 3) (a b c : α) : α := match i with | 0 => a | 1 => b | 2 => c

set_option backward.proofsInPublic true in
/-- What cell `k` of device `c` hands over, `k` not the barrier. -/
def dmaPay (c : Dev nD) (k : ℕ) : sProp 𝕄 :=
  if k < 25 then
    (let t : Dev nD := ⟨(k - 1) / 3 % 8, Nat.mod_lt _ (by decide)⟩
     pick3 ⟨(k - 1) % 3, Nat.mod_lt _ (by decide)⟩ (srcM AM c t) (srcL AL c t) (srcO AO c t))
  else
    (let q : Dev nD := ⟨(k - 25) % 8, Nat.mod_lt _ (by decide)⟩
     pick3 ⟨(k - 25) / 8 % 3, Nat.mod_lt _ (by decide)⟩ (gotM AM c q) (gotL AL c q) (gotO AO c q))

set_option backward.proofsInPublic true in
def dmaAmt (k : ℕ) : ℕ := if k < 25 then NN ⟨(k - 1) % 3, Nat.mod_lt _ (by decide)⟩ else NN ⟨(k - 25) / 8 % 3, Nat.mod_lt _ (by decide)⟩
theorem dmaAmt_pos (k : ℕ) : 0 < dmaAmt k := by unfold dmaAmt; split <;> exact NN_pos _

instance (c t : Dev nD) : BI.Storable (upEmb : UEmb _ 𝕄) (srcM AM c t) := by unfold srcM; infer_instance
instance (c t : Dev nD) : BI.Storable (upEmb : UEmb _ 𝕄) (srcL AL c t) := by unfold srcL; infer_instance
instance (c t : Dev nD) : BI.Storable (upEmb : UEmb _ 𝕄) (srcO AO c t) := by unfold srcO; infer_instance
instance (c t : Dev nD) : BI.Storable (upEmb : UEmb _ 𝕄) (gotM AM c t) := by unfold gotM; infer_instance
instance (c t : Dev nD) : BI.Storable (upEmb : UEmb _ 𝕄) (gotL AL c t) := by unfold gotL; infer_instance
instance (c t : Dev nD) : BI.Storable (upEmb : UEmb _ 𝕄) (gotO AO c t) := by unfold gotO; infer_instance
instance (c t : Dev nD) : BI.Storable (upEmb : UEmb _ 𝕄) (freeM (F := F) c t) := by unfold freeM; infer_instance
instance (c t : Dev nD) : BI.Storable (upEmb : UEmb _ 𝕄) (freeL (F := F) c t) := by unfold freeL; infer_instance
instance (c t : Dev nD) : BI.Storable (upEmb : UEmb _ 𝕄) (freeO (F := F) c t) := by unfold freeO; infer_instance
instance (c d : Dev nD) : BI.Storable (upEmb : UEmb _ 𝕄) (barPay (F := F) c d) := by unfold barPay; infer_instance
instance (i : Fin 3) (a b c : sProp 𝕄) [BI.Storable (upEmb : UEmb _ 𝕄) a] [BI.Storable (upEmb : UEmb _ 𝕄) b] [BI.Storable (upEmb : UEmb _ 𝕄) c] :
    BI.Storable (upEmb : UEmb _ 𝕄) (pick3 i a b c) := by fin_cases i <;> (unfold pick3; dsimp only; infer_instance)
instance (c : Dev nD) (k : ℕ) : BI.Storable (upEmb : UEmb _ 𝕄) (dmaPay AM AL AO c k) := by unfold dmaPay; split <;> infer_instance

/-! ## The schedule -/

def Rd : Rounds.Schedule (GSem nD τ sig) (Dev nD) 𝕄 where
  duties g r := if r = 0 ∧ g.1.2 = .tc then (if g.2 = .reg barS then Finset.univ else match g.2 with | .dma q => if 8 ≤ q.val then {0} else ∅ | _ => ∅) else ∅
  unitless _ := False
  amount g _ _ := match g.2 with | .dma q => dmaAmt (q.val - 7) | _ => 1
  payload g _ d := match g.2 with | .dma q => dmaPay AM AL AO g.1.1 (q.val - 7) | _ => barPay g.1.1 d
  amount_pos g _ _ _ := by
    rcases g.2 with s | q
    · exact Nat.one_pos
    · exact dmaAmt_pos _

instance Rd_payload_storable (g : GSem nD τ sig) (r : ℕ) (d : Dev nD) :
    BI.Storable (upEmb : UEmb _ 𝕄) ((Rd (F := F) AM AL AO).payload g r d) := by
  show BI.Storable upEmb (match g.2 with | .dma q => dmaPay AM AL AO g.1.1 (q.val - 7) | _ => barPay g.1.1 d)
  rcases g.2 with s | q <;> (dsimp only; infer_instance)

section Sched
variable (c : Dev nD)

theorem csem_zero : csem 0 = .reg barS := rfl
set_option backward.proofsInPublic true in
theorem csem_pos (k : Fin 49) (hk : k ≠ 0) : csem k = .dma ⟨7 + k.val, by have := k.isLt; show 7 + k.val < 56; omega⟩ := if_neg hk

theorem duties_bar : (Rd AM AL AO).duties (kcell (c, 0)) 0 = Finset.univ := rfl
theorem duties_dma (k : Fin 49) (hk : k ≠ 0) : (Rd AM AL AO).duties (kcell (c, k)) 0 = {0} := by
  have h0 : 0 < k.val := Nat.pos_of_ne_zero fun h => hk (Fin.ext h)
  simp only [Rd, kcell, csem_pos k hk, if_true, true_and]
  rw [if_neg (by intro h; cases h)]
  exact if_pos (show 8 ≤ 7 + k.val by omega)
theorem duties_later (g : GSem nD τ sig) : ∀ r, 1 ≤ r → (Rd AM AL AO).duties g r = ∅ :=
  fun r hr => if_neg fun h => by have := h.1; omega
theorem amount_bar (d : Dev nD) : (Rd AM AL AO).amount (kcell (c, 0)) 0 d = 1 := rfl
theorem amount_dma (k : Fin 49) (hk : k ≠ 0) (d : Dev nD) : (Rd AM AL AO).amount (kcell (c, k)) 0 d = dmaAmt k.val := by
  simp only [Rd, kcell, csem_pos k hk]
  rw [Nat.add_sub_cancel_left]
theorem payload_bar (d : Dev nD) : (Rd AM AL AO).payload (kcell (c, 0)) 0 d = barPay c d := rfl
theorem payload_dma (k : Fin 49) (hk : k ≠ 0) (d : Dev nD) : (Rd AM AL AO).payload (kcell (c, k)) 0 d = dmaPay AM AL AO c k.val := by
  simp only [Rd, kcell, csem_pos k hk]
  rw [Nat.add_sub_cancel_left]
theorem expect_bar : (Rd AM AL AO).expect (kcell (c, 0)) 0 = 8 := by
  unfold Schedule.expect Schedule.amountOf
  rw [duties_bar, Finset.sum_congr rfl fun d _ => amount_bar AM AL AO c d, Finset.sum_const, Finset.card_univ, Fintype.card_fin, smul_eq_mul]; rfl
theorem expect_dma (k : Fin 49) (hk : k ≠ 0) : (Rd AM AL AO).expect (kcell (c, k)) 0 = dmaAmt k.val := by
  unfold Schedule.expect Schedule.amountOf; rw [duties_dma AM AL AO c k hk, Finset.sum_singleton, amount_dma AM AL AO c k hk]
theorem rest_bar : bigSep ((Rd AM AL AO).duties (kcell (c, 0)) 0 \ ∅) (fun d => (Rd AM AL AO).payload (kcell (c, 0)) 0 d) = bigSep Finset.univ fun d => barPay c d := by
  rw [Finset.sdiff_empty, duties_bar]; rfl
theorem rest_dma (k : Fin 49) (hk : k ≠ 0) :
    bigSep ((Rd AM AL AO).duties (kcell (c, k)) 0 \ ∅) (fun d => (Rd AM AL AO).payload (kcell (c, k)) 0 d) = dmaPay AM AL AO c k.val := by
  rw [Finset.sdiff_empty, duties_dma AM AL AO c k hk, bigSep_singleton, payload_dma AM AL AO c k hk]

theorem ksnd_ne (t : Dev nD) (i : Fin 3) : ksnd t i ≠ 0 := by revert t i; decide
theorem krcv_ne (i : Fin 3) (q : Dev nD) : krcv i q ≠ 0 := by revert q i; decide

theorem amt_snd (t : Dev nD) (i : Fin 3) : dmaAmt (ksnd t i).val = NN i := by
  unfold dmaAmt
  rw [if_pos (by revert t i; decide)]
  congr 1; revert t i; decide
theorem amt_rcv (i : Fin 3) (q : Dev nD) : dmaAmt (krcv i q).val = NN i := by
  unfold dmaAmt
  rw [if_neg (by revert q i; decide)]
  congr 1; revert q i; decide
theorem pay_snd (t : Dev nD) (i : Fin 3) : dmaPay AM AL AO c (ksnd t i).val = pick3 i (srcM AM c t) (srcL AL c t) (srcO AO c t) := by
  unfold dmaPay
  rw [if_pos (by revert t i; decide)]
  have h1 : (⟨((ksnd t i).val - 1) % 3, Nat.mod_lt _ (by decide)⟩ : Fin 3) = i := by revert t i; decide
  have h2 : (⟨((ksnd t i).val - 1) / 3 % 8, Nat.mod_lt _ (by decide)⟩ : Dev nD) = t := by revert t i; decide
  simp only [h1, h2]
theorem pay_rcv (i : Fin 3) (q : Dev nD) : dmaPay AM AL AO c (krcv i q).val = pick3 i (gotM AM c q) (gotL AL c q) (gotO AO c q) := by
  unfold dmaPay
  rw [if_neg (by revert q i; decide)]
  have h1 : (⟨((krcv i q).val - 25) / 8 % 3, Nat.mod_lt _ (by decide)⟩ : Fin 3) = i := by revert q i; decide
  have h2 : (⟨((krcv i q).val - 25) % 8, Nat.mod_lt _ (by decide)⟩ : Dev nD) = q := by revert q i; decide
  simp only [h1, h2]

end Sched

/-! ## The slots -/

theorem off3_eq (d : Dev nD) : k0_off3 d = ![d.val, 0, 0] := by revert d; decide
theorem off4_eq (d : Dev nD) : k0_off4 d = ![d.val, 0, 0, 0] := by revert d; decide

theorem slotM_emb (d : Dev nD) (x : S8x8.Idx) : (slotM d).view.emb x = ix3 (n0 := 8) d (x 0) (x 1) := by
  rw [ValueIdx.eq_ix2 x]
  show (Rect.unit (s := S8x8x8) (k0_off3 d) S1x8x8.size (k0_off3_inb d)).emb (Shape.reshapeEquiv _ (ix2 (x 0) (x 1))) = _
  refine (congrArg (Rect.unit (s := S8x8x8) (k0_off3 d) S1x8x8.size (k0_off3_inb d)).emb (reshapeEquiv_ix2_1ab _ (x 0) (x 1))).trans ?_
  funext a; fin_cases a <;> (apply Fin.ext; simp [Rect.emb, Rect.unit, off3_eq])
theorem slotL_emb (d : Dev nD) (x : S8x8.Idx) : (slotL d).view.emb x = ix3 (n0 := 8) d (x 0) (x 1) := slotM_emb d x
theorem slotO_emb (d : Dev nD) (x : S8x8x128.Idx) : (slotO d).view.emb x = ix4 (n0 := 8) d (x 0) (x 1) (x 2) := by
  rw [ValueIdx.eq_ix3 x]
  show (Rect.unit (s := S8x8x8x128) (k0_off4 d) S1x8x8x128.size (k0_off4_inb d)).emb (Shape.reshapeEquiv _ (ix3 (x 0) (x 1) (x 2))) = _
  refine (congrArg (Rect.unit (s := S8x8x8x128) (k0_off4 d) S1x8x8x128.size (k0_off4_inb d)).emb (reshapeEquiv_ix3_1abc _ (x 0) (x 1) (x 2))).trans ?_
  funext a; fin_cases a <;> (apply Fin.ext; simp [Rect.emb, Rect.unit, off4_eq])

theorem mem_vset {s : Shape} {e : EltTy} (v : View sig .tc .vmem s e) (i : v.ty.Idx) : i ∈ v.set ↔ ∃ x, v.emb x = i := by
  unfold View.set; simp [Finset.mem_map]
theorem mem_slotM (d : Dev nD) (i : S8x8x8.Idx) : i ∈ (slotM d).view.set ↔ i 0 = d := by
  constructor
  · intro h
    obtain ⟨x, rfl⟩ := (mem_vset _ _).mp h
    rw [slotM_emb]
  · rintro rfl
    refine (mem_vset _ _).mpr ⟨ix2 (i 1) (i 2), ?_⟩
    exact (slotM_emb (i 0) (ix2 (i 1) (i 2))).trans (ValueIdx.eq_ix3 i).symm
theorem mem_slotL (d : Dev nD) (i : S8x8x8.Idx) : i ∈ (slotL d).view.set ↔ i 0 = d := mem_slotM d i
theorem mem_slotO (d : Dev nD) (i : S8x8x8x128.Idx) : i ∈ (slotO d).view.set ↔ i 0 = d := by
  constructor
  · intro h
    obtain ⟨x, rfl⟩ := (mem_vset _ _).mp h
    rw [slotO_emb]
  · rintro rfl
    refine (mem_vset _ _).mpr ⟨ix3 (i 1) (i 2) (i 3), ?_⟩
    exact (slotO_emb (i 0) (ix3 (i 1) (i 2) (i 3))).trans (ValueIdx.eq_ix4 i).symm

theorem pointsTo_cut {ℓ : Loc nD τ sig} (I : Dev nD → Finset (Idx ℓ)) (p : Idx ℓ → Dev nD) (h : ∀ q i, i ∈ I q ↔ p i = q) (f : Buf (Elt F) ℓ) :
    (ℓ ↦{fullShare} f : sProp 𝕄) = bigSep Finset.univ fun q => ℓ ↦[I q]{fullShare} f :=
  Ring.pointsTo_blocks I (fun a b hn => Finset.disjoint_left.mpr fun i h1 h2 => hn (((h a i).mp h1).symm.trans ((h b i).mp h2)))
    (Finset.eq_univ_iff_forall.mpr fun i => Finset.mem_biUnion.mpr ⟨p i, Finset.mem_univ _, (h _ i).mpr rfl⟩) f

/-- The landing arrays are their eight slots. -/
theorem slotsM (g : Dev nD) (f : Buf (Elt F) ((Memref.whole cc0_scratch5).view.loc (g : Thread nD τ))) :
    ((Memref.whole cc0_scratch5).view.loc (g : Thread nD τ) ↦{fullShare} f : sProp 𝕄)
      = bigSep Finset.univ fun q : Dev nD => atM g q f :=
  pointsTo_cut (ℓ := (Memref.whole cc0_scratch5).view.loc (g : Thread nD τ)) (fun q : Dev nD => (slotM q).view.set) (fun i => i 0) mem_slotM f
theorem slotsL (g : Dev nD) (f : Buf (Elt F) ((Memref.whole cc0_scratch6).view.loc (g : Thread nD τ))) :
    ((Memref.whole cc0_scratch6).view.loc (g : Thread nD τ) ↦{fullShare} f : sProp 𝕄)
      = bigSep Finset.univ fun q : Dev nD => atL g q f :=
  pointsTo_cut (ℓ := (Memref.whole cc0_scratch6).view.loc (g : Thread nD τ)) (fun q : Dev nD => (slotL q).view.set) (fun i => i 0) mem_slotL f
theorem slotsO (g : Dev nD) (f : Buf (Elt F) ((Memref.whole cc0_scratch7).view.loc (g : Thread nD τ))) :
    ((Memref.whole cc0_scratch7).view.loc (g : Thread nD τ) ↦{fullShare} f : sProp 𝕄)
      = bigSep Finset.univ fun q : Dev nD => atO g q f :=
  pointsTo_cut (ℓ := (Memref.whole cc0_scratch7).view.loc (g : Thread nD τ)) (fun q : Dev nD => (slotO q).view.set) (fun i => i 0) mem_slotO f

/-- A transfer from `c` leaves slot `c` with `c`'s partial result. -/
theorem landM (c g : Dev nD) (fd : Buf (Elt F) ((slotM c).view.loc (g : Thread nD τ))) :
    (atM g c ((slotM c).view.write (Elt F) fd (mM.view.read (Elt F) (AM c)) Finset.univ) : sProp 𝕄)
      ⊢ gotM AM g c := by
  unfold gotM atM
  refine Entails.of_eq (pointsTo_congr fun i hi => ?_)
  obtain ⟨x, rfl⟩ := (mem_vset _ _).mp hi
  refine (View.write_emb_of_mem _ _ (Finset.mem_univ x)).trans ?_
  rw [slotM_emb]
  exact congrArg (AM c) (ValueIdx.eq_ix2 x)
theorem landL (c g : Dev nD) (fd : Buf (Elt F) ((slotL c).view.loc (g : Thread nD τ))) :
    (atL g c ((slotL c).view.write (Elt F) fd (lM.view.read (Elt F) (AL c)) Finset.univ) : sProp 𝕄)
      ⊢ gotL AL g c := by
  unfold gotL atL
  refine Entails.of_eq (pointsTo_congr fun i hi => ?_)
  obtain ⟨x, rfl⟩ := (mem_vset _ _).mp hi
  refine (View.write_emb_of_mem _ _ (Finset.mem_univ x)).trans ?_
  rw [slotL_emb]
  exact congrArg (AL c) (ValueIdx.eq_ix2 x)
theorem landO (c g : Dev nD) (fd : Buf (Elt F) ((slotO c).view.loc (g : Thread nD τ))) :
    (atO g c ((slotO c).view.write (Elt F) fd (oM.view.read (Elt F) (AO c)) Finset.univ) : sProp 𝕄)
      ⊢ gotO AO g c := by
  unfold gotO atO
  refine Entails.of_eq (pointsTo_congr fun i hi => ?_)
  obtain ⟨x, rfl⟩ := (mem_vset _ _).mp hi
  refine (View.write_emb_of_mem _ _ (Finset.mem_univ x)).trans ?_
  rw [slotO_emb]
  exact congrArg (AO c) (ValueIdx.eq_ix3 x)

end Cert.PagedProof

end
-- ==== Proof.Steps.lean ====
/-
The steps of the exchange: what a device owes, which waits it may make while owing it, and one rule per communication
operation of the kernel — a barrier signal, the barrier wait, the start of a remote copy, and the wait for one of its ends.
-/
module

public import proofs.«01_k».proof.Proof.Protocol

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device owes -/

set_option backward.proofsInPublic true in
/-- The `j`-th payment of device `c`, in program order: eight barrier signals, then the credits of its 24 transfers. -/
def pay (c : Dev nD) (j : ℕ) : CellTallies nD τ sig Unit :=
  if j < 8 then tallyAt (kcell (⟨j % 8, Nat.mod_lt _ (by decide)⟩, 0)) () 1
  else tallyAt (kcell (⟨(j - 8) / 3 % 8, Nat.mod_lt _ (by decide)⟩, krcv ⟨(j - 8) % 3, Nat.mod_lt _ (by decide)⟩ c)) () (NN ⟨(j - 8) % 3, Nat.mod_lt _ (by decide)⟩)

/-- What device `c` owes with its last `k` payments still to make. -/
def Ow (c : Dev nD) : ℕ → CellTallies nD τ sig Unit
  | 0 => 0
  | k + 1 => Ow c k + pay c (31 - k)

def O₀ (c : Dev nD) : CellTallies nD τ sig Unit := Ow c 32

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 32 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (kcell (c, 0)) () = 1 := rfl
theorem lv_rcv (c : Dev nD) (i : Fin 3) (q : Dev nD) : lv (kcell (c, krcv i q)) () = 2 := by revert c i q; decide

theorem tallyAt_pos {g h : GSem nD τ sig} {u : Unit} {n : ℕ} (hp : 0 < (tallyAt g () n : CellTallies nD τ sig Unit) h u) : h = g := by
  rw [tallyAt_apply] at hp
  by_contra hn
  rw [if_neg (fun h' => hn h'.1)] at hp
  exact Nat.lt_irrefl 0 hp

/-- A cell owed by the `j`-th payment. -/
theorem pay_pos {c : Dev nD} {j : ℕ} {g : GSem nD τ sig} {u : Unit} (h : 0 < pay c j g u) :
    (∃ t : Dev nD, g = kcell (t, 0) ∧ j < 8) ∨ ∃ (t : Dev nD) (i : Fin 3), g = kcell (t, krcv i c) := by
  unfold pay at h
  split at h
  · exact Or.inl ⟨_, tallyAt_pos h, by assumption⟩
  · exact Or.inr ⟨_, _, tallyAt_pos h⟩

theorem Ow_pos {c : Dev nD} : ∀ {k : ℕ} {g : GSem nD τ sig} {u : Unit}, 0 < Ow c k g u →
    (∃ t : Dev nD, g = kcell (t, 0) ∧ 24 < k) ∨ ∃ (t : Dev nD) (i : Fin 3), g = kcell (t, krcv i c)
  | 0, g, u, h => absurd h (Nat.lt_irrefl 0)
  | k + 1, g, u, h => by
    rw [Ow, Pi.add_apply, Finsupp.add_apply] at h
    rcases Nat.eq_zero_or_pos (Ow c k g u) with h0 | h0
    · rw [h0, Nat.zero_add] at h
      rcases pay_pos h with ⟨t, ht, hj⟩ | h'
      · exact Or.inl ⟨t, ht, by omega⟩
      · exact Or.inr h'
    · rcases Ow_pos h0 with ⟨t, ht, hj⟩ | h'
      · exact Or.inl ⟨t, ht, by omega⟩
      · exact Or.inr h'

/-- Waits on cells at level 0 are allowed at any point. -/
theorem mayWait_low (c : Dev nD) (q : DmaSem sig) (hq : q.val < 32) (k : ℕ) :
    (levAts L lv : sProp 𝕄) ⊢ MayWait (c : Thread nD τ) (.dma q) () (Ow c k) := by
  refine MayOwe.of_cut (L := L) (lev := lv) 0 (fun p hp => by rw [Finset.mem_singleton.mp hp, L_tc]; exact Finset.mem_singleton_self _)
      (fun g u hg => by rcases Ow_pos hg with ⟨t, rfl, _⟩ | ⟨t, i, rfl⟩ <;> exact Finset.mem_singleton_self _)
      (fun p hp => by rw [Finset.mem_singleton.mp hp]; dsimp only [lv]; rw [if_neg (by omega)])
      (fun g u hg => by
        rcases Ow_pos hg with ⟨t, rfl, _⟩ | ⟨t, i, rfl⟩
        · rw [lv_bar]; decide
        · rw [lv_rcv]; decide)

/-- At the barrier wait only transfer credits are owed: receive cells, above the barrier cell. -/
theorem mayWait_bar (c : Dev nD) : (levAts L lv : sProp 𝕄) ⊢ MayWait (c : Thread nD τ) (.reg barS) () (Ow c 24) := by
  refine MayOwe.of_cut (L := L) (lev := lv) 1 (fun p hp => by rw [Finset.mem_singleton.mp hp, L_tc]; exact Finset.mem_singleton_self _)
      (fun g u hg => by rcases Ow_pos hg with ⟨t, rfl, _⟩ | ⟨t, i, rfl⟩ <;> exact Finset.mem_singleton_self _)
      (fun p hp => by rw [Finset.mem_singleton.mp hp]; rfl)
      (fun g u hg => by
        rcases Ow_pos hg with ⟨t, rfl, h⟩ | ⟨t, i, rfl⟩
        · omega
        · rw [lv_rcv]; decide)

/-- What a device owes, whatever waits it has made. -/
def owesAny (c : Dev nD) (O : CellTallies nD τ sig Unit) : sProp 𝕄 := iprop(∃ W, owes (c : Thread nD τ) O W)

/-! ## The records -/

variable (AM : Dev nD → (cc0_scratch2 : Ref sig .tc).ty.Contents (Elt F)) (AL : Dev nD → (cc0_scratch3 : Ref sig .tc).ty.Contents (Elt F))
  (AO : Dev nD → (cc0_scratch4 : Ref sig .tc).ty.Contents (Elt F)) (K : Dev nD × Fin 49 → ℕ)

def records : sProp 𝕄 :=
  iprop((bigSep Finset.univ fun ck : Dev nD × Fin 49 => cellInv ER (Rd AM AL AO) (K ck) (kcell ck))
    ∗ bigSep Finset.univ fun ck : Dev nD × Fin 49 => reached ER (kcell ck) 0)

instance records_persistent : BI.Persistent (records AM AL AO K) := by unfold records; infer_instance

theorem inv_at (ck : Dev nD × Fin 49) : records AM AL AO K ⊢ cellInv ER (Rd AM AL AO) (K ck) (kcell ck) := by
  unfold records
  iintro ⟨#H, -⟩
  iapply (show (bigSep Finset.univ fun ck : Dev nD × Fin 49 => cellInv ER (Rd AM AL AO) (K ck) (kcell ck) : sProp 𝕄) ⊢ cellInv ER (Rd AM AL AO) (K ck) (kcell ck) from bigSep_elim (Finset.mem_univ ck)); iexact H
theorem reached_at (ck : Dev nD × Fin 49) : records AM AL AO K ⊢ reached ER (kcell ck) 0 := by
  unfold records
  iintro ⟨-, #H⟩
  iapply (show (bigSep Finset.univ fun ck : Dev nD × Fin 49 => reached ER (kcell ck) 0 : sProp 𝕄) ⊢ reached ER (kcell ck) 0 from bigSep_elim (Finset.mem_univ ck)); iexact H

/-! ## The operations -/

variable {α : Type} {Q : α → sProp (MT nD τ sig Unit (Elt F) ℕ UU ℕ)} {k : PUnit → Prog (TpuEff nD τ sig (Elt F) Λ₀ .tc) α}

/-- Device `c` signals device `t`'s barrier cell, handing over its landing slots for `t`. -/
theorem sig_step (c t n : Dev nD) (hn : n = t) {k' : ℕ} (hk : 1 = k') (O' O : CellTallies nD τ sig Unit)
    (hO : O' = O + tallyAt (kcell (t, 0)) () 1) :
    iprop(records AM AL AO K ∗ owesAny c O' ∗ dutyTok ER (kcell (t, 0)) 0 c ∗ barPay (F := F) t c)
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  unfold owesAny
  iintro ⟨#HR, ⟨%W, HO⟩, Ht, Hp⟩ Hk
  iapply (Rounds.wp_signal 𝒱₀ ER (Rd AM AL AO) (c : Thread nD τ) none (dst := (n : Thread nD τ)) (sem := barS) (r := 0) (d := c) (κ := K (n, 0))
      (by exact (duties_bar AM AL AO n).symm ▸ Finset.mem_univ c) ((amount_bar AM AL AO n c).trans hk) () O (hk ▸ hO) (W := W))
    $$ [HO Ht Hp]
  · isplitr; · iapply (inv_at AM AL AO K (n, 0)); iexact HR
    isplitl [HO]; · iexact HO
    isplitl [Ht]; · iexact Ht
    isplitl [Hp]; · iapply (show barPay (F := F) n c ⊢ (Rd AM AL AO).payload ((n : Thread nD τ), .reg barS) 0 c from BI.Entails.refl _); iexact Hp
    iapply (reached_at AM AL AO K (n, 0)); iexact HR
  iintro HO
  iapply Hk
  iexists W; iexact HO

/-- The barrier wait: every device's landing slots for `c`, and the cell closed. -/
theorem bar_wait (c : Dev nD) {k' : ℕ} (hk : k' = 8) :
    iprop(records AM AL AO K ∗ levAts L lv ∗ cred (tallyAt (kcell (c, 0)) () 8) ∗ owesAny c (Ow c 24) ∗ atPos ER (kcell (c, 0)) 0 ∅ 0)
      ⊢ iprop(((owesAny c (Ow c 24) ∗ (bigSep Finset.univ fun d : Dev nD => barPay (F := F) c d) ∗ semVal (kcell (c, 0)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold owesAny
  iintro ⟨#HR, #Hlev, Hc, ⟨%W, HO⟩, Hat⟩ Hk
  iapply (Rounds.wp_wait_rest_token 𝒱₀ ER (Rd AM AL AO) (c : Thread nD τ) none (κ := K (c, 0))
      (wpE_semWait_eq 𝒱₀ (c : Thread nD τ) none Set.univ) (Set.mem_univ _) () (O := Ow c 24) (W := W) (R := 0) (m := 0) (T := ∅)
      (show 0 + 8 = (Rd AM AL AO).expect (kcell (c, 0)) 0 by rw [expect_bar])) $$ [Hc HO Hat]
  · isplitr; · iapply (inv_at AM AL AO K (c, 0)); iexact HR
    isplitl [Hc]; · iexact Hc
    isplitl [HO]; · iexact HO
    isplitr; · iapply (mayWait_bar c); iexact Hlev
    iexact Hat
  iintro ⟨HO, Hat, -, Hpay⟩
  imod (Rounds.cell_close ER (Rd AM AL AO) (Set.mem_univ (K (c, 0))) (fun h => h) (R := 0 + 1) (duties_later AM AL AO (kcell (c, 0)))) $$ [Hat] with Hz
  · isplitr; · iapply (inv_at AM AL AO K (c, 0)); iexact HR
    iexact Hat
  ihave Hp := (show bigSep ((Rd AM AL AO).duties ((c : Thread nD τ), .reg barS) 0 \ ∅) (fun d => (Rd AM AL AO).payload ((c : Thread nD τ), .reg barS) 0 d) ⊢ bigSep Finset.univ fun d => barPay (F := F) c d from Entails.of_eq (rest_bar AM AL AO c)) $$ Hpay
  iapply Hk
  isplitl [HO]; · iexists _; iexact HO
  isplitl [Hp]; · iexact Hp
  iexact Hz

/-- The wait for the one payment of a transfer cell: its payload, and the cell closed. -/
theorem dma_wait (c : Dev nD) (x : Fin 49) (hx : x ≠ 0) {w : TpuEff nD τ sig (Elt F) Λ₀ .tc PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hs : sm = csem x) (hk : k' = dmaAmt x.val) :
    iprop(records AM AL AO K ∗ cred (tallyAt (kcell (c, x)) () (dmaAmt x.val)) ∗ owesAny c 0 ∗ atPos ER (kcell (c, x)) 0 ∅ 0)
      ⊢ iprop(((owesAny c 0 ∗ dmaPay AM AL AO c x.val ∗ semVal (kcell (c, x)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs hk
  unfold owesAny
  iintro ⟨#HR, Hc, ⟨%W, HO⟩, Hat⟩ Hk
  iapply (Rounds.wp_wait_rest_token 𝒱₀ ER (Rd AM AL AO) (c : Thread nD τ) none (κ := K (c, x)) hw (Set.mem_univ _) () (O := 0) (W := W) (R := 0) (m := 0) (T := ∅)
      (show 0 + dmaAmt x.val = (Rd AM AL AO).expect (kcell (c, x)) 0 by rw [expect_dma AM AL AO c x hx, Nat.zero_add])) $$ [Hc HO Hat]
  · isplitr; · iapply (inv_at AM AL AO K (c, x)); iexact HR
    isplitl [Hc]; · iexact Hc
    isplitl [HO]; · iexact HO
    isplitr; · rw [MayWait_zero]; iempintro
    iexact Hat
  iintro ⟨HO, Hat, -, Hpay⟩
  imod (Rounds.cell_close ER (Rd AM AL AO) (Set.mem_univ (K (c, x))) (fun h => h) (R := 0 + 1) (duties_later AM AL AO (kcell (c, x)))) $$ [Hat] with Hz
  · isplitr; · iapply (inv_at AM AL AO K (c, x)); iexact HR
    iexact Hat
  ihave Hp := (Entails.of_eq (rest_dma AM AL AO c x hx)) $$ Hpay
  iapply Hk
  isplitl [HO]; · iexists _; iexact HO
  isplitl [Hp]; · iexact Hp
  iexact Hz

/-- The wait for the source of the transfer of array `i` to `t`. -/
theorem wait_snd (c t : Dev nD) (i : Fin 3) {w : TpuEff nD τ sig (Elt F) Λ₀ .tc PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hs : sm = csem (ksnd t i)) (hk : k' = NN i) :
    iprop(records AM AL AO K ∗ cred (tallyAt (kcell (c, ksnd t i)) () (NN i)) ∗ owesAny c 0 ∗ atPos ER (kcell (c, ksnd t i)) 0 ∅ 0)
      ⊢ iprop(((owesAny c 0 ∗ pick3 i (srcM AM c t) (srcL AL c t) (srcO AO c t) ∗ semVal (kcell (c, ksnd t i)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := dma_wait AM AL AO K (Q := Q) (k := k) c (ksnd t i) (ksnd_ne t i) hw hs (hk.trans (amt_snd t i).symm)
  rw [amt_snd, pay_snd] at h
  exact h

/-- The wait for the landing of array `i` from `q`. -/
theorem wait_rcv (c q : Dev nD) (i : Fin 3) {w : TpuEff nD τ sig (Elt F) Λ₀ .tc PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hs : sm = csem (krcv i q)) (hk : k' = NN i) :
    iprop(records AM AL AO K ∗ cred (tallyAt (kcell (c, krcv i q)) () (NN i)) ∗ owesAny c 0 ∗ atPos ER (kcell (c, krcv i q)) 0 ∅ 0)
      ⊢ iprop(((owesAny c 0 ∗ pick3 i (gotM AM c q) (gotL AL c q) (gotO AO c q) ∗ semVal (kcell (c, krcv i q)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := dma_wait AM AL AO K (Q := Q) (k := k) c (krcv i q) (krcv_ne i q) hw hs (hk.trans (amt_rcv i q).symm)
  rw [amt_rcv, pay_rcv] at h
  exact h

/-- Device `c` starts the copy of its maxima to device `t`'s slot `c`. -/
theorem sendM (c t n : Dev nD) (hn : n = t) (sS rS : SemLoc sig) (hs : sS = csem (ksnd t 0)) (hr : rS = csem (krcv 0 c)) (O' O : CellTallies nD τ sig Unit)
    (hO : O' = O + tallyAt (kcell (t, krcv 0 c)) () (NN 0))
    {hsc : (slotM c : Memref sig (Dev.tc n : Thread nD τ).2.kind .vmem S8x8 .f32).view.ref.isScScratch = false}
    {hsrc : (mM : Memref sig .tc .vmem S8x8 .f32).view.WordExact} {hdst : (slotM c).view.WordExact}
    {hsem : DmaTarget.Typed .vmem rS (.remote (Dev.tc n : Thread nD τ) (slotM c) sS hsc)} :
    iprop(records AM AL AO K ∗ srcM AM c t ∗ freeM (F := F) t c ∗ owesAny c O' ∗ dutyTok ER (kcell (c, ksnd t 0)) 0 0 ∗ dutyTok ER (kcell (t, krcv 0 c)) 0 0)
      ⊢ iprop(((cred (tallyAt (kcell (c, ksnd t 0)) () (NN 0)) ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mM : Memref sig .tc .vmem S8x8 .f32) (.remote (Dev.tc n : Thread nD τ) (slotM c) sS hsc) rS hsrc hdst hsem) k) Q) := by
  subst hn hs hr
  unfold owesAny freeM
  iintro ⟨#HR, Hs, ⟨%fd, Hf⟩, ⟨%W, HO⟩, Ht1, Ht2⟩ Hk
  unfold srcM atM
  iapply (Rounds.wp_send_pointsTo 𝒱₀ ER (Rd AM AL AO) (c : Thread nD τ) none (κ₁ := K (c, ksnd n 0)) (κ₂ := K (n, krcv 0 c))
    (r₁ := 0) (r₂ := 0) (d₁ := 0) (d₂ := 0) (fd := fd)
    (by rw [duties_dma AM AL AO c _ (ksnd_ne n 0)]; exact Finset.mem_singleton_self _) (by rw [duties_dma AM AL AO n _ (krcv_ne 0 c)]; exact Finset.mem_singleton_self _)
    () () (NN 0) (show (slotM c).view.amount (csem (krcv 0 c)) = NN 0 by rw [csem_pos _ (krcv_ne 0 c)]; rfl) ((amount_dma AM AL AO c _ (ksnd_ne n 0) 0).trans (amt_snd n 0)) ((amount_dma AM AL AO n _ (krcv_ne 0 c) 0).trans (amt_rcv 0 c))
    O hO (W := W)
    (by rw [payload_dma AM AL AO c _ (ksnd_ne n 0), pay_snd]; exact BI.Entails.refl _)
    (by rw [payload_dma AM AL AO n _ (krcv_ne 0 c), pay_rcv]; exact landM AM c n fd)) $$ [Hs Hf HO Ht1 Ht2]
  · isplitr; · iapply (inv_at AM AL AO K (c, ksnd n 0)); iexact HR
    isplitr; · iapply (inv_at AM AL AO K (n, krcv 0 c)); iexact HR
    isplitl [Hs]; · iexact Hs
    isplitl [Hf]; · iexact Hf
    isplitl [HO]; · iexact HO
    isplitl [Ht1]; · iexact Ht1
    isplitr; · iapply (reached_at AM AL AO K (c, ksnd n 0)); iexact HR
    isplitl [Ht2]; · iexact Ht2
    iapply (reached_at AM AL AO K (n, krcv 0 c)); iexact HR
  iintro ⟨Hc, HO⟩
  iapply Hk
  isplitl [Hc]; · iexact Hc
  iexists W; iexact HO

/-- Device `c` starts the copy of its sums to device `t`'s slot `c`. -/
theorem sendL (c t n : Dev nD) (hn : n = t) (sS rS : SemLoc sig) (hs : sS = csem (ksnd t 1)) (hr : rS = csem (krcv 1 c)) (O' O : CellTallies nD τ sig Unit)
    (hO : O' = O + tallyAt (kcell (t, krcv 1 c)) () (NN 1))
    {hsc : (slotL c : Memref sig (Dev.tc n : Thread nD τ).2.kind .vmem S8x8 .f32).view.ref.isScScratch = false}
    {hsrc : (lM : Memref sig .tc .vmem S8x8 .f32).view.WordExact} {hdst : (slotL c).view.WordExact}
    {hsem : DmaTarget.Typed .vmem rS (.remote (Dev.tc n : Thread nD τ) (slotL c) sS hsc)} :
    iprop(records AM AL AO K ∗ srcL AL c t ∗ freeL (F := F) t c ∗ owesAny c O' ∗ dutyTok ER (kcell (c, ksnd t 1)) 0 0 ∗ dutyTok ER (kcell (t, krcv 1 c)) 0 0)
      ⊢ iprop(((cred (tallyAt (kcell (c, ksnd t 1)) () (NN 1)) ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lM : Memref sig .tc .vmem S8x8 .f32) (.remote (Dev.tc n : Thread nD τ) (slotL c) sS hsc) rS hsrc hdst hsem) k) Q) := by
  subst hn hs hr
  unfold owesAny freeL
  iintro ⟨#HR, Hs, ⟨%fd, Hf⟩, ⟨%W, HO⟩, Ht1, Ht2⟩ Hk
  unfold srcL atL
  iapply (Rounds.wp_send_pointsTo 𝒱₀ ER (Rd AM AL AO) (c : Thread nD τ) none (κ₁ := K (c, ksnd n 1)) (κ₂ := K (n, krcv 1 c))
    (r₁ := 0) (r₂ := 0) (d₁ := 0) (d₂ := 0) (fd := fd)
    (by rw [duties_dma AM AL AO c _ (ksnd_ne n 1)]; exact Finset.mem_singleton_self _) (by rw [duties_dma AM AL AO n _ (krcv_ne 1 c)]; exact Finset.mem_singleton_self _)
    () () (NN 1) (show (slotL c).view.amount (csem (krcv 1 c)) = NN 1 by rw [csem_pos _ (krcv_ne 1 c)]; rfl) ((amount_dma AM AL AO c _ (ksnd_ne n 1) 0).trans (amt_snd n 1)) ((amount_dma AM AL AO n _ (krcv_ne 1 c) 0).trans (amt_rcv 1 c))
    O hO (W := W)
    (by rw [payload_dma AM AL AO c _ (ksnd_ne n 1), pay_snd]; exact BI.Entails.refl _)
    (by rw [payload_dma AM AL AO n _ (krcv_ne 1 c), pay_rcv]; exact landL AL c n fd)) $$ [Hs Hf HO Ht1 Ht2]
  · isplitr; · iapply (inv_at AM AL AO K (c, ksnd n 1)); iexact HR
    isplitr; · iapply (inv_at AM AL AO K (n, krcv 1 c)); iexact HR
    isplitl [Hs]; · iexact Hs
    isplitl [Hf]; · iexact Hf
    isplitl [HO]; · iexact HO
    isplitl [Ht1]; · iexact Ht1
    isplitr; · iapply (reached_at AM AL AO K (c, ksnd n 1)); iexact HR
    isplitl [Ht2]; · iexact Ht2
    iapply (reached_at AM AL AO K (n, krcv 1 c)); iexact HR
  iintro ⟨Hc, HO⟩
  iapply Hk
  isplitl [Hc]; · iexact Hc
  iexists W; iexact HO

/-- Device `c` starts the copy of its weighted values to device `t`'s slot `c`. -/
theorem sendO (c t n : Dev nD) (hn : n = t) (sS rS : SemLoc sig) (hs : sS = csem (ksnd t 2)) (hr : rS = csem (krcv 2 c)) (O' O : CellTallies nD τ sig Unit)
    (hO : O' = O + tallyAt (kcell (t, krcv 2 c)) () (NN 2))
    {hsc : (slotO c : Memref sig (Dev.tc n : Thread nD τ).2.kind .vmem S8x8x128 .f32).view.ref.isScScratch = false}
    {hsrc : (oM : Memref sig .tc .vmem S8x8x128 .f32).view.WordExact} {hdst : (slotO c).view.WordExact}
    {hsem : DmaTarget.Typed .vmem rS (.remote (Dev.tc n : Thread nD τ) (slotO c) sS hsc)} :
    iprop(records AM AL AO K ∗ srcO AO c t ∗ freeO (F := F) t c ∗ owesAny c O' ∗ dutyTok ER (kcell (c, ksnd t 2)) 0 0 ∗ dutyTok ER (kcell (t, krcv 2 c)) 0 0)
      ⊢ iprop(((cred (tallyAt (kcell (c, ksnd t 2)) () (NN 2)) ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM : Memref sig .tc .vmem S8x8x128 .f32) (.remote (Dev.tc n : Thread nD τ) (slotO c) sS hsc) rS hsrc hdst hsem) k) Q) := by
  subst hn hs hr
  unfold owesAny freeO
  iintro ⟨#HR, Hs, ⟨%fd, Hf⟩, ⟨%W, HO⟩, Ht1, Ht2⟩ Hk
  unfold srcO atO
  iapply (Rounds.wp_send_pointsTo 𝒱₀ ER (Rd AM AL AO) (c : Thread nD τ) none (κ₁ := K (c, ksnd n 2)) (κ₂ := K (n, krcv 2 c))
    (r₁ := 0) (r₂ := 0) (d₁ := 0) (d₂ := 0) (fd := fd)
    (by rw [duties_dma AM AL AO c _ (ksnd_ne n 2)]; exact Finset.mem_singleton_self _) (by rw [duties_dma AM AL AO n _ (krcv_ne 2 c)]; exact Finset.mem_singleton_self _)
    () () (NN 2) (show (slotO c).view.amount (csem (krcv 2 c)) = NN 2 by rw [csem_pos _ (krcv_ne 2 c)]; rfl) ((amount_dma AM AL AO c _ (ksnd_ne n 2) 0).trans (amt_snd n 2)) ((amount_dma AM AL AO n _ (krcv_ne 2 c) 0).trans (amt_rcv 2 c))
    O hO (W := W)
    (by rw [payload_dma AM AL AO c _ (ksnd_ne n 2), pay_snd]; exact BI.Entails.refl _)
    (by rw [payload_dma AM AL AO n _ (krcv_ne 2 c), pay_rcv]; exact landO AO c n fd)) $$ [Hs Hf HO Ht1 Ht2]
  · isplitr; · iapply (inv_at AM AL AO K (c, ksnd n 2)); iexact HR
    isplitr; · iapply (inv_at AM AL AO K (n, krcv 2 c)); iexact HR
    isplitl [Hs]; · iexact Hs
    isplitl [Hf]; · iexact Hf
    isplitl [HO]; · iexact HO
    isplitl [Ht1]; · iexact Ht1
    isplitr; · iapply (reached_at AM AL AO K (c, ksnd n 2)); iexact HR
    isplitl [Ht2]; · iexact Ht2
    iapply (reached_at AM AL AO K (n, krcv 2 c)); iexact HR
  iintro ⟨Hc, HO⟩
  iapply Hk
  isplitl [Hc]; · iexact Hc
  iexists W; iexact HO

end Cert.PagedProof

end
-- ==== Proof.Split.lean ====
/-
The kernel's body in two halves: `pre`, the attention over the device's own pages, and `post`, the exchange of the partial
results and their combination. The body is the one followed by the other.
-/
module

public import proofs.«01_k».proof.Proof.Algebra

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first half: the partial maxima, sums and weighted values of the device's own pages. -/
def pre (arg0 : Memref sig .tc .vmem S8x1x8x128 .f32) (harg0 : arg0.IsWhole) (arg1 : Memref sig .tc .hbm S512x16x8x128 .f32) (harg1 : arg1.IsWhole) (arg2 : Memref sig .tc .hbm S512x16x8x128 .f32) (harg2 : arg2.IsWhole) (arg3 : Memref sig .tc .vmem S8x512 .i32) (harg3 : arg3.IsWhole) (arg4 : Memref sig .tc .vmem S8 .i32) (harg4 : arg4.IsWhole) (arg5 : Memref sig .tc .vmem S8x1x8x128 .f32) (harg5 : arg5.IsWhole) (arg6 : Memref sig .tc .vmem S2x64x16x8x128 .f32) (harg6 : arg6.IsWhole) (arg7 : Memref sig .tc .vmem S2x64x16x8x128 .f32) (harg7 : arg7.IsWhole) (arg8 : Memref sig .tc .vmem S8x8 .f32) (harg8 : arg8.IsWhole) (arg9 : Memref sig .tc .vmem S8x8 .f32) (harg9 : arg9.IsWhole) (arg10 : Memref sig .tc .vmem S8x8x128 .f32) (harg10 : arg10.IsWhole) (arg11 : Memref sig .tc .vmem S8x8x8 .f32) (harg11 : arg11.IsWhole) (arg12 : Memref sig .tc .vmem S8x8x8 .f32) (harg12 : arg12.IsWhole) (arg13 : Memref sig .tc .vmem S8x8x8x128 .f32) (harg13 : arg13.IsWhole) (arg14 : DmaSems sig S2) (arg15 : DmaSems sig S2) (arg16 : DmaSems sig S24) (arg17 : DmaSems sig S8) (arg18 : DmaSems sig S8) (arg19 : DmaSems sig S8) :
    Prog (TpuEff nD τ sig (Elt F) Λ₀ .tc) (Dev nD × BitVec 32 × BitVec 32 × BitVec 32 × BitVec 32 × BitVec 32) := do
  let ⟨d0, v2, v5, v8, v11, v24, v25⟩ : Σ' (d0 : Dev nD) (v2 : BitVec 32) (v5 : BitVec 32) (v8 : BitVec 32) (v11 : BitVec 32) (v24 : FVec F S8x8 .f32), Vec F S8x8 .f32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19
  let ⟨v39, v63⟩ : Σ' (v39 : FVec F S8x1x8x128 .f32), FVec F S8x512x128 .f32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8 v24 v25
  let v94 : FVec F S8x2048 .f32 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 v11 v63
  let ⟨v117, v119, v122⟩ : Σ' (v117 : FVec F S8x1024 .f32) (v119 : FVec F S8x128 .f32), FVec F S1024x128 .f32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 v39 v94
  let v158 : FVec F S8x128 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v119 v122
  let v180 : FVec F S8x1 .f32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v117 v158
  let ⟨v208, v219, v225, v226⟩ : Σ' (v208 : FVec F S8x1 .f32) (v219 : FVec F S8x1 .f32) (v225 : FVec F S8x128 .f32), Vec F S8x1x128 .f32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v180
  let ⟨v247, v249, v258, v259⟩ : Σ' (v247 : FVec F S8x1 .f32) (v249 : FVec F S8x1 .f32) (v258 : FVec F S8x1 .f32), FVec F S8x128 .f32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v208 v219 v225 v226
  let ⟨v281, v286, v288, v292⟩ : Σ' (v281 : FVec F S1024x128 .f32) (v286 : FVec F S8x1 .f32) (v288 : FVec F S8x1 .f32), FVec F S8x1024 .f32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v247 v249 v258 v259
  let ⟨v320, v321, v322, v323⟩ : Σ' (v320 : FVec F S1024x128 .f32) (v321 : FVec F S8x1024 .f32) (v322 : Vec F S8x1 .f32), FVec F S8 .f32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v281 v286 v288 v292
  let ⟨v353, v356⟩ : Σ' (v353 : FVec F S8x128 .f32), FVec F S1024x128 .f32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v320 v321 v322 v323
  let v392 : FVec F S8x128 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v117 v353 v356
  let v414 : FVec F S8x1 .f32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v117 v392
  let ⟨v440, v448, v449, v450⟩ : Σ' (v440 : FVec F S8x1024 .f32) (v448 : FVec F S1024x128 .f32) (v449 : FVec F S8x1024 .f32), Vec F S8x1 .f32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 v39 v94 v414
  let ⟨v481, v484⟩ : Σ' (v481 : FVec F S8x128 .f32), FVec F S1024x128 .f32 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v448 v449 v450
  let v520 : FVec F S8x128 .f32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v481 v484
  let v542 : FVec F S8x1 .f32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v440 v520
  let ⟨v570, v581, v587⟩ : Σ' (v570 : FVec F S8x1 .f32) (v581 : FVec F S8x1 .f32), FVec F S8x128 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v542
  let ⟨v609, v611, v620, v621⟩ : Σ' (v609 : FVec F S8x1 .f32) (v611 : FVec F S8x1 .f32) (v620 : FVec F S8x1 .f32), FVec F S8x128 .f32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v570 v581 v587
  let ⟨v643, v648, v650, v654⟩ : Σ' (v643 : FVec F S1024x128 .f32) (v648 : FVec F S8x1 .f32) (v650 : FVec F S8x1 .f32), FVec F S8x1024 .f32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v609 v611 v620 v621
  let ⟨v682, v683, v684⟩ : Σ' (v682 : FVec F S1024x128 .f32) (v683 : FVec F S8x1024 .f32), Vec F S8x1 .f32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v643 v648 v650 v654
  let ⟨v715, v718⟩ : Σ' (v715 : FVec F S8x128 .f32), FVec F S1024x128 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v39 v440 v682 v683 v684
  let ⟨v753, v754⟩ : Σ' (v753 : BitVec 32), BitVec 32 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v440 v715 v718
  pure (d0, v2, v5, v8, v753, v754)

/-- The second half: the handshake, the exchange, and the combination. -/
def post (arg0 : Memref sig .tc .vmem S8x1x8x128 .f32) (harg0 : arg0.IsWhole) (arg1 : Memref sig .tc .hbm S512x16x8x128 .f32) (harg1 : arg1.IsWhole) (arg2 : Memref sig .tc .hbm S512x16x8x128 .f32) (harg2 : arg2.IsWhole) (arg3 : Memref sig .tc .vmem S8x512 .i32) (harg3 : arg3.IsWhole) (arg4 : Memref sig .tc .vmem S8 .i32) (harg4 : arg4.IsWhole) (arg5 : Memref sig .tc .vmem S8x1x8x128 .f32) (harg5 : arg5.IsWhole) (arg6 : Memref sig .tc .vmem S2x64x16x8x128 .f32) (harg6 : arg6.IsWhole) (arg7 : Memref sig .tc .vmem S2x64x16x8x128 .f32) (harg7 : arg7.IsWhole) (arg8 : Memref sig .tc .vmem S8x8 .f32) (harg8 : arg8.IsWhole) (arg9 : Memref sig .tc .vmem S8x8 .f32) (harg9 : arg9.IsWhole) (arg10 : Memref sig .tc .vmem S8x8x128 .f32) (harg10 : arg10.IsWhole) (arg11 : Memref sig .tc .vmem S8x8x8 .f32) (harg11 : arg11.IsWhole) (arg12 : Memref sig .tc .vmem S8x8x8 .f32) (harg12 : arg12.IsWhole) (arg13 : Memref sig .tc .vmem S8x8x8x128 .f32) (harg13 : arg13.IsWhole) (arg14 : DmaSems sig S2) (arg15 : DmaSems sig S2) (arg16 : DmaSems sig S24) (arg17 : DmaSems sig S8) (arg18 : DmaSems sig S8) (arg19 : DmaSems sig S8) (d0 : Dev nD) (v2 v5 v8 v753 v754 : BitVec 32) :
    Prog (TpuEff nD τ sig (Elt F) Λ₀ .tc) PUnit := do
  let ⟨v757, c1_i32_574, v779, c1_i32_578⟩ : Σ' (v757 : Sems sig S_) (c1_i32_574 : BitVec 32) (v779 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v8 v753 v754
  let ⟨c1_i32_606, v803, c1_i32_610⟩ : Σ' (c1_i32_606 : BitVec 32) (v803 : BitVec 32), BitVec 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v757 c1_i32_574 v779 c1_i32_578
  let ⟨c0_i32_633, c0_i32_634, v831⟩ : Σ' (c0_i32_633 : BitVec 32) (c0_i32_634 : BitVec 32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 v757 c1_i32_606 v803 c1_i32_610
  k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 c0_i32_633 c0_i32_634 v831
  let ⟨c0_i32_682, v893⟩ : Σ' (c0_i32_682 : BitVec 32), BitVec 32 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 c0_i32_682 v893
  k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  let ⟨c1_i32_756, c0_i32_757, c1_i32_758⟩ : Σ' (c1_i32_756 : BitVec 32) (c0_i32_757 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 c1_i32_756 c0_i32_757 c1_i32_758
  let ⟨c1_i32_804, c0_i32_805, v1047⟩ : Σ' (c1_i32_804 : BitVec 32) (c0_i32_805 : BitVec 32), BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 c1_i32_804 c0_i32_805 v1047
  k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0
  k0_part40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 d0 v2 v5 v8
  k0_part41 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  k0_part43 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  k0_part44 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  k0_part45 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  let ⟨v1383, v1384⟩ : Σ' (v1383 : BitVec 32), BitVec 32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8
  let ⟨v1413, c1_i32_1228⟩ : Σ' (v1413 : BitVec 32), BitVec 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8 v1383 v1384
  let ⟨v1435, v1438, v1439, v1446⟩ : Σ' (v1435 : FVec F S8x8x8 .f32) (v1438 : FVec F S8x8 .f32) (v1439 : FVec F S8x8x128 .f32), FVec F S8x8x128 .f32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v2 v5 v8 v1413 c1_i32_1228
  let ⟨v1479, v1486⟩ : Σ' (v1479 : FVec F S8x8x128 .f32), FVec F S8x8x128 .f32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 v1435 v1439 v1446
  let v1491 : Vec F S1x8x8x128 .f32 ← Prog.lift (.load arg13 (Rect.unit (s := S8x8x8x128) ![6, 0, 0, 0] S1x8x8x128.size inb_S8x8x8x128_S1x8x8x128_6_0_0_0).toLoadRect (View.loadsAt_vmem h_S1x8x8x128))
  let v1499 : Vec F S1x8x8x128 .f32 ← Prog.lift (.load arg13 (Rect.unit (s := S8x8x8x128) ![7, 0, 0, 0] S1x8x8x128.size inb_S8x8x8x128_S1x8x8x128_7_0_0_0).toLoadRect (View.loadsAt_vmem h_S1x8x8x128))
  let v1507 : Vec F S8x1x8x128 .f32 ← Prog.lift (.load arg5 (Rect.unit (s := S8x1x8x128) ![0, 0, 0, 0] S8x1x8x128.size inb_S8x1x8x128_S8x1x8x128_0_0_0_0).toLoadRect (View.loadsAt_vmem h_S8x1x8x128))
  Prog.lift (.store arg5 (Rect.unit (s := S8x1x8x128) ![0, 0, 0, 0] S8x1x8x128.size inb_S8x1x8x128_S8x1x8x128_0_0_0_0) (k0_pay1 v1435 v1438 (k0_pay157 v1479 v1486) (k0_pay158 v1491) (k0_pay159 v1435) v1499) Finset.univ (View.stores_vmem_bits_univ h_S8x1x8x128 rfl) (.inl rfl))
  pure ⟨⟩

variable {Q : PUnit → sProp (MT nD τ sig Unit (Elt F) ℕ UU ℕ)}

set_option maxHeartbeats 1000000 in
theorem split (arg0 : Memref sig .tc .vmem S8x1x8x128 .f32) (harg0 : arg0.IsWhole) (arg1 : Memref sig .tc .hbm S512x16x8x128 .f32) (harg1 : arg1.IsWhole) (arg2 : Memref sig .tc .hbm S512x16x8x128 .f32) (harg2 : arg2.IsWhole) (arg3 : Memref sig .tc .vmem S8x512 .i32) (harg3 : arg3.IsWhole) (arg4 : Memref sig .tc .vmem S8 .i32) (harg4 : arg4.IsWhole) (arg5 : Memref sig .tc .vmem S8x1x8x128 .f32) (harg5 : arg5.IsWhole) (arg6 : Memref sig .tc .vmem S2x64x16x8x128 .f32) (harg6 : arg6.IsWhole) (arg7 : Memref sig .tc .vmem S2x64x16x8x128 .f32) (harg7 : arg7.IsWhole) (arg8 : Memref sig .tc .vmem S8x8 .f32) (harg8 : arg8.IsWhole) (arg9 : Memref sig .tc .vmem S8x8 .f32) (harg9 : arg9.IsWhole) (arg10 : Memref sig .tc .vmem S8x8x128 .f32) (harg10 : arg10.IsWhole) (arg11 : Memref sig .tc .vmem S8x8x8 .f32) (harg11 : arg11.IsWhole) (arg12 : Memref sig .tc .vmem S8x8x8 .f32) (harg12 : arg12.IsWhole) (arg13 : Memref sig .tc .vmem S8x8x8x128 .f32) (harg13 : arg13.IsWhole) (arg14 : DmaSems sig S2) (arg15 : DmaSems sig S2) (arg16 : DmaSems sig S24) (arg17 : DmaSems sig S8) (arg18 : DmaSems sig S8) (arg19 : DmaSems sig S8) (c : Dev nD) :
    wp frame (wpE (defs₀ (F := F)) 𝒱₀ (c : Thread nD τ) none) Set.univ (cc0_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19) Q
      = wp frame (wpE (defs₀ (F := F)) 𝒱₀ (c : Thread nD τ) none) Set.univ (pre arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19) (fun r =>
          wp frame (wpE (defs₀ (F := F)) 𝒱₀ (c : Thread nD τ) none) Set.univ (post arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19 r.1 r.2.1 r.2.2.1 r.2.2.2.1 r.2.2.2.2.1 r.2.2.2.2.2) Q) := by
  rw [cc0_body_eq_skeleton]; unfold cc0_body_skel pre post
  rw [k0_part50_eq_skeleton]; unfold k0_part50_skel
  simp only [wp_bind, Prog.pure_eq_ret, wp_ret, fupd_wp_eq]

end Cert.PagedProof

end
-- ==== Proof.Value.lean ====
/-
What one device computes of its own pages, as functions of the operands: for every head the running maximum, the running sum and the
running weighted values, advanced once per chunk of 64 pages; and the reading of lists of column stores.
-/
module

public import proofs.«01_k».proof.Proof.Protocol
public import Idealize.ShloMosaic.Lib.VecWindow
public import Idealize.ShloMosaic.Lib.WritesUnit

@[expose] public section

set_option maxRecDepth 16384

noncomputable section

namespace Cert.PagedProof

open Cert.KernelIdeal Cert.KernelIdeal.Gen
open Idealize.ShloMosaic Idealize.ShloMosaic.TcCoe Idealize.ShloMosaic.Tactic
open ValueIdx

variable {F : FTy → Type} [FloatOps F]

/-! ## One head, one chunk -/

/-- The queries of head `h`. -/
def qh (qs : FVec F S8x1x8x128 .f32) (h : Fin 8) : FVec F S8x128 .f32 :=
  shapeCast S8x128 (extractStridedSlice S8x1x1x128 ![0, 0, h.val, 0] qs (by revert h; decide)) shapeCasts_S8x1x1x128_S8x128

/-- Head `h` of a chunk of pages. -/
def slab (P : S64x16x8x128.Idx → Elt F .f32) (h : Fin 8) : Vec F S1x64x16x1x128 .f32 :=
  fun i => P (ix4 (n0 := 64) (n1 := 16) (n2 := 8) (n3 := 128) (i 1) (i 2) h (i 4))

/-- The weights of chunk `k`. -/
def wch (w : FVec F S8x2048 .f32) : ℕ → FVec F S8x1024 .f32
  | 0 => k0_pay9 w
  | _ + 1 => k0_pay81 w

/-- The pool row of page `i` of chunk `k` on device `c`. -/
def row (c : Dev nD) : ℕ → Fin 64 → Fin 512
  | 0, i => ⟨c.val % 4 * 128 + i.val, by have := i.isLt; omega⟩
  | _ + 1, i => ⟨c.val % 4 * 128 + 64 + i.val, by have := i.isLt; omega⟩

/-- Chunk `k` of the pages of device `c`. -/
def chunk (c : Dev nD) (x : S512x16x8x128.Idx → Elt F .f32) (k : ℕ) : S64x16x8x128.Idx → Elt F .f32 :=
  fun i => x (ix4 (row c k (i 0)) (i 1) (i 2) (i 3))

/-- The maximum after a chunk. -/
def mst (qs : FVec F S8x1x8x128 .f32) (P : S64x16x8x128.Idx → Elt F .f32) (h : Fin 8) (m : Vec F S8x1 .f32) : Vec F S8x1 .f32 :=
  k0_pay17 (qh qs h) (k0_pay11 (slab P h)) m
/-- The sum after a chunk. -/
def lst (qs : FVec F S8x1x8x128 .f32) (w : FVec F S8x1024 .f32) (P : S64x16x8x128.Idx → Elt F .f32) (h : Fin 8) (m l : Vec F S8x1 .f32) : Vec F S8x1 .f32 :=
  k0_pay18 w (qh qs h) (k0_pay11 (slab P h)) m l
/-- The weighted values after a chunk. -/
def ost (qs : FVec F S8x1x8x128 .f32) (w : FVec F S8x1024 .f32) (P P' : S64x16x8x128.Idx → Elt F .f32) (h : Fin 8) (m : Vec F S8x1 .f32) (o : Vec F S8x1x128 .f32) :
    Vec F S8x1x128 .f32 :=
  k0_pay16 w (qh qs h) (k0_pay11 (slab P h)) (slab P' h) m o

section Columns
variable (qs : FVec F S8x1x8x128 .f32) (w : FVec F S8x2048 .f32) (P P' : ℕ → S64x16x8x128.Idx → Elt F .f32)

/-- Head `h`'s maximum after `n` of the sixteen updates (chunk by chunk, head by head). -/
def mcol : ℕ → Fin 8 → Vec F S8x1 .f32
  | 0, _ => fun _ => Scalar.ofBits .f32 0xF149F2CA#32
  | n + 1, h => if h.val = n % 8 then mst qs (P (n / 8)) h (mcol n h) else mcol n h
def lcol : ℕ → Fin 8 → Vec F S8x1 .f32
  | 0, _ => fun _ => Scalar.ofBits .f32 0x00000000#32
  | n + 1, h => if h.val = n % 8 then lst qs (wch w (n / 8)) (P (n / 8)) h (mcol qs P n h) (lcol n h) else lcol n h
def ocol : ℕ → Fin 8 → Vec F S8x1x128 .f32
  | 0, _ => fun _ => Scalar.ofBits .f32 0x00000000#32
  | n + 1, h => if h.val = n % 8 then ost qs (wch w (n / 8)) (P (n / 8)) (P' (n / 8)) h (mcol qs P n h) (ocol n h) else ocol n h
end Columns

/-- An array of eight columns. -/
def cols (p : Fin 8 → Vec F S8x1 .f32) : (cc0_scratch2 : Ref sig .tc).ty.Contents (Elt F) := fun (i : S8x8.Idx) => p (i 1) (ix2 (i 0) 0)
def cols3 (p : Fin 8 → Vec F S8x1x128 .f32) : (cc0_scratch4 : Ref sig .tc).ty.Contents (Elt F) := fun (i : S8x8x128.Idx) => p (i 1) (ix3 (i 0) 0 (i 2))

theorem inbC (h : Fin 8) : ∀ a, (![0, h.val] : Fin 2 → ℕ) a + S8x1.size a ≤ S8x8.size a := by revert h; decide
theorem inbC3 (h : Fin 8) : ∀ a, (![0, h.val, 0] : Fin 3 → ℕ) a + S8x1x128.size a ≤ S8x8x128.size a := by revert h; decide

/-! ## Lists of column stores -/

theorem cols_cons (v : View sig .tc .vmem S8x8 .f32) (f : v.ty.Contents (Elt F)) (L : List (View.Piece (Elt F) S8x8 .f32))
    (p : Fin 8 → Vec F S8x1 .f32) (h : Fin 8) (x : Vec F S8x1 .f32) (hL : v.read (Elt F) (v.writes (Elt F) f L) = cols p) :
    v.read (Elt F) (v.writes (Elt F) f (⟨Rect.unit (s := S8x8) ![0, h.val] S8x1.size (inbC h), x⟩ :: L))
      = cols fun g => if g = h then x else p g := by
  funext y
  by_cases hy : (y 1 : Fin 8) = h
  · refine (View.read_writes_cons_unit_of_mem v f (inbC h) x L y (ix2 (y 0) 0) rfl ?_).trans ?_
    · intro a; fin_cases a
      · show (y 0).val = 0 + (y 0).val; omega
      · show (y 1 : Fin 8).val = h.val + 0; rw [hy]; rfl
    · exact (congrFun (@if_pos _ (instDecidableEqFin 8 (y 1) h) hy _ x (p (y 1))) _).symm
  · refine (View.read_writes_cons_unit_of_not_mem v f (inbC h) x L y rfl 1 ?_).trans ?_
    · have : (y 1 : Fin 8).val ≠ h.val := fun e => hy (Fin.ext e)
      show (y 1 : Fin 8).val < h.val ∨ h.val + 1 ≤ (y 1 : Fin 8).val
      omega
    · rw [hL]
      exact (congrFun (@if_neg _ (instDecidableEqFin 8 (y 1) h) hy _ x (p (y 1))) _).symm

theorem cols3_cons (v : View sig .tc .vmem S8x8x128 .f32) (f : v.ty.Contents (Elt F)) (L : List (View.Piece (Elt F) S8x8x128 .f32))
    (p : Fin 8 → Vec F S8x1x128 .f32) (h : Fin 8) (x : Vec F S8x1x128 .f32) (hL : v.read (Elt F) (v.writes (Elt F) f L) = cols3 p) :
    v.read (Elt F) (v.writes (Elt F) f (⟨Rect.unit (s := S8x8x128) ![0, h.val, 0] S8x1x128.size (inbC3 h), x⟩ :: L))
      = cols3 fun g => if g = h then x else p g := by
  funext y
  by_cases hy : (y 1 : Fin 8) = h
  · refine (View.read_writes_cons_unit_of_mem v f (inbC3 h) x L y (ix3 (y 0) 0 (y 2)) rfl ?_).trans ?_
    · intro a; fin_cases a
      · show (y 0).val = 0 + (y 0).val; omega
      · show (y 1 : Fin 8).val = h.val + 0; rw [hy]; rfl
      · show (y 2).val = 0 + (y 2).val; omega
    · exact (congrFun (@if_pos _ (instDecidableEqFin 8 (y 1) h) hy _ x (p (y 1))) _).symm
  · refine (View.read_writes_cons_unit_of_not_mem v f (inbC3 h) x L y rfl 1 ?_).trans ?_
    · have : (y 1 : Fin 8).val ≠ h.val := fun e => hy (Fin.ext e)
      show (y 1 : Fin 8).val < h.val ∨ h.val + 1 ≤ (y 1 : Fin 8).val
      omega
    · rw [hL]
      exact (congrFun (@if_neg _ (instDecidableEqFin 8 (y 1) h) hy _ x (p (y 1))) _).symm

theorem cols_load (v : View sig .tc .vmem S8x8 .f32) (L : List (View.Piece (Elt F) S8x8 .f32)) (p : Fin 8 → Vec F S8x1 .f32) (h : Fin 8)
    (hL : v.read (Elt F) (v.writes (Elt F) v.junk L) = cols p) :
    v.readCov L (Rect.unit (s := S8x8) ![0, h.val] S8x1.size (inbC h)).toLoadRect = p h := by
  funext y
  refine (congrFun hL _).trans ?_
  have e : (Rect.unit (s := S8x8) ![0, h.val] S8x1.size (inbC h)).toLoadRect.idx y = (ix2 (y 0) h : S8x8.Idx) := by
    funext a; fin_cases a <;> apply Fin.ext
    · simp [LoadRect.idx, Rect.unit, Rect.toLoadRect]
    · have : (y 1).val < 1 := (y 1).isLt
      simp [LoadRect.idx, Rect.unit, Rect.toLoadRect]; omega
  rw [e]
  show p h (ix2 (y 0) 0) = p h y
  congr 1
  funext a; fin_cases a
  · rfl
  · exact (Subsingleton.elim (α := Fin 1) _ _)

theorem cols3_load (v : View sig .tc .vmem S8x8x128 .f32) (L : List (View.Piece (Elt F) S8x8x128 .f32)) (p : Fin 8 → Vec F S8x1x128 .f32) (h : Fin 8)
    (hL : v.read (Elt F) (v.writes (Elt F) v.junk L) = cols3 p) :
    v.readCov L (Rect.unit (s := S8x8x128) ![0, h.val, 0] S8x1x128.size (inbC3 h)).toLoadRect = p h := by
  funext y
  refine (congrFun hL _).trans ?_
  have e : (Rect.unit (s := S8x8x128) ![0, h.val, 0] S8x1x128.size (inbC3 h)).toLoadRect.idx y = (ix3 (y 0) h (y 2) : S8x8x128.Idx) := by
    funext a; fin_cases a <;> apply Fin.ext
    · simp [LoadRect.idx, Rect.unit, Rect.toLoadRect]
    · have : (y 1).val < 1 := (y 1).isLt
      simp [LoadRect.idx, Rect.unit, Rect.toLoadRect]; omega
    · simp [LoadRect.idx, Rect.unit, Rect.toLoadRect]
  rw [e]
  show p h (ix3 (y 0) 0 (y 2)) = p h y
  congr 1
  funext a; fin_cases a
  · rfl
  · exact (Subsingleton.elim (α := Fin 1) _ _)
  · rfl

/-! ## The two slots of the page buffers -/

theorem off1_0 (c : Dev nD) : k0_off1 c 0#32 = ![c.val % 4 * 128, 0, 0, 0] := by revert c; decide
theorem off1_1 (c : Dev nD) : k0_off1 c 64#32 = ![c.val % 4 * 128 + 64, 0, 0, 0] := by revert c; decide

theorem inbS (s : Fin 2) : ∀ a, (![s.val, 0, 0, 0, 0] : Fin 5 → ℕ) a + S1x64x16x8x128.size a ≤ S2x64x16x8x128.size a := by revert s; decide
theorem inbH (s : Fin 2) (h : Fin 8) : ∀ a, (![s.val, 0, 0, h.val, 0] : Fin 5 → ℕ) a + S1x64x16x1x128.size a ≤ S2x64x16x8x128.size a := by
  revert s h; decide

theorem reshape_slot (hh : S64x16x8x128.numel = S1x64x16x8x128.numel) (x0 : Fin 64) (x1 : Fin 16) (x2 : Fin 8) (x3 : Fin 128) :
    Shape.reshapeEquiv hh (ix4 x0 x1 x2 x3) = (ix5 (⟨0, Nat.one_pos⟩ : Fin 1) x0 x1 x2 x3 : S1x64x16x8x128.Idx) :=
  Shape.reshapeEquiv_eq_of_rowMajor hh (by
    rw [Shape.rowMajor_val_five, Shape.rowMajor_val_four]
    show (((0 * 64 + x0.val) * 16 + x1.val) * 8 + x2.val) * 128 + x3.val = ((x0.val * 16 + x1.val) * 8 + x2.val) * 128 + x3.val
    simp only [Nat.zero_mul, Nat.zero_add])

/-- The two slots of the page buffers. -/
def kSlot (s : Fin 2) : View sig .tc .vmem S64x16x8x128 .f32 :=
  (((Memref.whole cc0_scratch0).slice (Rect.unit ![s.val, 0, 0, 0, 0] S1x64x16x8x128.size (inbS s)) (fun _ => rfl)).squeeze S64x16x8x128
    squeezes_S1x64x16x8x128_S64x16x8x128).view
def vSlot (s : Fin 2) : View sig .tc .vmem S64x16x8x128 .f32 :=
  (((Memref.whole cc0_scratch1).slice (Rect.unit ![s.val, 0, 0, 0, 0] S1x64x16x8x128.size (inbS s)) (fun _ => rfl)).squeeze S64x16x8x128
    squeezes_S1x64x16x8x128_S64x16x8x128).view

theorem kSlot_emb (s : Fin 2) (x : S64x16x8x128.Idx) : (kSlot s).emb x = (ix5 s (x 0) (x 1) (x 2) (x 3) : S2x64x16x8x128.Idx) := by
  rw [ValueIdx.eq_ix4 x]
  show (Rect.unit (s := S2x64x16x8x128) ![s.val, 0, 0, 0, 0] S1x64x16x8x128.size (inbS s)).emb (Shape.reshapeEquiv _ (ix4 (x 0) (x 1) (x 2) (x 3))) = _
  refine (congrArg (Rect.unit (s := S2x64x16x8x128) ![s.val, 0, 0, 0, 0] S1x64x16x8x128.size (inbS s)).emb (reshape_slot _ (x 0) (x 1) (x 2) (x 3))).trans ?_
  funext a; fin_cases a <;> (apply Fin.ext; simp [Rect.emb, Rect.unit])
theorem vSlot_emb (s : Fin 2) (x : S64x16x8x128.Idx) : (vSlot s).emb x = (ix5 s (x 0) (x 1) (x 2) (x 3) : S2x64x16x8x128.Idx) := kSlot_emb s x

theorem kSlot_disj (s s' : Fin 2) (hs : s ≠ s') (x : S64x16x8x128.Idx) : (kSlot s).emb x ∉ (kSlot s').setOn Finset.univ := by
  intro h
  obtain ⟨y, -, hy⟩ := Finset.mem_map.mp h
  have := (kSlot_emb s' y).symm.trans (hy.trans (kSlot_emb s x))
  exact hs (congrFun this 0).symm
theorem vSlot_disj (s s' : Fin 2) (hs : s ≠ s') (x : S64x16x8x128.Idx) : (vSlot s).emb x ∉ (vSlot s').setOn Finset.univ := kSlot_disj s s' hs x

theorem slot_idx (s : Fin 2) (h : Fin 8) (y : S1x64x16x1x128.Idx) :
    (Rect.unit (s := S2x64x16x8x128) ![s.val, 0, 0, h.val, 0] S1x64x16x1x128.size (inbH s h)).toLoadRect.idx y
      = (ix5 s (y 1) (y 2) h (y 4) : S2x64x16x8x128.Idx) := by
  have h0 : (y 0).val < 1 := (y 0).isLt
  have h3 : (y 3).val < 1 := (y 3).isLt
  funext a; fin_cases a <;> apply Fin.ext <;> simp [LoadRect.idx, Rect.unit, Rect.toLoadRect]
  · omega
  · omega

variable (f : (cc0_scratch0 : Ref sig .tc).ty.Contents (Elt F)) (f1 : (cc0_scratch1 : Ref sig .tc).ty.Contents (Elt F)) (D0 D1 : S64x16x8x128.Idx → Elt F .f32) (h : Fin 8)

theorem kLoad0 : View.readAt (Elt F) (Memref.whole cc0_scratch0).view
      (Rect.unit (s := S2x64x16x8x128) ![(0 : Fin 2).val, 0, 0, h.val, 0] S1x64x16x1x128.size (inbH 0 h)).toLoadRect
      ((kSlot 1).write (Elt F) ((kSlot 0).write (Elt F) f D0 Finset.univ) D1 Finset.univ) = slab D0 h := by
  funext y
  have e := (slot_idx 0 h y).trans (kSlot_emb 0 (ix4 (y 1) (y 2) h (y 4))).symm
  refine (congrArg ((kSlot 1).write (Elt F) ((kSlot 0).write (Elt F) f D0 Finset.univ) D1 Finset.univ) e).trans ?_
  refine ((kSlot 1).write_of_not_mem _ _ _ (kSlot_disj 0 1 (by decide) _)).trans ?_
  exact (kSlot 0).write_emb_of_mem _ _ (Finset.mem_univ _)
theorem kLoad1 : View.readAt (Elt F) (Memref.whole cc0_scratch0).view
      (Rect.unit (s := S2x64x16x8x128) ![(1 : Fin 2).val, 0, 0, h.val, 0] S1x64x16x1x128.size (inbH 1 h)).toLoadRect
      ((kSlot 1).write (Elt F) ((kSlot 0).write (Elt F) f D0 Finset.univ) D1 Finset.univ) = slab D1 h := by
  funext y
  have e := (slot_idx 1 h y).trans (kSlot_emb 1 (ix4 (y 1) (y 2) h (y 4))).symm
  refine (congrArg ((kSlot 1).write (Elt F) ((kSlot 0).write (Elt F) f D0 Finset.univ) D1 Finset.univ) e).trans ?_
  exact (kSlot 1).write_emb_of_mem _ _ (Finset.mem_univ _)
theorem vLoad0 : View.readAt (Elt F) (Memref.whole cc0_scratch1).view
      (Rect.unit (s := S2x64x16x8x128) ![(0 : Fin 2).val, 0, 0, h.val, 0] S1x64x16x1x128.size (inbH 0 h)).toLoadRect
      ((vSlot 1).write (Elt F) ((vSlot 0).write (Elt F) f1 D0 Finset.univ) D1 Finset.univ) = slab D0 h := by
  funext y
  have e := (slot_idx 0 h y).trans (vSlot_emb 0 (ix4 (y 1) (y 2) h (y 4))).symm
  refine (congrArg ((vSlot 1).write (Elt F) ((vSlot 0).write (Elt F) f1 D0 Finset.univ) D1 Finset.univ) e).trans ?_
  refine ((vSlot 1).write_of_not_mem _ _ _ (vSlot_disj 0 1 (by decide) _)).trans ?_
  exact (vSlot 0).write_emb_of_mem _ _ (Finset.mem_univ _)
theorem vLoad1 : View.readAt (Elt F) (Memref.whole cc0_scratch1).view
      (Rect.unit (s := S2x64x16x8x128) ![(1 : Fin 2).val, 0, 0, h.val, 0] S1x64x16x1x128.size (inbH 1 h)).toLoadRect
      ((vSlot 1).write (Elt F) ((vSlot 0).write (Elt F) f1 D0 Finset.univ) D1 Finset.univ) = slab D1 h := by
  funext y
  have e := (slot_idx 1 h y).trans (vSlot_emb 1 (ix4 (y 1) (y 2) h (y 4))).symm
  refine (congrArg ((vSlot 1).write (Elt F) ((vSlot 0).write (Elt F) f1 D0 Finset.univ) D1 Finset.univ) e).trans ?_
  exact (vSlot 1).write_emb_of_mem _ _ (Finset.mem_univ _)

/-! ## What the four transfers bring -/

theorem fetchK0 (c : Dev nD) (x : (main_arg1 : Ref sig .tc).ty.Contents (Elt F)) (hi hp) :
    (ReadAs.same.apply (View.read (Elt F) ((Memref.whole main_arg1).slice (Rect.unit (k0_off1 c 0#32) S64x16x8x128.size hi) hp).view x)
      : S64x16x8x128.Idx → Elt F .f32) = chunk c x 0 := by
  funext y
  have e : (Rect.unit (s := S512x16x8x128) (k0_off1 c 0#32) S64x16x8x128.size hi).emb y = ix4 (row c 0 (y 0)) (y 1) (y 2) (y 3) := by
    funext a; fin_cases a <;> (apply Fin.ext; simp [Rect.emb, Rect.unit, off1_0, row])
  exact congrArg x e
theorem fetchK1 (c : Dev nD) (x : (main_arg1 : Ref sig .tc).ty.Contents (Elt F)) (hi hp) :
    (ReadAs.same.apply (View.read (Elt F) ((Memref.whole main_arg1).slice (Rect.unit (k0_off1 c 64#32) S64x16x8x128.size hi) hp).view x)
      : S64x16x8x128.Idx → Elt F .f32) = chunk c x 1 := by
  funext y
  have e : (Rect.unit (s := S512x16x8x128) (k0_off1 c 64#32) S64x16x8x128.size hi).emb y = ix4 (row c 1 (y 0)) (y 1) (y 2) (y 3) := by
    funext a; fin_cases a <;> (apply Fin.ext; simp [Rect.emb, Rect.unit, off1_1, row])
  exact congrArg x e
theorem fetchV0 (c : Dev nD) (x : (main_arg2 : Ref sig .tc).ty.Contents (Elt F)) (hi hp) :
    (ReadAs.same.apply (View.read (Elt F) ((Memref.whole main_arg2).slice (Rect.unit (k0_off1 c 0#32) S64x16x8x128.size hi) hp).view x)
      : S64x16x8x128.Idx → Elt F .f32) = chunk c x 0 := by
  funext y
  have e : (Rect.unit (s := S512x16x8x128) (k0_off1 c 0#32) S64x16x8x128.size hi).emb y = ix4 (row c 0 (y 0)) (y 1) (y 2) (y 3) := by
    funext a; fin_cases a <;> (apply Fin.ext; simp [Rect.emb, Rect.unit, off1_0, row])
  exact congrArg x e
theorem fetchV1 (c : Dev nD) (x : (main_arg2 : Ref sig .tc).ty.Contents (Elt F)) (hi hp) :
    (ReadAs.same.apply (View.read (Elt F) ((Memref.whole main_arg2).slice (Rect.unit (k0_off1 c 64#32) S64x16x8x128.size hi) hp).view x)
      : S64x16x8x128.Idx → Elt F .f32) = chunk c x 1 := by
  funext y
  have e : (Rect.unit (s := S512x16x8x128) (k0_off1 c 64#32) S64x16x8x128.size hi).emb y = ix4 (row c 1 (y 0)) (y 1) (y 2) (y 3) := by
    funext a; fin_cases a <;> (apply Fin.ext; simp [Rect.emb, Rect.unit, off1_1, row])
  exact congrArg x e

/-! ## The columns, one step at a time -/

section Steps
variable (qs : FVec F S8x1x8x128 .f32) (w : FVec F S8x2048 .f32) (P P' : ℕ → S64x16x8x128.Idx → Elt F .f32)

theorem mcol_step (n : ℕ) (h : Fin 8) (hn : h.val = n % 8) :
    (fun g => if g = h then mst qs (P (n / 8)) h (mcol qs P n h) else mcol qs P n g) = mcol qs P (n + 1) := by
  funext g
  by_cases hg : g = h
  · subst hg; exact (if_pos rfl).trans (if_pos hn).symm
  · exact (if_neg hg).trans (if_neg fun e => hg (Fin.ext (e.trans hn.symm))).symm
theorem lcol_step (n : ℕ) (h : Fin 8) (hn : h.val = n % 8) :
    (fun g => if g = h then lst qs (wch w (n / 8)) (P (n / 8)) h (mcol qs P n h) (lcol qs w P n h) else lcol qs w P n g) = lcol qs w P (n + 1) := by
  funext g
  by_cases hg : g = h
  · subst hg; exact (if_pos rfl).trans (if_pos hn).symm
  · exact (if_neg hg).trans (if_neg fun e => hg (Fin.ext (e.trans hn.symm))).symm
theorem ocol_step (n : ℕ) (h : Fin 8) (hn : h.val = n % 8) :
    (fun g => if g = h then ost qs (wch w (n / 8)) (P (n / 8)) (P' (n / 8)) h (mcol qs P n h) (ocol qs w P P' n h) else ocol qs w P P' n g)
      = ocol qs w P P' (n + 1) := by
  funext g
  by_cases hg : g = h
  · subst hg; exact (if_pos rfl).trans (if_pos hn).symm
  · exact (if_neg hg).trans (if_neg fun e => hg (Fin.ext (e.trans hn.symm))).symm
end Steps

/-! ## The three accumulators of device `c` -/

/-- The weights: how often each token of the device's pages is attended to. -/
def wts (c : Dev nD) (bt : (cc0_stg1_0 : Ref sig .tc).ty.Contents (Elt F)) (le : (cc0_stg2_0 : Ref sig .tc).ty.Contents (Elt F)) : FVec F S8x2048 .f32 :=
  k0_pay8 (k0_pay7 (Scalar.remsi (Scalar.divsi (BitVec.ofNat 32 c.val) 4#32) 2#32) (Scalar.remsi (Scalar.divsi (BitVec.ofNat 32 c.val) 2#32) 2#32) (Scalar.remsi (Scalar.divsi (BitVec.ofNat 32 c.val) 1#32) 2#32) le bt)

def mAcc (c : Dev nD) (q : (cc0_stg0_0 : Ref sig .tc).ty.Contents (Elt F)) (kk : (main_arg1 : Ref sig .tc).ty.Contents (Elt F)) :
    (cc0_scratch2 : Ref sig .tc).ty.Contents (Elt F) := cols (mcol (k0_pay6 q) (chunk c kk) 16)
def lAcc (c : Dev nD) (q : (cc0_stg0_0 : Ref sig .tc).ty.Contents (Elt F)) (kk : (main_arg1 : Ref sig .tc).ty.Contents (Elt F))
    (bt : (cc0_stg1_0 : Ref sig .tc).ty.Contents (Elt F)) (le : (cc0_stg2_0 : Ref sig .tc).ty.Contents (Elt F)) :
    (cc0_scratch3 : Ref sig .tc).ty.Contents (Elt F) := cols (lcol (k0_pay6 q) (wts c bt le) (chunk c kk) 16)
def oAcc (c : Dev nD) (q : (cc0_stg0_0 : Ref sig .tc).ty.Contents (Elt F)) (kk : (main_arg1 : Ref sig .tc).ty.Contents (Elt F))
    (vv : (main_arg2 : Ref sig .tc).ty.Contents (Elt F)) (bt : (cc0_stg1_0 : Ref sig .tc).ty.Contents (Elt F)) (le : (cc0_stg2_0 : Ref sig .tc).ty.Contents (Elt F)) :
    (cc0_scratch4 : Ref sig .tc).ty.Contents (Elt F) := cols3 (ocol (k0_pay6 q) (wts c bt le) (chunk c kk) (chunk c vv) 16)

end Cert.PagedProof

end
-- ==== Proof.Pre.lean ====
/-
The first half of the body: the attention over the device's own pages, run once at a symbolic device.
-/
module

public import proofs.«01_k».proof.Proof.Steps
public import proofs.«01_k».proof.Proof.Split
public import proofs.«01_k».proof.Proof.Value

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev preProg : Prog (TpuEff nD τ sig (Elt F) Λ₀ .tc) (Dev nD × BitVec 32 × BitVec 32 × BitVec 32 × BitVec 32 × BitVec 32) :=
  pre (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13

/-- What the first half reads: the staged operands and two shares of each page pool; and its own semaphores at zero. -/
def preRead (c : Dev nD) (q : Buf (Elt F) ((c : Thread nD τ).loc cc0_stg0_0)) (kk : Buf (Elt F) ((c : Thread nD τ).loc main_arg1))
    (vv : Buf (Elt F) ((c : Thread nD τ).loc main_arg2)) (bt : Buf (Elt F) ((c : Thread nD τ).loc cc0_stg1_0)) (le : Buf (Elt F) ((c : Thread nD τ).loc cc0_stg2_0)) : sProp 𝕄 :=
  iprop(((Memref.whole cc0_stg0_0).view.loc (c : Thread nD τ) ↦{fullShare} q)
      ∗ ((Memref.whole main_arg1).view.loc (c : Thread nD τ) ↦{Transfers.shareTok fullShare 2 0} kk)
      ∗ ((Memref.whole main_arg1).view.loc (c : Thread nD τ) ↦{Transfers.shareTok fullShare 2 1} kk)
      ∗ ((Memref.whole main_arg2).view.loc (c : Thread nD τ) ↦{Transfers.shareTok fullShare 2 0} vv)
      ∗ ((Memref.whole main_arg2).view.loc (c : Thread nD τ) ↦{Transfers.shareTok fullShare 2 1} vv)
      ∗ ((Memref.whole cc0_stg1_0).view.loc (c : Thread nD τ) ↦{fullShare} bt)
      ∗ ((Memref.whole cc0_stg2_0).view.loc (c : Thread nD τ) ↦{fullShare} le)
      ∗ semVal ((c : Thread nD τ), SemLoc.dma (((cc0_scratch8 : DmaSems sig S2).slice (Rect.unit (s := S2) ![0] S1.size inb_S2_S1_0)).squeeze S_ squeezes_S1_S_).sem) 0 ∗ semVal ((c : Thread nD τ), SemLoc.dma (((cc0_scratch8 : DmaSems sig S2).slice (Rect.unit (s := S2) ![1] S1.size inb_S2_S1_1)).squeeze S_ squeezes_S1_S_).sem) 0 ∗ semVal ((c : Thread nD τ), SemLoc.dma (((cc0_scratch9 : DmaSems sig S2).slice (Rect.unit (s := S2) ![0] S1.size inb_S2_S1_0)).squeeze S_ squeezes_S1_S_).sem) 0 ∗ semVal ((c : Thread nD τ), SemLoc.dma (((cc0_scratch9 : DmaSems sig S2).slice (Rect.unit (s := S2) ![1] S1.size inb_S2_S1_1)).squeeze S_ squeezes_S1_S_).sem) 0)

set_option maxHeartbeats 2000000 in
theorem pre_run (c : Dev nD) (hmw : ∀ q : DmaSem sig, q.val < 32 → (levAts L lv ⊢ (MayWait (c : Thread nD τ) (.dma q) () (Ow c 32) : sProp 𝕄)))
    (q : Buf (Elt F) ((c : Thread nD τ).loc cc0_stg0_0)) (kk : Buf (Elt F) ((c : Thread nD τ).loc main_arg1))
    (vv : Buf (Elt F) ((c : Thread nD τ).loc main_arg2)) (bt : Buf (Elt F) ((c : Thread nD τ).loc cc0_stg1_0)) (le : Buf (Elt F) ((c : Thread nD τ).loc cc0_stg2_0))
    (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4)) (W : Waits sig Unit)
    (Kt : Dev nD × BitVec 32 × BitVec 32 × BitVec 32 × BitVec 32 × BitVec 32 → sProp 𝕄) :
    iprop(preRead c q kk vv bt le ∗ ((Memref.whole cc0_scratch0).view.loc (c : Thread nD τ) ↦{fullShare} f0) ∗ ((Memref.whole cc0_scratch1).view.loc (c : Thread nD τ) ↦{fullShare} f1) ∗ ((Memref.whole cc0_scratch2).view.loc (c : Thread nD τ) ↦{fullShare} f2) ∗ ((Memref.whole cc0_scratch3).view.loc (c : Thread nD τ) ↦{fullShare} f3) ∗ ((Memref.whole cc0_scratch4).view.loc (c : Thread nD τ) ↦{fullShare} f4)
        ∗ owes (c : Thread nD τ) (Ow c 32) W ∗ levAts L lv
        ∗ (∀ a b d e f, (preRead c q kk vv bt le ∗ (∃ g, ((Memref.whole cc0_scratch0).view.loc (c : Thread nD τ) ↦{fullShare} g)) ∗ (∃ g, ((Memref.whole cc0_scratch1).view.loc (c : Thread nD τ) ↦{fullShare} g))
            ∗ ((Memref.whole cc0_scratch2).view.loc (c : Thread nD τ) ↦{fullShare} mAcc c q kk) ∗ ((Memref.whole cc0_scratch3).view.loc (c : Thread nD τ) ↦{fullShare} lAcc c q kk bt le) ∗ ((Memref.whole cc0_scratch4).view.loc (c : Thread nD τ) ↦{fullShare} oAcc c q kk vv bt le) ∗ owesAny c (Ow c 32))
            -∗ Kt (c, a, b, d, e, f)))
      ⊢ wp frame (wpE (defs₀ (F := F)) 𝒱₀ (c : Thread nD τ) none) Set.univ (preProg (F := F)) Kt := by
  unfold preRead
  iintro ⟨⟨Hq, HK0, HK1, HV0, HV1, Hbt, Hle, Hs4, Hs5, Hs6, Hs7⟩, Hkb, Hvb, Hm, Hl, Ho, HO, #HLv, Hk⟩
  unfold preProg pre
  set_option sl_exec.dmaWindow true in sl_exec_parts
  have hQ : pre_run.sl.r_1 c q = k0_pay6 q := congrArg k0_pay6 (Memref.readAt_unit_zero (Elt F) cc0_stg0_0 (by decide) _ q)
  have hW : pre_run.sl.r_3 c bt le = wts c bt le := congrArg₂ (fun x y => k0_pay8 (k0_pay7 (pre_run.sl.v2 c) (pre_run.sl.v5 c) (pre_run.sl.v8 c) x y)) (Memref.readAt_unit_zero (Elt F) cc0_stg2_0 (by decide) _ le) (Memref.readAt_unit_zero (Elt F) cc0_stg1_0 (by decide) _ bt)
  have hK0 : pre_run.sl.dma0 c kk = chunk c kk 0 := fetchK0 c kk _ _
  have hK1 : pre_run.sl.dma9 c kk = chunk c kk 1 := fetchK1 c kk _ _
  have hV0 : pre_run.sl.dma0_1 c vv = chunk c vv 0 := fetchV0 c vv _ _
  have hV1 : pre_run.sl.dma9_1 c vv = chunk c vv 1 := fetchV1 c vv _ _
  have K00 : (pre_run.sl.v120 c kk f0) = slab (chunk c kk 0) 0 := (kLoad0 f0 _ _ 0).trans (congrArg (slab · 0) hK0)
  have K01 : (pre_run.sl.v159 c kk f0) = slab (chunk c kk 0) 1 := (kLoad0 f0 _ _ 1).trans (congrArg (slab · 1) hK0)
  have K02 : (pre_run.sl.v198 c kk f0) = slab (chunk c kk 0) 2 := (kLoad0 f0 _ _ 2).trans (congrArg (slab · 2) hK0)
  have K03 : (pre_run.sl.v237 c kk f0) = slab (chunk c kk 0) 3 := (kLoad0 f0 _ _ 3).trans (congrArg (slab · 3) hK0)
  have K04 : (pre_run.sl.v276 c kk f0) = slab (chunk c kk 0) 4 := (kLoad0 f0 _ _ 4).trans (congrArg (slab · 4) hK0)
  have K05 : (pre_run.sl.v315 c kk f0) = slab (chunk c kk 0) 5 := (kLoad0 f0 _ _ 5).trans (congrArg (slab · 5) hK0)
  have K06 : (pre_run.sl.v354 c kk f0) = slab (chunk c kk 0) 6 := (kLoad0 f0 _ _ 6).trans (congrArg (slab · 6) hK0)
  have K07 : (pre_run.sl.v393 c kk f0) = slab (chunk c kk 0) 7 := (kLoad0 f0 _ _ 7).trans (congrArg (slab · 7) hK0)
  have K10 : (pre_run.sl.v443 c kk f0) = slab (chunk c kk 1) 0 := (kLoad1 f0 _ _ 0).trans (congrArg (slab · 0) hK1)
  have K11 : (pre_run.sl.v482 c kk f0) = slab (chunk c kk 1) 1 := (kLoad1 f0 _ _ 1).trans (congrArg (slab · 1) hK1)
  have K12 : (pre_run.sl.v521 c kk f0) = slab (chunk c kk 1) 2 := (kLoad1 f0 _ _ 2).trans (congrArg (slab · 2) hK1)
  have K13 : (pre_run.sl.v560 c kk f0) = slab (chunk c kk 1) 3 := (kLoad1 f0 _ _ 3).trans (congrArg (slab · 3) hK1)
  have K14 : (pre_run.sl.v599 c kk f0) = slab (chunk c kk 1) 4 := (kLoad1 f0 _ _ 4).trans (congrArg (slab · 4) hK1)
  have K15 : (pre_run.sl.v638 c kk f0) = slab (chunk c kk 1) 5 := (kLoad1 f0 _ _ 5).trans (congrArg (slab · 5) hK1)
  have K16 : (pre_run.sl.v677 c kk f0) = slab (chunk c kk 1) 6 := (kLoad1 f0 _ _ 6).trans (congrArg (slab · 6) hK1)
  have K17 : (pre_run.sl.v716 c kk f0) = slab (chunk c kk 1) 7 := (kLoad1 f0 _ _ 7).trans (congrArg (slab · 7) hK1)
  have V00 : (pre_run.sl.v123 c vv f1) = slab (chunk c vv 0) 0 := (vLoad0 f1 _ _ 0).trans (congrArg (slab · 0) hV0)
  have V01 : (pre_run.sl.v162 c vv f1) = slab (chunk c vv 0) 1 := (vLoad0 f1 _ _ 1).trans (congrArg (slab · 1) hV0)
  have V02 : (pre_run.sl.v201 c vv f1) = slab (chunk c vv 0) 2 := (vLoad0 f1 _ _ 2).trans (congrArg (slab · 2) hV0)
  have V03 : (pre_run.sl.v240 c vv f1) = slab (chunk c vv 0) 3 := (vLoad0 f1 _ _ 3).trans (congrArg (slab · 3) hV0)
  have V04 : (pre_run.sl.v279 c vv f1) = slab (chunk c vv 0) 4 := (vLoad0 f1 _ _ 4).trans (congrArg (slab · 4) hV0)
  have V05 : (pre_run.sl.v318 c vv f1) = slab (chunk c vv 0) 5 := (vLoad0 f1 _ _ 5).trans (congrArg (slab · 5) hV0)
  have V06 : (pre_run.sl.v357 c vv f1) = slab (chunk c vv 0) 6 := (vLoad0 f1 _ _ 6).trans (congrArg (slab · 6) hV0)
  have V07 : (pre_run.sl.v396 c vv f1) = slab (chunk c vv 0) 7 := (vLoad0 f1 _ _ 7).trans (congrArg (slab · 7) hV0)
  have V10 : (pre_run.sl.v446 c vv f1) = slab (chunk c vv 1) 0 := (vLoad1 f1 _ _ 0).trans (congrArg (slab · 0) hV1)
  have V11 : (pre_run.sl.v485 c vv f1) = slab (chunk c vv 1) 1 := (vLoad1 f1 _ _ 1).trans (congrArg (slab · 1) hV1)
  have V12 : (pre_run.sl.v524 c vv f1) = slab (chunk c vv 1) 2 := (vLoad1 f1 _ _ 2).trans (congrArg (slab · 2) hV1)
  have V13 : (pre_run.sl.v563 c vv f1) = slab (chunk c vv 1) 3 := (vLoad1 f1 _ _ 3).trans (congrArg (slab · 3) hV1)
  have V14 : (pre_run.sl.v602 c vv f1) = slab (chunk c vv 1) 4 := (vLoad1 f1 _ _ 4).trans (congrArg (slab · 4) hV1)
  have V15 : (pre_run.sl.v641 c vv f1) = slab (chunk c vv 1) 5 := (vLoad1 f1 _ _ 5).trans (congrArg (slab · 5) hV1)
  have V16 : (pre_run.sl.v680 c vv f1) = slab (chunk c vv 1) 6 := (vLoad1 f1 _ _ 6).trans (congrArg (slab · 6) hV1)
  have V17 : (pre_run.sl.v719 c vv f1) = slab (chunk c vv 1) 7 := (vLoad1 f1 _ _ 7).trans (congrArg (slab · 7) hV1)
  have M1 : ∀ g, (Memref.whole cc0_scratch2).view.read (Elt F) ((Memref.whole cc0_scratch2).view.writes (Elt F) g pre_run.sl.Hm_1) = cols (mcol (k0_pay6 q) (chunk c kk) 0) := fun g => (View.read_writes_full (Memref.whole cc0_scratch2).view g inb_S8x8_S8x8_0_0 _ []).trans (funext fun _ => rfl)
  have L1 : ∀ g, (Memref.whole cc0_scratch3).view.read (Elt F) ((Memref.whole cc0_scratch3).view.writes (Elt F) g pre_run.sl.Hl_1) = cols (lcol (k0_pay6 q) (wts c bt le) (chunk c kk) 0) := fun g => (View.read_writes_full (Memref.whole cc0_scratch3).view g inb_S8x8_S8x8_0_0 _ []).trans (funext fun _ => rfl)
  have O1 : ∀ g, (Memref.whole cc0_scratch4).view.read (Elt F) ((Memref.whole cc0_scratch4).view.writes (Elt F) g pre_run.sl.Ho_1) = cols3 (ocol (k0_pay6 q) (wts c bt le) (chunk c kk) (chunk c vv) 0) := fun g => (View.read_writes_full (Memref.whole cc0_scratch4).view g inb_S8x8x128_S8x8x128_0_0_0 _ []).trans (funext fun _ => rfl)
  have m0 : pre_run.sl.v127 = mcol (k0_pay6 q) (chunk c kk) 0 0 := cols_load _ _ _ 0 (M1 _)
  have l0 : pre_run.sl.v137 = lcol (k0_pay6 q) (wts c bt le) (chunk c kk) 0 0 := cols_load _ _ _ 0 (L1 _)
  have o0 : pre_run.sl.v143 = ocol (k0_pay6 q) (wts c bt le) (chunk c kk) (chunk c vv) 0 0 := cols3_load _ _ _ 0 (O1 _)
  have em : (pre_run.sl.Hm_2 c q kk f0) = ⟨Rect.unit (s := S8x8) ![0, (0 : Fin 8).val] S8x1.size (inbC 0), k0_pay17 (qh (pre_run.sl.r_1 c q) 0) (k0_pay11 (pre_run.sl.v120 c kk f0)) pre_run.sl.v127⟩ :: pre_run.sl.Hm_1 := rfl
  have el : (pre_run.sl.Hl_2 c q kk bt le f0) = ⟨Rect.unit (s := S8x8) ![0, (0 : Fin 8).val] S8x1.size (inbC 0), k0_pay18 (wch (pre_run.sl.r_3 c bt le) 0) (qh (pre_run.sl.r_1 c q) 0) (k0_pay11 (pre_run.sl.v120 c kk f0)) pre_run.sl.v127 pre_run.sl.v137⟩ :: pre_run.sl.Hl_1 := rfl
  have eo : (pre_run.sl.Ho_2 c q kk vv bt le f0 f1) = ⟨Rect.unit (s := S8x8x128) ![0, (0 : Fin 8).val, 0] S8x1x128.size (inbC3 0), k0_pay16 (wch (pre_run.sl.r_3 c bt le) 0) (qh (pre_run.sl.r_1 c q) 0) (k0_pay11 (pre_run.sl.v120 c kk f0)) (pre_run.sl.v123 c vv f1) pre_run.sl.v127 pre_run.sl.v143⟩ :: pre_run.sl.Ho_1 := rfl
  have M2 : ∀ g, (Memref.whole cc0_scratch2).view.read (Elt F) ((Memref.whole cc0_scratch2).view.writes (Elt F) g (pre_run.sl.Hm_2 c q kk f0)) = cols (mcol (k0_pay6 q) (chunk c kk) 1) := fun g => by
    rw [em]; rw [hQ, K00, m0]; exact (cols_cons _ g _ _ 0 _ (M1 g)).trans (congrArg cols (mcol_step (k0_pay6 q) (chunk c kk) 0 0 rfl))
  have L2 : ∀ g, (Memref.whole cc0_scratch3).view.read (Elt F) ((Memref.whole cc0_scratch3).view.writes (Elt F) g (pre_run.sl.Hl_2 c q kk bt le f0)) = cols (lcol (k0_pay6 q) (wts c bt le) (chunk c kk) 1) := fun g => by
    rw [el]; rw [hQ, hW, K00, m0, l0]; exact (cols_cons _ g _ _ 0 _ (L1 g)).trans (congrArg cols (lcol_step (k0_pay6 q) (wts c bt le) (chunk c kk) 0 0 rfl))
  have O2 : ∀ g, (Memref.whole cc0_scratch4).view.read (Elt F) ((Memref.whole cc0_scratch4).view.writes (Elt F) g (pre_run.sl.Ho_2 c q kk vv bt le f0 f1)) = cols3 (ocol (k0_pay6 q) (wts c bt le) (chunk c kk) (chunk c vv) 1) := fun g => by
    rw [eo]; rw [hQ, hW, K00, V00, m0, o0]; exact (cols3_cons _ g _ _ 0 _ (O1 g)).trans (congrArg cols3 (ocol_step (k0_pay6 q) (wts c bt le) (chunk c kk) (chunk c vv) 0 0 rfl))
  have m1 : (pre_run.sl.v166 c q kk f0) = mcol (k0_pay6 q) (chunk c kk) 1 1 := cols_load _ _ _ 1 (M2 _)
  have l1 : (pre_run.sl.v176 c q kk bt le f0) = lcol (k0_pay6 q) (wts c bt le) (chunk c kk) 1 1 := cols_load _ _ _ 1 (L2 _)
  have o1 : (pre_run.sl.v182 c q kk vv bt le f0 f1) = ocol (k0_pay6 q) (wts c bt le) (chunk c kk) (chunk c vv) 1 1 := cols3_load _ _ _ 1 (O2 _)
  have em : (pre_run.sl.Hm_3 c q kk f0) = ⟨Rect.unit (s := S8x8) ![0, (1 : Fin 8).val] S8x1.size (inbC 1), k0_pay17 (qh (pre_run.sl.r_1 c q) 1) (k0_pay11 (pre_run.sl.v159 c kk f0)) (pre_run.sl.v166 c q kk f0)⟩ :: (pre_run.sl.Hm_2 c q kk f0) := rfl
  have el : (pre_run.sl.Hl_3 c q kk bt le f0) = ⟨Rect.unit (s := S8x8) ![0, (1 : Fin 8).val] S8x1.size (inbC 1), k0_pay18 (wch (pre_run.sl.r_3 c bt le) 0) (qh (pre_run.sl.r_1 c q) 1) (k0_pay11 (pre_run.sl.v159 c kk f0)) (pre_run.sl.v166 c q kk f0) (pre_run.sl.v176 c q kk bt le f0)⟩ :: (pre_run.sl.Hl_2 c q kk bt le f0) := rfl
  have eo : (pre_run.sl.Ho_3 c q kk vv bt le f0 f1) = ⟨Rect.unit (s := S8x8x128) ![0, (1 : Fin 8).val, 0] S8x1x128.size (inbC3 1), k0_pay16 (wch (pre_run.sl.r_3 c bt le) 0) (qh (pre_run.sl.r_1 c q) 1) (k0_pay11 (pre_run.sl.v159 c kk f0)) (pre_run.sl.v162 c vv f1) (pre_run.sl.v166 c q kk f0) (pre_run.sl.v182 c q kk vv bt le f0 f1)⟩ :: (pre_run.sl.Ho_2 c q kk vv bt le f0 f1) := rfl
  have M3 : ∀ g, (Memref.whole cc0_scratch2).view.read (Elt F) ((Memref.whole cc0_scratch2).view.writes (Elt F) g (pre_run.sl.Hm_3 c q kk f0)) = cols (mcol (k0_pay6 q) (chunk c kk) 2) := fun g => by
    rw [em]; rw [hQ, K01, m1]; exact (cols_cons _ g _ _ 1 _ (M2 g)).trans (congrArg cols (mcol_step (k0_pay6 q) (chunk c kk) 1 1 rfl))
  have L3 : ∀ g, (Memref.whole cc0_scratch3).view.read (Elt F) ((Memref.whole cc0_scratch3).view.writes (Elt F) g (pre_run.sl.Hl_3 c q kk bt le f0)) = cols (lcol (k0_pay6 q) (wts c bt le) (chunk c kk) 2) := fun g => by
    rw [el]; rw [hQ, hW, K01, m1, l1]; exact (cols_cons _ g _ _ 1 _ (L2 g)).trans (congrArg cols (lcol_step (k0_pay6 q) (wts c bt le) (chunk c kk) 1 1 rfl))
  have O3 : ∀ g, (Memref.whole cc0_scratch4).view.read (Elt F) ((Memref.whole cc0_scratch4).view.writes (Elt F) g (pre_run.sl.Ho_3 c q kk vv bt le f0 f1)) = cols3 (ocol (k0_pay6 q) (wts c bt le) (chunk c kk) (chunk c vv) 2) := fun g => by
    rw [eo]; rw [hQ, hW, K01, V01, m1, o1]; exact (cols3_cons _ g _ _ 1 _ (O2 g)).trans (congrArg cols3 (ocol_step (k0_pay6 q) (wts c bt le) (chunk c kk) (chunk c vv) 1 1 rfl))
  have m2 : (pre_run.sl.v205 c q kk f0) = mcol (k0_pay6 q) (chunk c kk) 2 2 := cols_load _ _ _ 2 (M3 _)
  have l2 : (pre_run.sl.v215 c q kk bt le f0) = lcol (k0_pay6 q) (wts c bt le) (chunk c kk) 2 2 := cols_load _ _ _ 2 (L3 _)
  have o2 : (pre_run.sl.v221 c q kk vv bt le f0 f1) = ocol (k0_pay6 q) (wts c bt le) (chunk c kk) (chunk c vv) 2 2 := cols3_load _ _ _ 2 (O3 _)
  have em : (pre_run.sl.Hm_4 c q kk f0) = ⟨Rect.unit (s := S8x8) ![0, (2 : Fin 8).val] S8x1.size (inbC 2), k0_pay17 (qh (pre_run.sl.r_1 c q) 2) (k0_pay11 (pre_run.sl.v198 c kk f0)) (pre_run.sl.v205 c q kk f0)⟩ :: (pre_run.sl.Hm_3 c q kk f0) := rfl
  have el : (pre_run.sl.Hl_4 c q kk bt le f0) = ⟨Rect.unit (s := S8x8) ![0, (2 : Fin 8).val] S8x1.size (inbC 2), k0_pay18 (wch (pre_run.sl.r_3 c bt le) 0) (qh (pre_run.sl.r_1 c q) 2) (k0_pay11 (pre_run.sl.v198 c kk f0)) (pre_run.sl.v205 c q kk f0) (pre_run.sl.v215 c q kk bt le f0)⟩ :: (pre_run.sl.Hl_3 c q kk bt le f0) := rfl
  have eo : (pre_run.sl.Ho_4 c q kk vv bt le f0 f1) = ⟨Rect.unit (s := S8x8x128) ![0, (2 : Fin 8).val, 0] S8x1x128.size (inbC3 2), k0_pay16 (wch (pre_run.sl.r_3 c bt le) 0) (qh (pre_run.sl.r_1 c q) 2) (k0_pay11 (pre_run.sl.v198 c kk f0)) (pre_run.sl.v201 c vv f1) (pre_run.sl.v205 c q kk f0) (pre_run.sl.v221 c q kk vv bt le f0 f1)⟩ :: (pre_run.sl.Ho_3 c q kk vv bt le f0 f1) := rfl
  have M4 : ∀ g, (Memref.whole cc0_scratch2).view.read (Elt F) ((Memref.whole cc0_scratch2).view.writes (Elt F) g (pre_run.sl.Hm_4 c q kk f0)) = cols (mcol (k0_pay6 q) (chunk c kk) 3) := fun g => by
    rw [em]; rw [hQ, K02, m2]; exact (cols_cons _ g _ _ 2 _ (M3 g)).trans (congrArg cols (mcol_step (k0_pay6 q) (chunk c kk) 2 2 rfl))
  have L4 : ∀ g, (Memref.whole cc0_scratch3).view.read (Elt F) ((Memref.whole cc0_scratch3).view.writes (Elt F) g (pre_run.sl.Hl_4 c q kk bt le f0)) = cols (lcol (k0_pay6 q) (wts c bt le) (chunk c kk) 3) := fun g => by
    rw [el]; rw [hQ, hW, K02, m2, l2]; exact (cols_cons _ g _ _ 2 _ (L3 g)).trans (congrArg cols (lcol_step (k0_pay6 q) (wts c bt le) (chunk c kk) 2 2 rfl))
  have O4 : ∀ g, (Memref.whole cc0_scratch4).view.read (Elt F) ((Memref.whole cc0_scratch4).view.writes (Elt F) g (pre_run.sl.Ho_4 c q kk vv bt le f0 f1)) = cols3 (ocol (k0_pay6 q) (wts c bt le) (chunk c kk) (chunk c vv) 3) := fun g => by
    rw [eo]; rw [hQ, hW, K02, V02, m2, o2]; exact (cols3_cons _ g _ _ 2 _ (O3 g)).trans (congrArg cols3 (ocol_step (k0_pay6 q) (wts c bt le) (chunk c kk) (chunk c vv) 2 2 rfl))
  have m3 : (pre_run.sl.v244 c q kk f0) = mcol (k0_pay6 q) (chunk c kk) 3 3 := cols_load _ _ _ 3 (M4 _)
  have l3 : (pre_run.sl.v254 c q kk bt le f0) = lcol (k0_pay6 q) (wts c bt le) (chunk c kk) 3 3 := cols_load _ _ _ 3 (L4 _)
  have o3 : (pre_run.sl.v260 c q kk vv bt le f0 f1) = ocol (k0_pay6 q) (wts c bt le) (chunk c kk) (chunk c vv) 3 3 := cols3_load _ _ _ 3 (O4 _)
  have em : (pre_run.sl.Hm_5 c q kk f0) = ⟨Rect.unit (s := S8x8) ![0, (3 : Fin 8).val] S8x1.size (inbC 3), k0_pay17 (qh (pre_run.sl.r_1 c q) 3) (k0_pay11 (pre_run.sl.v237 c kk f0)) (pre_run.sl.v244 c q kk f0)⟩ :: (pre_run.sl.Hm_4 c q kk f0) := rfl
  have el : (pre_run.sl.Hl_5 c q kk bt le f0) = ⟨Rect.unit (s := S8x8) ![0, (3 : Fin 8).val] S8x1.size (inbC 3), k0_pay18 (wch (pre_run.sl.r_3 c bt le) 0) (qh (pre_run.sl.r_1 c q) 3) (k0_pay11 (pre_run.sl.v237 c kk f0)) (pre_run.sl.v244 c q kk f0) (pre_run.sl.v254 c q kk bt le f0)⟩ :: (pre_run.sl.Hl_4 c q kk bt le f0) := rfl
  have eo : (pre_run.sl.Ho_5 c q kk vv bt le f0 f1) = ⟨Rect.unit (s := S8x8x128) ![0, (3 : Fin 8).val, 0] S8x1x128.size (inbC3 3), k0_pay16 (wch (pre_run.sl.r_3 c bt le) 0) (qh (pre_run.sl.r_1 c q) 3) (k0_pay11 (pre_run.sl.v237 c kk f0)) (pre_run.sl.v240 c vv f1) (pre_run.sl.v244 c q kk f0) (pre_run.sl.v260 c q kk vv bt le f0 f1)⟩ :: (pre_run.sl.Ho_4 c q kk vv bt le f0 f1) := rfl
  have M5 : ∀ g, (Memref.whole cc0_scratch2).view.read (Elt F) ((Memref.whole cc0_scratch2).view.writes (Elt F) g (pre_run.sl.Hm_5 c q kk f0)) = cols (mcol (k0_pay6 q) (chunk c kk) 4) := fun g => by
    rw [em]; rw [hQ, K03, m3]; exact (cols_cons _ g _ _ 3 _ (M4 g)).trans (congrArg cols (mcol_step (k0_pay6 q) (chunk c kk) 3 3 rfl))
  have L5 : ∀ g, (Memref.whole cc0_scratch3).view.read (Elt F) ((Memref.whole cc0_scratch3).view.writes (Elt F) g (pre_run.sl.Hl_5 c q kk bt le f0)) = cols (lcol (k0_pay6 q) (wts c bt le) (chunk c kk) 4) := fun g => by
    rw [el]; rw [hQ, hW, K03, m3, l3]; exact (cols_cons _ g _ _ 3 _ (L4 g)).trans (congrArg cols (lcol_step (k0_pay6 q) (wts c bt le) (chunk c kk) 3 3 rfl))
  have O5 : ∀ g, (Memref.whole cc0_scratch4).view.read (Elt F) ((Memref.whole cc0_scratch4).view.writes (Elt F) g (pre_run.sl.Ho_5 c q kk vv bt le f0 f1)) = cols3 (ocol (k0_pay6 q) (wts c bt le) (chunk c kk) (chunk c vv) 4) := fun g => by
    rw [eo]; rw [hQ, hW, K03, V03, m3, o3]; exact (cols3_cons _ g _ _ 3 _ (O4 g)).trans (congrArg cols3 (ocol_step (k0_pay6 q) (wts c bt le) (chunk c kk) (chunk c vv) 3 3 rfl))
  have m4 : (pre_run.sl.v283 c q kk f0) = mcol (k0_pay6 q) (chunk c kk) 4 4 := cols_load _ _ _ 4 (M5 _)
  have l4 : (pre_run.sl.v293 c q kk bt le f0) = lcol (k0_pay6 q) (wts c bt le) (chunk c kk) 4 4 := cols_load _ _ _ 4 (L5 _)
  have o4 : (pre_run.sl.v299 c q kk vv bt le f0 f1) = ocol (k0_pay6 q) (wts c bt le) (chunk c kk) (chunk c vv) 4 4 := cols3_load _ _ _ 4 (O5 _)
  have em : (pre_run.sl.Hm_6 c q kk f0) = ⟨Rect.unit (s := S8x8) ![0, (4 : Fin 8).val] S8x1.size (inbC 4), k0_pay17 (qh (pre_run.sl.r_1 c q) 4) (k0_pay11 (pre_run.sl.v276 c kk f0)) (pre_run.sl.v283 c q kk f0)⟩ :: (pre_run.sl.Hm_5 c q kk f0) := rfl
  have el : (pre_run.sl.Hl_6 c q kk bt le f0) = ⟨Rect.unit (s := S8x8) ![0, (4 : Fin 8).val] S8x1.size (inbC 4), k0_pay18 (wch (pre_run.sl.r_3 c bt le) 0) (qh (pre_run.sl.r_1 c q) 4) (k0_pay11 (pre_run.sl.v276 c kk f0)) (pre_run.sl.v283 c q kk f0) (pre_run.sl.v293 c q kk bt le f0)⟩ :: (pre_run.sl.Hl_5 c q kk bt le f0) := rfl
  have eo : (pre_run.sl.Ho_6 c q kk vv bt le f0 f1) = ⟨Rect.unit (s := S8x8x128) ![0, (4 : Fin 8).val, 0] S8x1x128.size (inbC3 4), k0_pay16 (wch (pre_run.sl.r_3 c bt le) 0) (qh (pre_run.sl.r_1 c q) 4) (k0_pay11 (pre_run.sl.v276 c kk f0)) (pre_run.sl.v279 c vv f1) (pre_run.sl.v283 c q kk f0) (pre_run.sl.v299 c q kk vv bt le f0 f1)⟩ :: (pre_run.sl.Ho_5 c q kk vv bt le f0 f1) := rfl
  have M6 : ∀ g, (Memref.whole cc0_scratch2).view.read (Elt F) ((Memref.whole cc0_scratch2).view.writes (Elt F) g (pre_run.sl.Hm_6 c q kk f0)) = cols (mcol (k0_pay6 q) (chunk c kk) 5) := fun g => by
    rw [em]; rw [hQ, K04, m4]; exact (cols_cons _ g _ _ 4 _ (M5 g)).trans (congrArg cols (mcol_step (k0_pay6 q) (chunk c kk) 4 4 rfl))
  have L6 : ∀ g, (Memref.whole cc0_scratch3).view.read (Elt F) ((Memref.whole cc0_scratch3).view.writes (Elt F) g (pre_run.sl.Hl_6 c q kk bt le f0)) = cols (lcol (k0_pay6 q) (wts c bt le) (chunk c kk) 5) := fun g => by
    rw [el]; rw [hQ, hW, K04, m4, l4]; exact (cols_cons _ g _ _ 4 _ (L5 g)).trans (congrArg cols (lcol_step (k0_pay6 q) (wts c bt le) (chunk c kk) 4 4 rfl))
  have O6 : ∀ g, (Memref.whole cc0_scratch4).view.read (Elt F) ((Memref.whole cc0_scratch4).view.writes (Elt F) g (pre_run.sl.Ho_6 c q kk vv bt le f0 f1)) = cols3 (ocol (k0_pay6 q) (wts c bt le) (chunk c kk) (chunk c vv) 5) := fun g => by
    rw [eo]; rw [hQ, hW, K04, V04, m4, o4]; exact (cols3_cons _ g _ _ 4 _ (O5 g)).trans (congrArg cols3 (ocol_step (k0_pay6 q) (wts c bt le) (chunk c kk) (chunk c vv) 4 4 rfl))
  have m5 : (pre_run.sl.v322 c q kk f0) = mcol (k0_pay6 q) (chunk c kk) 5 5 := cols_load _ _ _ 5 (M6 _)
  have l5 : (pre_run.sl.v332 c q kk bt le f0) = lcol (k0_pay6 q) (wts c bt le) (chunk c kk) 5 5 := cols_load _ _ _ 5 (L6 _)
  have o5 : (pre_run.sl.v338 c q kk vv bt le f0 f1) = ocol (k0_pay6 q) (wts c bt le) (chunk c kk) (chunk c vv) 5 5 := cols3_load _ _ _ 5 (O6 _)
  have em : (pre_run.sl.Hm_7 c q kk f0) = ⟨Rect.unit (s := S8x8) ![0, (5 : Fin 8).val] S8x1.size (inbC 5), k0_pay17 (qh (pre_run.sl.r_1 c q) 5) (k0_pay11 (pre_run.sl.v315 c kk f0)) (pre_run.sl.v322 c q kk f0)⟩ :: (pre_run.sl.Hm_6 c q kk f0) := rfl
  have el : (pre_run.sl.Hl_7 c q kk bt le f0) = ⟨Rect.unit (s := S8x8) ![0, (5 : Fin 8).val] S8x1.size (inbC 5), k0_pay18 (wch (pre_run.sl.r_3 c bt le) 0) (qh (pre_run.sl.r_1 c q) 5) (k0_pay11 (pre_run.sl.v315 c kk f0)) (pre_run.sl.v322 c q kk f0) (pre_run.sl.v332 c q kk bt le f0)⟩ :: (pre_run.sl.Hl_6 c q kk bt le f0) := rfl
  have eo : (pre_run.sl.Ho_7 c q kk vv bt le f0 f1) = ⟨Rect.unit (s := S8x8x128) ![0, (5 : Fin 8).val, 0] S8x1x128.size (inbC3 5), k0_pay16 (wch (pre_run.sl.r_3 c bt le) 0) (qh (pre_run.sl.r_1 c q) 5) (k0_pay11 (pre_run.sl.v315 c kk f0)) (pre_run.sl.v318 c vv f1) (pre_run.sl.v322 c q kk f0) (pre_run.sl.v338 c q kk vv bt le f0 f1)⟩ :: (pre_run.sl.Ho_6 c q kk vv bt le f0 f1) := rfl
  have M7 : ∀ g, (Memref.whole cc0_scratch2).view.read (Elt F) ((Memref.whole cc0_scratch2).view.writes (Elt F) g (pre_run.sl.Hm_7 c q kk f0)) = cols (mcol (k0_pay6 q) (chunk c kk) 6) := fun g => by
    rw [em]; rw [hQ, K05, m5]; exact (cols_cons _ g _ _ 5 _ (M6 g)).trans (congrArg cols (mcol_step (k0_pay6 q) (chunk c kk) 5 5 rfl))
  have L7 : ∀ g, (Memref.whole cc0_scratch3).view.read (Elt F) ((Memref.whole cc0_scratch3).view.writes (Elt F) g (pre_run.sl.Hl_7 c q kk bt le f0)) = cols (lcol (k0_pay6 q) (wts c bt le) (chunk c kk) 6) := fun g => by
    rw [el]; rw [hQ, hW, K05, m5, l5]; exact (cols_cons _ g _ _ 5 _ (L6 g)).trans (congrArg cols (lcol_step (k0_pay6 q) (wts c bt le) (chunk c kk) 5 5 rfl))
  have O7 : ∀ g, (Memref.whole cc0_scratch4).view.read (Elt F) ((Memref.whole cc0_scratch4).view.writes (Elt F) g (pre_run.sl.Ho_7 c q kk vv bt le f0 f1)) = cols3 (ocol (k0_pay6 q) (wts c bt le) (chunk c kk) (chunk c vv) 6) := fun g => by
    rw [eo]; rw [hQ, hW, K05, V05, m5, o5]; exact (cols3_cons _ g _ _ 5 _ (O6 g)).trans (congrArg cols3 (ocol_step (k0_pay6 q) (wts c bt le) (chunk c kk) (chunk c vv) 5 5 rfl))
  have m6 : (pre_run.sl.v361 c q kk f0) = mcol (k0_pay6 q) (chunk c kk) 6 6 := cols_load _ _ _ 6 (M7 _)
  have l6 : (pre_run.sl.v371 c q kk bt le f0) = lcol (k0_pay6 q) (wts c bt le) (chunk c kk) 6 6 := cols_load _ _ _ 6 (L7 _)
  have o6 : (pre_run.sl.v377 c q kk vv bt le f0 f1) = ocol (k0_pay6 q) (wts c bt le) (chunk c kk) (chunk c vv) 6 6 := cols3_load _ _ _ 6 (O7 _)
  have em : (pre_run.sl.Hm_8 c q kk f0) = ⟨Rect.unit (s := S8x8) ![0, (6 : Fin 8).val] S8x1.size (inbC 6), k0_pay17 (qh (pre_run.sl.r_1 c q) 6) (k0_pay11 (pre_run.sl.v354 c kk f0)) (pre_run.sl.v361 c q kk f0)⟩ :: (pre_run.sl.Hm_7 c q kk f0) := rfl
  have el : (pre_run.sl.Hl_8 c q kk bt le f0) = ⟨Rect.unit (s := S8x8) ![0, (6 : Fin 8).val] S8x1.size (inbC 6), k0_pay18 (wch (pre_run.sl.r_3 c bt le) 0) (qh (pre_run.sl.r_1 c q) 6) (k0_pay11 (pre_run.sl.v354 c kk f0)) (pre_run.sl.v361 c q kk f0) (pre_run.sl.v371 c q kk bt le f0)⟩ :: (pre_run.sl.Hl_7 c q kk bt le f0) := rfl
  have eo : (pre_run.sl.Ho_8 c q kk vv bt le f0 f1) = ⟨Rect.unit (s := S8x8x128) ![0, (6 : Fin 8).val, 0] S8x1x128.size (inbC3 6), k0_pay16 (wch (pre_run.sl.r_3 c bt le) 0) (qh (pre_run.sl.r_1 c q) 6) (k0_pay11 (pre_run.sl.v354 c kk f0)) (pre_run.sl.v357 c vv f1) (pre_run.sl.v361 c q kk f0) (pre_run.sl.v377 c q kk vv bt le f0 f1)⟩ :: (pre_run.sl.Ho_7 c q kk vv bt le f0 f1) := rfl
  have M8 : ∀ g, (Memref.whole cc0_scratch2).view.read (Elt F) ((Memref.whole cc0_scratch2).view.writes (Elt F) g (pre_run.sl.Hm_8 c q kk f0)) = cols (mcol (k0_pay6 q) (chunk c kk) 7) := fun g => by
    rw [em]; rw [hQ, K06, m6]; exact (cols_cons _ g _ _ 6 _ (M7 g)).trans (congrArg cols (mcol_step (k0_pay6 q) (chunk c kk) 6 6 rfl))
  have L8 : ∀ g, (Memref.whole cc0_scratch3).view.read (Elt F) ((Memref.whole cc0_scratch3).view.writes (Elt F) g (pre_run.sl.Hl_8 c q kk bt le f0)) = cols (lcol (k0_pay6 q) (wts c bt le) (chunk c kk) 7) := fun g => by
    rw [el]; rw [hQ, hW, K06, m6, l6]; exact (cols_cons _ g _ _ 6 _ (L7 g)).trans (congrArg cols (lcol_step (k0_pay6 q) (wts c bt le) (chunk c kk) 6 6 rfl))
  have O8 : ∀ g, (Memref.whole cc0_scratch4).view.read (Elt F) ((Memref.whole cc0_scratch4).view.writes (Elt F) g (pre_run.sl.Ho_8 c q kk vv bt le f0 f1)) = cols3 (ocol (k0_pay6 q) (wts c bt le) (chunk c kk) (chunk c vv) 7) := fun g => by
    rw [eo]; rw [hQ, hW, K06, V06, m6, o6]; exact (cols3_cons _ g _ _ 6 _ (O7 g)).trans (congrArg cols3 (ocol_step (k0_pay6 q) (wts c bt le) (chunk c kk) (chunk c vv) 6 6 rfl))
  have m7 : (pre_run.sl.v400 c q kk f0) = mcol (k0_pay6 q) (chunk c kk) 7 7 := cols_load _ _ _ 7 (M8 _)
  have l7 : (pre_run.sl.v410 c q kk bt le f0) = lcol (k0_pay6 q) (wts c bt le) (chunk c kk) 7 7 := cols_load _ _ _ 7 (L8 _)
  have o7 : (pre_run.sl.v416 c q kk vv bt le f0 f1) = ocol (k0_pay6 q) (wts c bt le) (chunk c kk) (chunk c vv) 7 7 := cols3_load _ _ _ 7 (O8 _)
  have em : (pre_run.sl.Hm_9 c q kk f0) = ⟨Rect.unit (s := S8x8) ![0, (7 : Fin 8).val] S8x1.size (inbC 7), k0_pay17 (qh (pre_run.sl.r_1 c q) 7) (k0_pay11 (pre_run.sl.v393 c kk f0)) (pre_run.sl.v400 c q kk f0)⟩ :: (pre_run.sl.Hm_8 c q kk f0) := rfl
  have el : (pre_run.sl.Hl_9 c q kk bt le f0) = ⟨Rect.unit (s := S8x8) ![0, (7 : Fin 8).val] S8x1.size (inbC 7), k0_pay18 (wch (pre_run.sl.r_3 c bt le) 0) (qh (pre_run.sl.r_1 c q) 7) (k0_pay11 (pre_run.sl.v393 c kk f0)) (pre_run.sl.v400 c q kk f0) (pre_run.sl.v410 c q kk bt le f0)⟩ :: (pre_run.sl.Hl_8 c q kk bt le f0) := rfl
  have eo : (pre_run.sl.Ho_9 c q kk vv bt le f0 f1) = ⟨Rect.unit (s := S8x8x128) ![0, (7 : Fin 8).val, 0] S8x1x128.size (inbC3 7), k0_pay16 (wch (pre_run.sl.r_3 c bt le) 0) (qh (pre_run.sl.r_1 c q) 7) (k0_pay11 (pre_run.sl.v393 c kk f0)) (pre_run.sl.v396 c vv f1) (pre_run.sl.v400 c q kk f0) (pre_run.sl.v416 c q kk vv bt le f0 f1)⟩ :: (pre_run.sl.Ho_8 c q kk vv bt le f0 f1) := rfl
  have M9 : ∀ g, (Memref.whole cc0_scratch2).view.read (Elt F) ((Memref.whole cc0_scratch2).view.writes (Elt F) g (pre_run.sl.Hm_9 c q kk f0)) = cols (mcol (k0_pay6 q) (chunk c kk) 8) := fun g => by
    rw [em]; rw [hQ, K07, m7]; exact (cols_cons _ g _ _ 7 _ (M8 g)).trans (congrArg cols (mcol_step (k0_pay6 q) (chunk c kk) 7 7 rfl))
  have L9 : ∀ g, (Memref.whole cc0_scratch3).view.read (Elt F) ((Memref.whole cc0_scratch3).view.writes (Elt F) g (pre_run.sl.Hl_9 c q kk bt le f0)) = cols (lcol (k0_pay6 q) (wts c bt le) (chunk c kk) 8) := fun g => by
    rw [el]; rw [hQ, hW, K07, m7, l7]; exact (cols_cons _ g _ _ 7 _ (L8 g)).trans (congrArg cols (lcol_step (k0_pay6 q) (wts c bt le) (chunk c kk) 7 7 rfl))
  have O9 : ∀ g, (Memref.whole cc0_scratch4).view.read (Elt F) ((Memref.whole cc0_scratch4).view.writes (Elt F) g (pre_run.sl.Ho_9 c q kk vv bt le f0 f1)) = cols3 (ocol (k0_pay6 q) (wts c bt le) (chunk c kk) (chunk c vv) 8) := fun g => by
    rw [eo]; rw [hQ, hW, K07, V07, m7, o7]; exact (cols3_cons _ g _ _ 7 _ (O8 g)).trans (congrArg cols3 (ocol_step (k0_pay6 q) (wts c bt le) (chunk c kk) (chunk c vv) 7 7 rfl))
  have m8 : (pre_run.sl.v450 c q kk f0) = mcol (k0_pay6 q) (chunk c kk) 8 0 := cols_load _ _ _ 0 (M9 _)
  have l8 : (pre_run.sl.v460 c q kk bt le f0) = lcol (k0_pay6 q) (wts c bt le) (chunk c kk) 8 0 := cols_load _ _ _ 0 (L9 _)
  have o8 : (pre_run.sl.v466 c q kk vv bt le f0 f1) = ocol (k0_pay6 q) (wts c bt le) (chunk c kk) (chunk c vv) 8 0 := cols3_load _ _ _ 0 (O9 _)
  have em : (pre_run.sl.Hm_10 c q kk f0) = ⟨Rect.unit (s := S8x8) ![0, (0 : Fin 8).val] S8x1.size (inbC 0), k0_pay17 (qh (pre_run.sl.r_1 c q) 0) (k0_pay11 (pre_run.sl.v443 c kk f0)) (pre_run.sl.v450 c q kk f0)⟩ :: (pre_run.sl.Hm_9 c q kk f0) := rfl
  have el : (pre_run.sl.Hl_10 c q kk bt le f0) = ⟨Rect.unit (s := S8x8) ![0, (0 : Fin 8).val] S8x1.size (inbC 0), k0_pay18 (wch (pre_run.sl.r_3 c bt le) 1) (qh (pre_run.sl.r_1 c q) 0) (k0_pay11 (pre_run.sl.v443 c kk f0)) (pre_run.sl.v450 c q kk f0) (pre_run.sl.v460 c q kk bt le f0)⟩ :: (pre_run.sl.Hl_9 c q kk bt le f0) := rfl
  have eo : (pre_run.sl.Ho_10 c q kk vv bt le f0 f1) = ⟨Rect.unit (s := S8x8x128) ![0, (0 : Fin 8).val, 0] S8x1x128.size (inbC3 0), k0_pay16 (wch (pre_run.sl.r_3 c bt le) 1) (qh (pre_run.sl.r_1 c q) 0) (k0_pay11 (pre_run.sl.v443 c kk f0)) (pre_run.sl.v446 c vv f1) (pre_run.sl.v450 c q kk f0) (pre_run.sl.v466 c q kk vv bt le f0 f1)⟩ :: (pre_run.sl.Ho_9 c q kk vv bt le f0 f1) := rfl
  have M10 : ∀ g, (Memref.whole cc0_scratch2).view.read (Elt F) ((Memref.whole cc0_scratch2).view.writes (Elt F) g (pre_run.sl.Hm_10 c q kk f0)) = cols (mcol (k0_pay6 q) (chunk c kk) 9) := fun g => by
    rw [em]; rw [hQ, K10, m8]; exact (cols_cons _ g _ _ 0 _ (M9 g)).trans (congrArg cols (mcol_step (k0_pay6 q) (chunk c kk) 8 0 rfl))
  have L10 : ∀ g, (Memref.whole cc0_scratch3).view.read (Elt F) ((Memref.whole cc0_scratch3).view.writes (Elt F) g (pre_run.sl.Hl_10 c q kk bt le f0)) = cols (lcol (k0_pay6 q) (wts c bt le) (chunk c kk) 9) := fun g => by
    rw [el]; rw [hQ, hW, K10, m8, l8]; exact (cols_cons _ g _ _ 0 _ (L9 g)).trans (congrArg cols (lcol_step (k0_pay6 q) (wts c bt le) (chunk c kk) 8 0 rfl))
  have O10 : ∀ g, (Memref.whole cc0_scratch4).view.read (Elt F) ((Memref.whole cc0_scratch4).view.writes (Elt F) g (pre_run.sl.Ho_10 c q kk vv bt le f0 f1)) = cols3 (ocol (k0_pay6 q) (wts c bt le) (chunk c kk) (chunk c vv) 9) := fun g => by
    rw [eo]; rw [hQ, hW, K10, V10, m8, o8]; exact (cols3_cons _ g _ _ 0 _ (O9 g)).trans (congrArg cols3 (ocol_step (k0_pay6 q) (wts c bt le) (chunk c kk) (chunk c vv) 8 0 rfl))
  have m9 : (pre_run.sl.v489 c q kk f0) = mcol (k0_pay6 q) (chunk c kk) 9 1 := cols_load _ _ _ 1 (M10 _)
  have l9 : (pre_run.sl.v499 c q kk bt le f0) = lcol (k0_pay6 q) (wts c bt le) (chunk c kk) 9 1 := cols_load _ _ _ 1 (L10 _)
  have o9 : (pre_run.sl.v505 c q kk vv bt le f0 f1) = ocol (k0_pay6 q) (wts c bt le) (chunk c kk) (chunk c vv) 9 1 := cols3_load _ _ _ 1 (O10 _)
  have em : (pre_run.sl.Hm_11 c q kk f0) = ⟨Rect.unit (s := S8x8) ![0, (1 : Fin 8).val] S8x1.size (inbC 1), k0_pay17 (qh (pre_run.sl.r_1 c q) 1) (k0_pay11 (pre_run.sl.v482 c kk f0)) (pre_run.sl.v489 c q kk f0)⟩ :: (pre_run.sl.Hm_10 c q kk f0) := rfl
  have el : (pre_run.sl.Hl_11 c q kk bt le f0) = ⟨Rect.unit (s := S8x8) ![0, (1 : Fin 8).val] S8x1.size (inbC 1), k0_pay18 (wch (pre_run.sl.r_3 c bt le) 1) (qh (pre_run.sl.r_1 c q) 1) (k0_pay11 (pre_run.sl.v482 c kk f0)) (pre_run.sl.v489 c q kk f0) (pre_run.sl.v499 c q kk bt le f0)⟩ :: (pre_run.sl.Hl_10 c q kk bt le f0) := rfl
  have eo : (pre_run.sl.Ho_11 c q kk vv bt le f0 f1) = ⟨Rect.unit (s := S8x8x128) ![0, (1 : Fin 8).val, 0] S8x1x128.size (inbC3 1), k0_pay16 (wch (pre_run.sl.r_3 c bt le) 1) (qh (pre_run.sl.r_1 c q) 1) (k0_pay11 (pre_run.sl.v482 c kk f0)) (pre_run.sl.v485 c vv f1) (pre_run.sl.v489 c q kk f0) (pre_run.sl.v505 c q kk vv bt le f0 f1)⟩ :: (pre_run.sl.Ho_10 c q kk vv bt le f0 f1) := rfl
  have M11 : ∀ g, (Memref.whole cc0_scratch2).view.read (Elt F) ((Memref.whole cc0_scratch2).view.writes (Elt F) g (pre_run.sl.Hm_11 c q kk f0)) = cols (mcol (k0_pay6 q) (chunk c kk) 10) := fun g => by
    rw [em]; rw [hQ, K11, m9]; exact (cols_cons _ g _ _ 1 _ (M10 g)).trans (congrArg cols (mcol_step (k0_pay6 q) (chunk c kk) 9 1 rfl))
  have L11 : ∀ g, (Memref.whole cc0_scratch3).view.read (Elt F) ((Memref.whole cc0_scratch3).view.writes (Elt F) g (pre_run.sl.Hl_11 c q kk bt le f0)) = cols (lcol (k0_pay6 q) (wts c bt le) (chunk c kk) 10) := fun g => by
    rw [el]; rw [hQ, hW, K11, m9, l9]; exact (cols_cons _ g _ _ 1 _ (L10 g)).trans (congrArg cols (lcol_step (k0_pay6 q) (wts c bt le) (chunk c kk) 9 1 rfl))
  have O11 : ∀ g, (Memref.whole cc0_scratch4).view.read (Elt F) ((Memref.whole cc0_scratch4).view.writes (Elt F) g (pre_run.sl.Ho_11 c q kk vv bt le f0 f1)) = cols3 (ocol (k0_pay6 q) (wts c bt le) (chunk c kk) (chunk c vv) 10) := fun g => by
    rw [eo]; rw [hQ, hW, K11, V11, m9, o9]; exact (cols3_cons _ g _ _ 1 _ (O10 g)).trans (congrArg cols3 (ocol_step (k0_pay6 q) (wts c bt le) (chunk c kk) (chunk c vv) 9 1 rfl))
  have m10 : (pre_run.sl.v528 c q kk f0) = mcol (k0_pay6 q) (chunk c kk) 10 2 := cols_load _ _ _ 2 (M11 _)
  have l10 : (pre_run.sl.v538 c q kk bt le f0) = lcol (k0_pay6 q) (wts c bt le) (chunk c kk) 10 2 := cols_load _ _ _ 2 (L11 _)
  have o10 : (pre_run.sl.v544 c q kk vv bt le f0 f1) = ocol (k0_pay6 q) (wts c bt le) (chunk c kk) (chunk c vv) 10 2 := cols3_load _ _ _ 2 (O11 _)
  have em : (pre_run.sl.Hm_12 c q kk f0) = ⟨Rect.unit (s := S8x8) ![0, (2 : Fin 8).val] S8x1.size (inbC 2), k0_pay17 (qh (pre_run.sl.r_1 c q) 2) (k0_pay11 (pre_run.sl.v521 c kk f0)) (pre_run.sl.v528 c q kk f0)⟩ :: (pre_run.sl.Hm_11 c q kk f0) := rfl
  have el : (pre_run.sl.Hl_12 c q kk bt le f0) = ⟨Rect.unit (s := S8x8) ![0, (2 : Fin 8).val] S8x1.size (inbC 2), k0_pay18 (wch (pre_run.sl.r_3 c bt le) 1) (qh (pre_run.sl.r_1 c q) 2) (k0_pay11 (pre_run.sl.v521 c kk f0)) (pre_run.sl.v528 c q kk f0) (pre_run.sl.v538 c q kk bt le f0)⟩ :: (pre_run.sl.Hl_11 c q kk bt le f0) := rfl
  have eo : (pre_run.sl.Ho_12 c q kk vv bt le f0 f1) = ⟨Rect.unit (s := S8x8x128) ![0, (2 : Fin 8).val, 0] S8x1x128.size (inbC3 2), k0_pay16 (wch (pre_run.sl.r_3 c bt le) 1) (qh (pre_run.sl.r_1 c q) 2) (k0_pay11 (pre_run.sl.v521 c kk f0)) (pre_run.sl.v524 c vv f1) (pre_run.sl.v528 c q kk f0) (pre_run.sl.v544 c q kk vv bt le f0 f1)⟩ :: (pre_run.sl.Ho_11 c q kk vv bt le f0 f1) := rfl
  have M12 : ∀ g, (Memref.whole cc0_scratch2).view.read (Elt F) ((Memref.whole cc0_scratch2).view.writes (Elt F) g (pre_run.sl.Hm_12 c q kk f0)) = cols (mcol (k0_pay6 q) (chunk c kk) 11) := fun g => by
    rw [em]; rw [hQ, K12, m10]; exact (cols_cons _ g _ _ 2 _ (M11 g)).trans (congrArg cols (mcol_step (k0_pay6 q) (chunk c kk) 10 2 rfl))
  have L12 : ∀ g, (Memref.whole cc0_scratch3).view.read (Elt F) ((Memref.whole cc0_scratch3).view.writes (Elt F) g (pre_run.sl.Hl_12 c q kk bt le f0)) = cols (lcol (k0_pay6 q) (wts c bt le) (chunk c kk) 11) := fun g => by
    rw [el]; rw [hQ, hW, K12, m10, l10]; exact (cols_cons _ g _ _ 2 _ (L11 g)).trans (congrArg cols (lcol_step (k0_pay6 q) (wts c bt le) (chunk c kk) 10 2 rfl))
  have O12 : ∀ g, (Memref.whole cc0_scratch4).view.read (Elt F) ((Memref.whole cc0_scratch4).view.writes (Elt F) g (pre_run.sl.Ho_12 c q kk vv bt le f0 f1)) = cols3 (ocol (k0_pay6 q) (wts c bt le) (chunk c kk) (chunk c vv) 11) := fun g => by
    rw [eo]; rw [hQ, hW, K12, V12, m10, o10]; exact (cols3_cons _ g _ _ 2 _ (O11 g)).trans (congrArg cols3 (ocol_step (k0_pay6 q) (wts c bt le) (chunk c kk) (chunk c vv) 10 2 rfl))
  have m11 : (pre_run.sl.v567 c q kk f0) = mcol (k0_pay6 q) (chunk c kk) 11 3 := cols_load _ _ _ 3 (M12 _)
  have l11 : (pre_run.sl.v577 c q kk bt le f0) = lcol (k0_pay6 q) (wts c bt le) (chunk c kk) 11 3 := cols_load _ _ _ 3 (L12 _)
  have o11 : (pre_run.sl.v583 c q kk vv bt le f0 f1) = ocol (k0_pay6 q) (wts c bt le) (chunk c kk) (chunk c vv) 11 3 := cols3_load _ _ _ 3 (O12 _)
  have em : (pre_run.sl.Hm_13 c q kk f0) = ⟨Rect.unit (s := S8x8) ![0, (3 : Fin 8).val] S8x1.size (inbC 3), k0_pay17 (qh (pre_run.sl.r_1 c q) 3) (k0_pay11 (pre_run.sl.v560 c kk f0)) (pre_run.sl.v567 c q kk f0)⟩ :: (pre_run.sl.Hm_12 c q kk f0) := rfl
  have el : (pre_run.sl.Hl_13 c q kk bt le f0) = ⟨Rect.unit (s := S8x8) ![0, (3 : Fin 8).val] S8x1.size (inbC 3), k0_pay18 (wch (pre_run.sl.r_3 c bt le) 1) (qh (pre_run.sl.r_1 c q) 3) (k0_pay11 (pre_run.sl.v560 c kk f0)) (pre_run.sl.v567 c q kk f0) (pre_run.sl.v577 c q kk bt le f0)⟩ :: (pre_run.sl.Hl_12 c q kk bt le f0) := rfl
  have eo : (pre_run.sl.Ho_13 c q kk vv bt le f0 f1) = ⟨Rect.unit (s := S8x8x128) ![0, (3 : Fin 8).val, 0] S8x1x128.size (inbC3 3), k0_pay16 (wch (pre_run.sl.r_3 c bt le) 1) (qh (pre_run.sl.r_1 c q) 3) (k0_pay11 (pre_run.sl.v560 c kk f0)) (pre_run.sl.v563 c vv f1) (pre_run.sl.v567 c q kk f0) (pre_run.sl.v583 c q kk vv bt le f0 f1)⟩ :: (pre_run.sl.Ho_12 c q kk vv bt le f0 f1) := rfl
  have M13 : ∀ g, (Memref.whole cc0_scratch2).view.read (Elt F) ((Memref.whole cc0_scratch2).view.writes (Elt F) g (pre_run.sl.Hm_13 c q kk f0)) = cols (mcol (k0_pay6 q) (chunk c kk) 12) := fun g => by
    rw [em]; rw [hQ, K13, m11]; exact (cols_cons _ g _ _ 3 _ (M12 g)).trans (congrArg cols (mcol_step (k0_pay6 q) (chunk c kk) 11 3 rfl))
  have L13 : ∀ g, (Memref.whole cc0_scratch3).view.read (Elt F) ((Memref.whole cc0_scratch3).view.writes (Elt F) g (pre_run.sl.Hl_13 c q kk bt le f0)) = cols (lcol (k0_pay6 q) (wts c bt le) (chunk c kk) 12) := fun g => by
    rw [el]; rw [hQ, hW, K13, m11, l11]; exact (cols_cons _ g _ _ 3 _ (L12 g)).trans (congrArg cols (lcol_step (k0_pay6 q) (wts c bt le) (chunk c kk) 11 3 rfl))
  have O13 : ∀ g, (Memref.whole cc0_scratch4).view.read (Elt F) ((Memref.whole cc0_scratch4).view.writes (Elt F) g (pre_run.sl.Ho_13 c q kk vv bt le f0 f1)) = cols3 (ocol (k0_pay6 q) (wts c bt le) (chunk c kk) (chunk c vv) 12) := fun g => by
    rw [eo]; rw [hQ, hW, K13, V13, m11, o11]; exact (cols3_cons _ g _ _ 3 _ (O12 g)).trans (congrArg cols3 (ocol_step (k0_pay6 q) (wts c bt le) (chunk c kk) (chunk c vv) 11 3 rfl))
  have m12 : (pre_run.sl.v606 c q kk f0) = mcol (k0_pay6 q) (chunk c kk) 12 4 := cols_load _ _ _ 4 (M13 _)
  have l12 : (pre_run.sl.v616 c q kk bt le f0) = lcol (k0_pay6 q) (wts c bt le) (chunk c kk) 12 4 := cols_load _ _ _ 4 (L13 _)
  have o12 : (pre_run.sl.v622 c q kk vv bt le f0 f1) = ocol (k0_pay6 q) (wts c bt le) (chunk c kk) (chunk c vv) 12 4 := cols3_load _ _ _ 4 (O13 _)
  have em : (pre_run.sl.Hm_14 c q kk f0) = ⟨Rect.unit (s := S8x8) ![0, (4 : Fin 8).val] S8x1.size (inbC 4), k0_pay17 (qh (pre_run.sl.r_1 c q) 4) (k0_pay11 (pre_run.sl.v599 c kk f0)) (pre_run.sl.v606 c q kk f0)⟩ :: (pre_run.sl.Hm_13 c q kk f0) := rfl
  have el : (pre_run.sl.Hl_14 c q kk bt le f0) = ⟨Rect.unit (s := S8x8) ![0, (4 : Fin 8).val] S8x1.size (inbC 4), k0_pay18 (wch (pre_run.sl.r_3 c bt le) 1) (qh (pre_run.sl.r_1 c q) 4) (k0_pay11 (pre_run.sl.v599 c kk f0)) (pre_run.sl.v606 c q kk f0) (pre_run.sl.v616 c q kk bt le f0)⟩ :: (pre_run.sl.Hl_13 c q kk bt le f0) := rfl
  have eo : (pre_run.sl.Ho_14 c q kk vv bt le f0 f1) = ⟨Rect.unit (s := S8x8x128) ![0, (4 : Fin 8).val, 0] S8x1x128.size (inbC3 4), k0_pay16 (wch (pre_run.sl.r_3 c bt le) 1) (qh (pre_run.sl.r_1 c q) 4) (k0_pay11 (pre_run.sl.v599 c kk f0)) (pre_run.sl.v602 c vv f1) (pre_run.sl.v606 c q kk f0) (pre_run.sl.v622 c q kk vv bt le f0 f1)⟩ :: (pre_run.sl.Ho_13 c q kk vv bt le f0 f1) := rfl
  have M14 : ∀ g, (Memref.whole cc0_scratch2).view.read (Elt F) ((Memref.whole cc0_scratch2).view.writes (Elt F) g (pre_run.sl.Hm_14 c q kk f0)) = cols (mcol (k0_pay6 q) (chunk c kk) 13) := fun g => by
    rw [em]; rw [hQ, K14, m12]; exact (cols_cons _ g _ _ 4 _ (M13 g)).trans (congrArg cols (mcol_step (k0_pay6 q) (chunk c kk) 12 4 rfl))
  have L14 : ∀ g, (Memref.whole cc0_scratch3).view.read (Elt F) ((Memref.whole cc0_scratch3).view.writes (Elt F) g (pre_run.sl.Hl_14 c q kk bt le f0)) = cols (lcol (k0_pay6 q) (wts c bt le) (chunk c kk) 13) := fun g => by
    rw [el]; rw [hQ, hW, K14, m12, l12]; exact (cols_cons _ g _ _ 4 _ (L13 g)).trans (congrArg cols (lcol_step (k0_pay6 q) (wts c bt le) (chunk c kk) 12 4 rfl))
  have O14 : ∀ g, (Memref.whole cc0_scratch4).view.read (Elt F) ((Memref.whole cc0_scratch4).view.writes (Elt F) g (pre_run.sl.Ho_14 c q kk vv bt le f0 f1)) = cols3 (ocol (k0_pay6 q) (wts c bt le) (chunk c kk) (chunk c vv) 13) := fun g => by
    rw [eo]; rw [hQ, hW, K14, V14, m12, o12]; exact (cols3_cons _ g _ _ 4 _ (O13 g)).trans (congrArg cols3 (ocol_step (k0_pay6 q) (wts c bt le) (chunk c kk) (chunk c vv) 12 4 rfl))
  have m13 : (pre_run.sl.v645 c q kk f0) = mcol (k0_pay6 q) (chunk c kk) 13 5 := cols_load _ _ _ 5 (M14 _)
  have l13 : (pre_run.sl.v655 c q kk bt le f0) = lcol (k0_pay6 q) (wts c bt le) (chunk c kk) 13 5 := cols_load _ _ _ 5 (L14 _)
  have o13 : (pre_run.sl.v661 c q kk vv bt le f0 f1) = ocol (k0_pay6 q) (wts c bt le) (chunk c kk) (chunk c vv) 13 5 := cols3_load _ _ _ 5 (O14 _)
  have em : (pre_run.sl.Hm_15 c q kk f0) = ⟨Rect.unit (s := S8x8) ![0, (5 : Fin 8).val] S8x1.size (inbC 5), k0_pay17 (qh (pre_run.sl.r_1 c q) 5) (k0_pay11 (pre_run.sl.v638 c kk f0)) (pre_run.sl.v645 c q kk f0)⟩ :: (pre_run.sl.Hm_14 c q kk f0) := rfl
  have el : (pre_run.sl.Hl_15 c q kk bt le f0) = ⟨Rect.unit (s := S8x8) ![0, (5 : Fin 8).val] S8x1.size (inbC 5), k0_pay18 (wch (pre_run.sl.r_3 c bt le) 1) (qh (pre_run.sl.r_1 c q) 5) (k0_pay11 (pre_run.sl.v638 c kk f0)) (pre_run.sl.v645 c q kk f0) (pre_run.sl.v655 c q kk bt le f0)⟩ :: (pre_run.sl.Hl_14 c q kk bt le f0) := rfl
  have eo : (pre_run.sl.Ho_15 c q kk vv bt le f0 f1) = ⟨Rect.unit (s := S8x8x128) ![0, (5 : Fin 8).val, 0] S8x1x128.size (inbC3 5), k0_pay16 (wch (pre_run.sl.r_3 c bt le) 1) (qh (pre_run.sl.r_1 c q) 5) (k0_pay11 (pre_run.sl.v638 c kk f0)) (pre_run.sl.v641 c vv f1) (pre_run.sl.v645 c q kk f0) (pre_run.sl.v661 c q kk vv bt le f0 f1)⟩ :: (pre_run.sl.Ho_14 c q kk vv bt le f0 f1) := rfl
  have M15 : ∀ g, (Memref.whole cc0_scratch2).view.read (Elt F) ((Memref.whole cc0_scratch2).view.writes (Elt F) g (pre_run.sl.Hm_15 c q kk f0)) = cols (mcol (k0_pay6 q) (chunk c kk) 14) := fun g => by
    rw [em]; rw [hQ, K15, m13]; exact (cols_cons _ g _ _ 5 _ (M14 g)).trans (congrArg cols (mcol_step (k0_pay6 q) (chunk c kk) 13 5 rfl))
  have L15 : ∀ g, (Memref.whole cc0_scratch3).view.read (Elt F) ((Memref.whole cc0_scratch3).view.writes (Elt F) g (pre_run.sl.Hl_15 c q kk bt le f0)) = cols (lcol (k0_pay6 q) (wts c bt le) (chunk c kk) 14) := fun g => by
    rw [el]; rw [hQ, hW, K15, m13, l13]; exact (cols_cons _ g _ _ 5 _ (L14 g)).trans (congrArg cols (lcol_step (k0_pay6 q) (wts c bt le) (chunk c kk) 13 5 rfl))
  have O15 : ∀ g, (Memref.whole cc0_scratch4).view.read (Elt F) ((Memref.whole cc0_scratch4).view.writes (Elt F) g (pre_run.sl.Ho_15 c q kk vv bt le f0 f1)) = cols3 (ocol (k0_pay6 q) (wts c bt le) (chunk c kk) (chunk c vv) 14) := fun g => by
    rw [eo]; rw [hQ, hW, K15, V15, m13, o13]; exact (cols3_cons _ g _ _ 5 _ (O14 g)).trans (congrArg cols3 (ocol_step (k0_pay6 q) (wts c bt le) (chunk c kk) (chunk c vv) 13 5 rfl))
  have m14 : (pre_run.sl.v684 c q kk f0) = mcol (k0_pay6 q) (chunk c kk) 14 6 := cols_load _ _ _ 6 (M15 _)
  have l14 : (pre_run.sl.v694 c q kk bt le f0) = lcol (k0_pay6 q) (wts c bt le) (chunk c kk) 14 6 := cols_load _ _ _ 6 (L15 _)
  have o14 : (pre_run.sl.v700 c q kk vv bt le f0 f1) = ocol (k0_pay6 q) (wts c bt le) (chunk c kk) (chunk c vv) 14 6 := cols3_load _ _ _ 6 (O15 _)
  have em : (pre_run.sl.Hm_16 c q kk f0) = ⟨Rect.unit (s := S8x8) ![0, (6 : Fin 8).val] S8x1.size (inbC 6), k0_pay17 (qh (pre_run.sl.r_1 c q) 6) (k0_pay11 (pre_run.sl.v677 c kk f0)) (pre_run.sl.v684 c q kk f0)⟩ :: (pre_run.sl.Hm_15 c q kk f0) := rfl
  have el : (pre_run.sl.Hl_16 c q kk bt le f0) = ⟨Rect.unit (s := S8x8) ![0, (6 : Fin 8).val] S8x1.size (inbC 6), k0_pay18 (wch (pre_run.sl.r_3 c bt le) 1) (qh (pre_run.sl.r_1 c q) 6) (k0_pay11 (pre_run.sl.v677 c kk f0)) (pre_run.sl.v684 c q kk f0) (pre_run.sl.v694 c q kk bt le f0)⟩ :: (pre_run.sl.Hl_15 c q kk bt le f0) := rfl
  have eo : (pre_run.sl.Ho_16 c q kk vv bt le f0 f1) = ⟨Rect.unit (s := S8x8x128) ![0, (6 : Fin 8).val, 0] S8x1x128.size (inbC3 6), k0_pay16 (wch (pre_run.sl.r_3 c bt le) 1) (qh (pre_run.sl.r_1 c q) 6) (k0_pay11 (pre_run.sl.v677 c kk f0)) (pre_run.sl.v680 c vv f1) (pre_run.sl.v684 c q kk f0) (pre_run.sl.v700 c q kk vv bt le f0 f1)⟩ :: (pre_run.sl.Ho_15 c q kk vv bt le f0 f1) := rfl
  have M16 : ∀ g, (Memref.whole cc0_scratch2).view.read (Elt F) ((Memref.whole cc0_scratch2).view.writes (Elt F) g (pre_run.sl.Hm_16 c q kk f0)) = cols (mcol (k0_pay6 q) (chunk c kk) 15) := fun g => by
    rw [em]; rw [hQ, K16, m14]; exact (cols_cons _ g _ _ 6 _ (M15 g)).trans (congrArg cols (mcol_step (k0_pay6 q) (chunk c kk) 14 6 rfl))
  have L16 : ∀ g, (Memref.whole cc0_scratch3).view.read (Elt F) ((Memref.whole cc0_scratch3).view.writes (Elt F) g (pre_run.sl.Hl_16 c q kk bt le f0)) = cols (lcol (k0_pay6 q) (wts c bt le) (chunk c kk) 15) := fun g => by
    rw [el]; rw [hQ, hW, K16, m14, l14]; exact (cols_cons _ g _ _ 6 _ (L15 g)).trans (congrArg cols (lcol_step (k0_pay6 q) (wts c bt le) (chunk c kk) 14 6 rfl))
  have O16 : ∀ g, (Memref.whole cc0_scratch4).view.read (Elt F) ((Memref.whole cc0_scratch4).view.writes (Elt F) g (pre_run.sl.Ho_16 c q kk vv bt le f0 f1)) = cols3 (ocol (k0_pay6 q) (wts c bt le) (chunk c kk) (chunk c vv) 15) := fun g => by
    rw [eo]; rw [hQ, hW, K16, V16, m14, o14]; exact (cols3_cons _ g _ _ 6 _ (O15 g)).trans (congrArg cols3 (ocol_step (k0_pay6 q) (wts c bt le) (chunk c kk) (chunk c vv) 14 6 rfl))
  have m15 : (pre_run.sl.v723 c q kk f0) = mcol (k0_pay6 q) (chunk c kk) 15 7 := cols_load _ _ _ 7 (M16 _)
  have l15 : (pre_run.sl.v733 c q kk bt le f0) = lcol (k0_pay6 q) (wts c bt le) (chunk c kk) 15 7 := cols_load _ _ _ 7 (L16 _)
  have o15 : (pre_run.sl.v739 c q kk vv bt le f0 f1) = ocol (k0_pay6 q) (wts c bt le) (chunk c kk) (chunk c vv) 15 7 := cols3_load _ _ _ 7 (O16 _)
  have M17 : ∀ g, (Memref.whole cc0_scratch2).view.read (Elt F) ((Memref.whole cc0_scratch2).view.writes (Elt F) g (⟨Rect.unit (s := S8x8) ![0, (7 : Fin 8).val] S8x1.size (inbC 7), k0_pay17 (qh (pre_run.sl.r_1 c q) 7) (k0_pay11 (pre_run.sl.v716 c kk f0)) (pre_run.sl.v723 c q kk f0)⟩ :: (pre_run.sl.Hm_16 c q kk f0))) = cols (mcol (k0_pay6 q) (chunk c kk) 16) := fun g => by
    rw [hQ, K17, m15]; exact (cols_cons _ g _ _ 7 _ (M16 g)).trans (congrArg cols (mcol_step (k0_pay6 q) (chunk c kk) 15 7 rfl))
  have L17 : ∀ g, (Memref.whole cc0_scratch3).view.read (Elt F) ((Memref.whole cc0_scratch3).view.writes (Elt F) g (⟨Rect.unit (s := S8x8) ![0, (7 : Fin 8).val] S8x1.size (inbC 7), k0_pay18 (wch (pre_run.sl.r_3 c bt le) 1) (qh (pre_run.sl.r_1 c q) 7) (k0_pay11 (pre_run.sl.v716 c kk f0)) (pre_run.sl.v723 c q kk f0) (pre_run.sl.v733 c q kk bt le f0)⟩ :: (pre_run.sl.Hl_16 c q kk bt le f0))) = cols (lcol (k0_pay6 q) (wts c bt le) (chunk c kk) 16) := fun g => by
    rw [hQ, hW, K17, m15, l15]; exact (cols_cons _ g _ _ 7 _ (L16 g)).trans (congrArg cols (lcol_step (k0_pay6 q) (wts c bt le) (chunk c kk) 15 7 rfl))
  have O17 : ∀ g, (Memref.whole cc0_scratch4).view.read (Elt F) ((Memref.whole cc0_scratch4).view.writes (Elt F) g (⟨Rect.unit (s := S8x8x128) ![0, (7 : Fin 8).val, 0] S8x1x128.size (inbC3 7), k0_pay16 (wch (pre_run.sl.r_3 c bt le) 1) (qh (pre_run.sl.r_1 c q) 7) (k0_pay11 (pre_run.sl.v716 c kk f0)) (pre_run.sl.v719 c vv f1) (pre_run.sl.v723 c q kk f0) (pre_run.sl.v739 c q kk vv bt le f0 f1)⟩ :: (pre_run.sl.Ho_16 c q kk vv bt le f0 f1))) = cols3 (ocol (k0_pay6 q) (wts c bt le) (chunk c kk) (chunk c vv) 16) := fun g => by
    rw [hQ, hW, K17, V17, m15, o15]; exact (cols3_cons _ g _ _ 7 _ (O16 g)).trans (congrArg cols3 (ocol_step (k0_pay6 q) (wts c bt le) (chunk c kk) (chunk c vv) 15 7 rfl))
  have eM : (Memref.whole cc0_scratch2).view.writes (Elt F) f2 (⟨Rect.unit ![0, 7] S8x1.size inb_S8x8_S8x1_0_7, k0_pay149 (pre_run.sl.r_44 c q) (pre_run.sl.r_45 c kk f0) (pre_run.sl.v723 c q kk f0)⟩ :: pre_run.sl.Hm_16 c q kk f0) = mAcc c q kk := M17 f2
  ihave Hm := (Entails.of_eq (congrArg (fun g => ((Memref.whole cc0_scratch2).view.loc (c : Thread nD τ) ↦{fullShare} g : sProp 𝕄)) eM)) $$ Hm
  have eL : (Memref.whole cc0_scratch3).view.writes (Elt F) f3 (⟨Rect.unit ![0, 7] S8x1.size inb_S8x8_S8x1_0_7, k0_pay150 (pre_run.sl.r_24 c bt le) (pre_run.sl.r_44 c q) (pre_run.sl.r_45 c kk f0) (pre_run.sl.v723 c q kk f0) (pre_run.sl.v733 c q kk bt le f0)⟩ :: pre_run.sl.Hl_16 c q kk bt le f0) = lAcc c q kk bt le := L17 f3
  ihave Hl := (Entails.of_eq (congrArg (fun g => ((Memref.whole cc0_scratch3).view.loc (c : Thread nD τ) ↦{fullShare} g : sProp 𝕄)) eL)) $$ Hl
  have eO : (Memref.whole cc0_scratch4).view.writes (Elt F) f4 (⟨Rect.unit ![0, 7, 0] S8x1x128.size inb_S8x8x128_S8x1x128_0_7_0, k0_pay148 (pre_run.sl.r_24 c bt le) (pre_run.sl.r_44 c q) (pre_run.sl.r_45 c kk f0) (pre_run.sl.v719 c vv f1) (pre_run.sl.v723 c q kk f0) (pre_run.sl.v739 c q kk vv bt le f0 f1)⟩ :: pre_run.sl.Ho_16 c q kk vv bt le f0 f1) = oAcc c q kk vv bt le := O17 f4
  ihave Ho := (Entails.of_eq (congrArg (fun g => ((Memref.whole cc0_scratch4).view.loc (c : Thread nD τ) ↦{fullShare} g : sProp 𝕄)) eO)) $$ Ho
  simp only [wp_ret, fupd_wp_eq]
  imodintro
  iapply Hk
  isplitl [Hq HK0 HK1 HV0 HV1 Hbt Hle Hs4 Hs5 Hs6 Hs7]
  · iframe Hq HK0 HK1 HV0 HV1 Hbt Hle Hs4 Hs5 Hs6 Hs7
  isplitl [Hkb]
  · iexists _; iexact Hkb
  isplitl [Hvb]
  · iexists _; iexact Hvb
  isplitl [Hm]
  · iexact Hm
  isplitl [Hl]
  · iexact Hl
  isplitl [Ho]
  · iexact Ho
  unfold owesAny
  iexists _
  iexact HO

end Cert.PagedProof

end
-- ==== Proof.Post.lean ====
/-
The second half of the body: the handshake, the 24 transfers, their waits, and the combination, run once at a symbolic device.
-/
module

public import proofs.«01_k».proof.Proof.Steps
public import proofs.«01_k».proof.Proof.Split
public import Idealize.ShloMosaic.Lib.VecWindow

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (AM : Dev nD → (cc0_scratch2 : Ref sig .tc).ty.Contents (Elt F)) (AL : Dev nD → (cc0_scratch3 : Ref sig .tc).ty.Contents (Elt F))
  (AO : Dev nD → (cc0_scratch4 : Ref sig .tc).ty.Contents (Elt F)) (K : Dev nD × Fin 49 → ℕ)

/-! ## Bundles -/

/-- What device `c` signals device `t` with. -/
def sigR (c t : Dev nD) : sProp 𝕄 := iprop(dutyTok ER (kcell (t, 0)) 0 c ∗ barPay (F := F) t c)
/-- The tokens of the transfer of array `i` from `c` to `t`. -/
def tokR (c t : Dev nD) (i : Fin 3) : sProp 𝕄 := iprop(dutyTok ER (kcell (c, ksnd t i)) 0 0 ∗ dutyTok ER (kcell (t, krcv i c)) 0 0)
def atR (c : Dev nD) (x : Fin 49) : sProp 𝕄 := atPos ER (kcell (c, x)) 0 ∅ 0
def credR (c : Dev nD) (x : Fin 49) (i : Fin 3) : sProp 𝕄 := cred (tallyAt (kcell (c, x)) () (NN i))
def srcR (c : Dev nD) (i : Fin 3) (t : Dev nD) : sProp 𝕄 := pick3 i (srcM AM c t) (srcL AL c t) (srcO AO c t)
def gotR (c : Dev nD) (i : Fin 3) (q : Dev nD) : sProp 𝕄 := pick3 i (gotM AM c q) (gotL AL c q) (gotO AO c q)
def freeR (c : Dev nD) (i : Fin 3) (t : Dev nD) : sProp 𝕄 := pick3 i (freeM (F := F) t c) (freeL (F := F) t c) (freeO (F := F) t c)
def zR (c : Dev nD) (x : Fin 49) : sProp 𝕄 := semVal (kcell (c, x)) 0

theorem bigSep_dev (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

section Curried
variable {α : Type} {Q : α → sProp (MT nD τ sig Unit (Elt F) ℕ UU ℕ)} {k : PUnit → Prog (TpuEff nD τ sig (Elt F) Λ₀ .tc) α}

theorem sig_c (c t n : Dev nD) (hn : n = t) (j : ℕ) {k' : ℕ} (hk : 1 = k') (hO : pay c (31 - j) = tallyAt (kcell (t, 0)) () 1) :
    records AM AL AO K ⊢ iprop(owesAny c (Ow c (j + 1)) -∗ sigR c t -∗ (owesAny c (Ow c j) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  iintro #HR HO Hs Hk
  unfold sigR
  icases Hs with ⟨Ht, Hp⟩
  iapply (sig_step AM AL AO K c t n hn hk (Ow c (j + 1)) (Ow c j) (by rw [Ow, hO])) $$ [HO Ht Hp]
  · iframe HR HO Ht Hp
  iexact Hk

theorem sendM_c (S Fr : Fin 3 → Dev nD → sProp (MT nD τ sig Unit (Elt F) ℕ UU ℕ)) (c t n : Dev nD) (hS : S = srcR AM AL AO c) (hF : Fr = freeR (F := F) c) (hn : n = t) (j : ℕ) (sS rS : SemLoc sig) (hs : sS = csem (ksnd t 0)) (hr : rS = csem (krcv 0 c))
    (hO : pay c (31 - j) = tallyAt (kcell (t, krcv 0 c)) () (NN 0))
    {hsc : (slotM c : Memref sig (Dev.tc n : Thread nD τ).2.kind .vmem S8x8 .f32).view.ref.isScScratch = false}
    {hsrc : (mM : Memref sig .tc .vmem S8x8 .f32).view.WordExact} {hdst : (slotM c).view.WordExact}
    {hsem : DmaTarget.Typed .vmem rS (.remote (Dev.tc n : Thread nD τ) (slotM c) sS hsc)} :
    records AM AL AO K ⊢ iprop(owesAny c (Ow c (j + 1)) -∗ S 0 t -∗ Fr 0 t -∗ tokR c t 0
          -∗ ((credR c (ksnd t 0) 0 ∗ owesAny c (Ow c j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mM : Memref sig .tc .vmem S8x8 .f32) (.remote (Dev.tc n : Thread nD τ) (slotM c) sS hsc) rS hsrc hdst hsem) k) Q) := by
  subst hS hF
  iintro #HR HO Hs Hf Ht Hk
  ihave Hs := (show srcR AM AL AO c 0 t ⊢ srcM AM c t from .rfl) $$ Hs
  ihave Hf := (show freeR (F := F) c 0 t ⊢ freeM (F := F) t c from .rfl) $$ Hf
  unfold tokR credR
  icases Ht with ⟨Ht1, Ht2⟩
  iapply (sendM AM AL AO K c t n hn sS rS hs hr (Ow c (j + 1)) (Ow c j) (by rw [Ow, hO])) $$ [HO Hs Hf Ht1 Ht2]
  · iframe HR HO Hs Hf Ht1 Ht2
  iexact Hk

theorem sendL_c (S Fr : Fin 3 → Dev nD → sProp (MT nD τ sig Unit (Elt F) ℕ UU ℕ)) (c t n : Dev nD) (hS : S = srcR AM AL AO c) (hF : Fr = freeR (F := F) c) (hn : n = t) (j : ℕ) (sS rS : SemLoc sig) (hs : sS = csem (ksnd t 1)) (hr : rS = csem (krcv 1 c))
    (hO : pay c (31 - j) = tallyAt (kcell (t, krcv 1 c)) () (NN 1))
    {hsc : (slotL c : Memref sig (Dev.tc n : Thread nD τ).2.kind .vmem S8x8 .f32).view.ref.isScScratch = false}
    {hsrc : (lM : Memref sig .tc .vmem S8x8 .f32).view.WordExact} {hdst : (slotL c).view.WordExact}
    {hsem : DmaTarget.Typed .vmem rS (.remote (Dev.tc n : Thread nD τ) (slotL c) sS hsc)} :
    records AM AL AO K ⊢ iprop(owesAny c (Ow c (j + 1)) -∗ S 1 t -∗ Fr 1 t -∗ tokR c t 1
          -∗ ((credR c (ksnd t 1) 1 ∗ owesAny c (Ow c j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lM : Memref sig .tc .vmem S8x8 .f32) (.remote (Dev.tc n : Thread nD τ) (slotL c) sS hsc) rS hsrc hdst hsem) k) Q) := by
  subst hS hF
  iintro #HR HO Hs Hf Ht Hk
  ihave Hs := (show srcR AM AL AO c 1 t ⊢ srcL AL c t from .rfl) $$ Hs
  ihave Hf := (show freeR (F := F) c 1 t ⊢ freeL (F := F) t c from .rfl) $$ Hf
  unfold tokR credR
  icases Ht with ⟨Ht1, Ht2⟩
  iapply (sendL AM AL AO K c t n hn sS rS hs hr (Ow c (j + 1)) (Ow c j) (by rw [Ow, hO])) $$ [HO Hs Hf Ht1 Ht2]
  · iframe HR HO Hs Hf Ht1 Ht2
  iexact Hk

theorem sendO_c (S Fr : Fin 3 → Dev nD → sProp (MT nD τ sig Unit (Elt F) ℕ UU ℕ)) (c t n : Dev nD) (hS : S = srcR AM AL AO c) (hF : Fr = freeR (F := F) c) (hn : n = t) (j : ℕ) (sS rS : SemLoc sig) (hs : sS = csem (ksnd t 2)) (hr : rS = csem (krcv 2 c))
    (hO : pay c (31 - j) = tallyAt (kcell (t, krcv 2 c)) () (NN 2))
    {hsc : (slotO c : Memref sig (Dev.tc n : Thread nD τ).2.kind .vmem S8x8x128 .f32).view.ref.isScScratch = false}
    {hsrc : (oM : Memref sig .tc .vmem S8x8x128 .f32).view.WordExact} {hdst : (slotO c).view.WordExact}
    {hsem : DmaTarget.Typed .vmem rS (.remote (Dev.tc n : Thread nD τ) (slotO c) sS hsc)} :
    records AM AL AO K ⊢ iprop(owesAny c (Ow c (j + 1)) -∗ S 2 t -∗ Fr 2 t -∗ tokR c t 2
          -∗ ((credR c (ksnd t 2) 2 ∗ owesAny c (Ow c j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM : Memref sig .tc .vmem S8x8x128 .f32) (.remote (Dev.tc n : Thread nD τ) (slotO c) sS hsc) rS hsrc hdst hsem) k) Q) := by
  subst hS hF
  iintro #HR HO Hs Hf Ht Hk
  ihave Hs := (show srcR AM AL AO c 2 t ⊢ srcO AO c t from .rfl) $$ Hs
  ihave Hf := (show freeR (F := F) c 2 t ⊢ freeO (F := F) t c from .rfl) $$ Hf
  unfold tokR credR
  icases Ht with ⟨Ht1, Ht2⟩
  iapply (sendO AM AL AO K c t n hn sS rS hs hr (Ow c (j + 1)) (Ow c j) (by rw [Ow, hO])) $$ [HO Hs Hf Ht1 Ht2]
  · iframe HR HO Hs Hf Ht1 Ht2
  iexact Hk

theorem wait_snd_c (S : Fin 3 → Dev nD → sProp (MT nD τ sig Unit (Elt F) ℕ UU ℕ)) (c t : Dev nD) (hS : S = srcR AM AL AO c) (i : Fin 3) {w : TpuEff nD τ sig (Elt F) Λ₀ .tc PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hs : sm = csem (ksnd t i)) (hk : k' = NN i) :
    records AM AL AO K ⊢ iprop(credR c (ksnd t i) i -∗ owesAny c (Ow c 0) -∗ atR c (ksnd t i)
          -∗ ((owesAny c (Ow c 0) ∗ S i t ∗ zR c (ksnd t i))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hS
  iintro #HR Hc HO Ha Hk
  unfold credR atR zR srcR
  iapply (wait_snd AM AL AO K c t i hw hs hk) $$ [Hc HO Ha]
  · isplitr; · iexact HR
    isplitl [Hc]; · iexact Hc
    isplitl [HO]; · iexact HO
    iexact Ha
  iexact Hk

theorem wait_rcv_c (S : Fin 3 → Dev nD → sProp (MT nD τ sig Unit (Elt F) ℕ UU ℕ)) (c t : Dev nD) (hS : S = gotR AM AL AO c) (i : Fin 3) {w : TpuEff nD τ sig (Elt F) Λ₀ .tc PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hs : sm = csem (krcv i t)) (hk : k' = NN i) :
    records AM AL AO K ⊢ iprop(credR c (krcv i t) i -∗ owesAny c (Ow c 0) -∗ atR c (krcv i t)
          -∗ ((owesAny c (Ow c 0) ∗ S i t ∗ zR c (krcv i t))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hS
  iintro #HR Hc HO Ha Hk
  unfold credR atR zR gotR
  iapply (wait_rcv AM AL AO K c t i hw hs hk) $$ [Hc HO Ha]
  · isplitr; · iexact HR
    isplitl [Hc]; · iexact Hc
    isplitl [HO]; · iexact HO
    iexact Ha
  iexact Hk

theorem bar_c (Fr : Fin 3 → Dev nD → sProp (MT nD τ sig Unit (Elt F) ℕ UU ℕ)) (c : Dev nD) (hF : Fr = freeR (F := F) c) {k' : ℕ} (hk : k' = 8) :
    records AM AL AO K ⊢ iprop(levAts L lv -∗ cred (tallyAt (kcell (c, 0)) () 8) -∗ owesAny c (Ow c 24) -∗ atR c 0
          -∗ ((owesAny c (Ow c 24) ∗ (bigSep Finset.univ fun d : Dev nD => iprop(Fr 0 d ∗ Fr 1 d ∗ Fr 2 d)) ∗ zR c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hF
  iintro #HR #Hlev Hc HO Ha Hk
  unfold atR zR
  iapply (bar_wait AM AL AO K c hk) $$ [Hc HO Ha]
  · iframe HR Hlev Hc HO Ha
  iexact Hk

end Curried

/-! ## The names the transfers use -/

theorem rsemM (c : Dev nD) : SemLoc.dma (((cc0_scratch11 : DmaSems sig S8).slice (Rect.unit (s := S8) (k0_off2 c) S1.size (k0_off2_inb c))).squeeze S_ squeezes_S1_S_).sem = csem (krcv 0 c) := by
  revert c; decide
theorem rsemL (c : Dev nD) : SemLoc.dma (((cc0_scratch12 : DmaSems sig S8).slice (Rect.unit (s := S8) (k0_off2 c) S1.size (k0_off2_inb c))).squeeze S_ squeezes_S1_S_).sem = csem (krcv 1 c) := by
  revert c; decide
theorem rsemO (c : Dev nD) : SemLoc.dma (((cc0_scratch13 : DmaSems sig S8).slice (Rect.unit (s := S8) (k0_off2 c) S1.size (k0_off2_inb c))).squeeze S_ squeezes_S1_S_).sem = csem (krcv 2 c) := by
  revert c; decide

/-- The result's block: the combination of what the landing arrays hold. -/
def outOf (gm : (cc0_scratch5 : Ref sig .tc).ty.Contents (Elt F)) (gl : (cc0_scratch6 : Ref sig .tc).ty.Contents (Elt F)) (go : (cc0_scratch7 : Ref sig .tc).ty.Contents (Elt F)) :
    (cc0_stg3_0 : Ref sig .tc).ty.Contents (Elt F) :=
  k0_pay1 (k0_pay151 ((Memref.whole cc0_scratch5).view.readAt (Elt F) (Rect.unit (s := S8x8x8) ![0, 0, 0] S8x8x8.size inb_S8x8x8_S8x8x8_0_0_0).toLoadRect gm)) (k0_pay152 ((Memref.whole cc0_scratch5).view.readAt (Elt F) (Rect.unit (s := S8x8x8) ![0, 0, 0] S8x8x8.size inb_S8x8x8_S8x8x8_0_0_0).toLoadRect gm) ((Memref.whole cc0_scratch6).view.readAt (Elt F) (Rect.unit (s := S8x8x8) ![0, 0, 0] S8x8x8.size inb_S8x8x8_S8x8x8_0_0_0).toLoadRect gl))
    (k0_pay157 (k0_pay155 (k0_pay151 ((Memref.whole cc0_scratch5).view.readAt (Elt F) (Rect.unit (s := S8x8x8) ![0, 0, 0] S8x8x8.size inb_S8x8x8_S8x8x8_0_0_0).toLoadRect gm)) (k0_pay153 (F := F)) (k0_pay154 ((Memref.whole cc0_scratch5).view.readAt (Elt F) (Rect.unit (s := S8x8x8) ![0, 0, 0] S8x8x8.size inb_S8x8x8_S8x8x8_0_0_0).toLoadRect gm) ((Memref.whole cc0_scratch7).view.readAt (Elt F) (Rect.unit (s := S8x8x8x128) ![0, 0, 0, 0] S1x8x8x128.size inb_S8x8x8x128_S1x8x8x128_0_0_0_0).toLoadRect go)) ((Memref.whole cc0_scratch7).view.readAt (Elt F) (Rect.unit (s := S8x8x8x128) ![1, 0, 0, 0] S1x8x8x128.size inb_S8x8x8x128_S1x8x8x128_1_0_0_0).toLoadRect go) ((Memref.whole cc0_scratch7).view.readAt (Elt F) (Rect.unit (s := S8x8x8x128) ![2, 0, 0, 0] S1x8x8x128.size inb_S8x8x8x128_S1x8x8x128_2_0_0_0).toLoadRect go) ((Memref.whole cc0_scratch7).view.readAt (Elt F) (Rect.unit (s := S8x8x8x128) ![3, 0, 0, 0] S1x8x8x128.size inb_S8x8x8x128_S1x8x8x128_3_0_0_0).toLoadRect go) ((Memref.whole cc0_scratch7).view.readAt (Elt F) (Rect.unit (s := S8x8x8x128) ![4, 0, 0, 0] S1x8x8x128.size inb_S8x8x8x128_S1x8x8x128_4_0_0_0).toLoadRect go)) (k0_pay156 (k0_pay151 ((Memref.whole cc0_scratch5).view.readAt (Elt F) (Rect.unit (s := S8x8x8) ![0, 0, 0] S8x8x8.size inb_S8x8x8_S8x8x8_0_0_0).toLoadRect gm)) ((Memref.whole cc0_scratch7).view.readAt (Elt F) (Rect.unit (s := S8x8x8x128) ![5, 0, 0, 0] S1x8x8x128.size inb_S8x8x8x128_S1x8x8x128_5_0_0_0).toLoadRect go)))
    (k0_pay158 ((Memref.whole cc0_scratch7).view.readAt (Elt F) (Rect.unit (s := S8x8x8x128) ![6, 0, 0, 0] S1x8x8x128.size inb_S8x8x8x128_S1x8x8x128_6_0_0_0).toLoadRect go)) (k0_pay159 (k0_pay151 ((Memref.whole cc0_scratch5).view.readAt (Elt F) (Rect.unit (s := S8x8x8) ![0, 0, 0] S8x8x8.size inb_S8x8x8_S8x8x8_0_0_0).toLoadRect gm))) ((Memref.whole cc0_scratch7).view.readAt (Elt F) (Rect.unit (s := S8x8x8x128) ![7, 0, 0, 0] S1x8x8x128.size inb_S8x8x8x128_S1x8x8x128_7_0_0_0).toLoadRect go)

theorem writes_out (f : (cc0_stg3_0 : Ref sig .tc).ty.Contents (Elt F)) (w : Vec F S8x1x8x128 .f32) :
    (Memref.whole cc0_stg3_0).view.writes (Elt F) f [⟨Rect.unit (s := S8x1x8x128) ![0, 0, 0, 0] S8x1x8x128.size inb_S8x1x8x128_S8x1x8x128_0_0_0_0, w⟩] = w := by
  have h := View.read_writes_full (View.whole cc0_stg3_0) f inb_S8x1x8x128_S8x1x8x128_0_0_0_0 w []
  rw [View.read_whole] at h
  exact h

abbrev postProg (c : Dev nD) (a b d e f : BitVec 32) : Prog (TpuEff nD τ sig (Elt F) Λ₀ .tc) PUnit :=
  post (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c a b d e f

def postPre (c : Dev nD) : sProp 𝕄 :=
  iprop(records AM AL AO K ∗ levAts L lv ∗ owesAny c (Ow c 32)
    ∗ (mM.view.loc (c : Thread nD τ) ↦{fullShare} AM c) ∗ (lM.view.loc (c : Thread nD τ) ↦{fullShare} AL c) ∗ (oM.view.loc (c : Thread nD τ) ↦{fullShare} AO c)
    ∗ (bigSep Finset.univ fun t : Dev nD => sigR (F := F) c t) ∗ (bigSep Finset.univ fun t : Dev nD => bigSep Finset.univ fun i : Fin 3 => tokR (F := F) c t i)
    ∗ cred (tallyAt (kcell (c, 0)) () 8) ∗ atR c 0
    ∗ (bigSep Finset.univ fun t : Dev nD => bigSep Finset.univ fun i : Fin 3 => atR (F := F) c (ksnd t i))
    ∗ (bigSep Finset.univ fun q : Dev nD => bigSep Finset.univ fun i : Fin 3 => iprop(atR (F := F) c (krcv i q) ∗ credR (F := F) c (krcv i q) i))
    ∗ (∃ f, (Memref.whole cc0_stg3_0).view.loc (c : Thread nD τ) ↦{fullShare} f))

def postPost (c : Dev nD) : sProp 𝕄 :=
  iprop(owesAny c 0
    ∗ (mM.view.loc (c : Thread nD τ) ↦{fullShare} AM c) ∗ (lM.view.loc (c : Thread nD τ) ↦{fullShare} AL c) ∗ (oM.view.loc (c : Thread nD τ) ↦{fullShare} AO c)
    ∗ ((Memref.whole cc0_scratch5).view.loc (c : Thread nD τ) ↦{fullShare} GM AM) ∗ ((Memref.whole cc0_scratch6).view.loc (c : Thread nD τ) ↦{fullShare} GL AL)
    ∗ ((Memref.whole cc0_scratch7).view.loc (c : Thread nD τ) ↦{fullShare} GO AO)
    ∗ zR c 0 ∗ (bigSep Finset.univ fun t : Dev nD => bigSep Finset.univ fun i : Fin 3 => zR (F := F) c (ksnd t i))
    ∗ (bigSep Finset.univ fun q : Dev nD => bigSep Finset.univ fun i : Fin 3 => zR (F := F) c (krcv i q))
    ∗ ((Memref.whole cc0_stg3_0).view.loc (c : Thread nD τ) ↦{fullShare} outOf (GM AM) (GL AL) (GO AO)))

theorem deal_m (c : Dev nD) : ((mM.view.loc (c : Thread nD τ) ↦{fullShare} AM c) : sProp 𝕄) = bigSep Finset.univ fun t : Dev nD => srcR AM AL AO c 0 t := by
  have h : (mM : Memref sig .tc .vmem S8x8 .f32).view.set = Finset.univ := View.set_whole _
  show _ = bigSep Finset.univ fun t : Dev nD => srcM AM c t
  unfold srcM
  rw [h]
  exact Transfers.pointsTo_deal Finset.univ Finset.univ_nonempty fullShare
theorem deal_l (c : Dev nD) : ((lM.view.loc (c : Thread nD τ) ↦{fullShare} AL c) : sProp 𝕄) = bigSep Finset.univ fun t : Dev nD => srcR AM AL AO c 1 t := by
  have h : (lM : Memref sig .tc .vmem S8x8 .f32).view.set = Finset.univ := View.set_whole _
  show _ = bigSep Finset.univ fun t : Dev nD => srcL AL c t
  unfold srcL
  rw [h]
  exact Transfers.pointsTo_deal Finset.univ Finset.univ_nonempty fullShare
theorem deal_o (c : Dev nD) : ((oM.view.loc (c : Thread nD τ) ↦{fullShare} AO c) : sProp 𝕄) = bigSep Finset.univ fun t : Dev nD => srcR AM AL AO c 2 t := by
  have h : (oM : Memref sig .tc .vmem S8x8x128 .f32).view.set = Finset.univ := View.set_whole _
  show _ = bigSep Finset.univ fun t : Dev nD => srcO AO c t
  unfold srcO
  rw [h]
  exact Transfers.pointsTo_deal Finset.univ Finset.univ_nonempty fullShare

theorem got_m (c : Dev nD) : (((Memref.whole cc0_scratch5).view.loc (c : Thread nD τ) ↦{fullShare} GM AM) : sProp 𝕄) = bigSep Finset.univ fun q : Dev nD => gotR AM AL AO c 0 q := by
  show _ = bigSep Finset.univ fun q : Dev nD => gotM AM c q
  unfold gotM
  exact slotsM c (GM AM)
theorem got_l (c : Dev nD) : (((Memref.whole cc0_scratch6).view.loc (c : Thread nD τ) ↦{fullShare} GL AL) : sProp 𝕄) = bigSep Finset.univ fun q : Dev nD => gotR AM AL AO c 1 q := by
  show _ = bigSep Finset.univ fun q : Dev nD => gotL AL c q
  unfold gotL
  exact slotsL c (GL AL)
theorem got_o (c : Dev nD) : (((Memref.whole cc0_scratch7).view.loc (c : Thread nD τ) ↦{fullShare} GO AO) : sProp 𝕄) = bigSep Finset.univ fun q : Dev nD => gotR AM AL AO c 2 q := by
  show _ = bigSep Finset.univ fun q : Dev nD => gotO AO c q
  unfold gotO
  exact slotsO c (GO AO)

set_option maxHeartbeats 2000000 in
theorem post_run (c : Dev nD) (a b d e f : BitVec 32) (Kt : PUnit → sProp 𝕄) :
    iprop(postPre AM AL AO K c ∗ (postPost AM AL AO c -∗ Kt ⟨⟩))
      ⊢ wp frame (wpE (defs₀ (F := F)) 𝒱₀ (c : Thread nD τ) none) Set.univ (postProg (F := F) c a b d e f) Kt := by
  obtain ⟨S, hS⟩ : ∃ S, S = srcR AM AL AO c := ⟨_, rfl⟩
  obtain ⟨G, hG⟩ : ∃ G, G = gotR AM AL AO c := ⟨_, rfl⟩
  obtain ⟨Fr, hF⟩ : ∃ Fr, Fr = freeR (F := F) c := ⟨_, rfl⟩
  unfold postPre postProg post
  simp only [deal_m AM AL AO, deal_l AM AL AO, deal_o AM AL AO, ← hS, bigSep_dev, bigSep_three]
  iintro ⟨⟨#HR, #Hlev, HO, ⟨Hs00, Hs10, Hs20, Hs30, Hs40, Hs50, Hs60, Hs70⟩, ⟨Hs01, Hs11, Hs21, Hs31, Hs41, Hs51, Hs61, Hs71⟩, ⟨Hs02, Hs12, Hs22, Hs32, Hs42, Hs52, Hs62, Hs72⟩, ⟨Hg0, Hg1, Hg2, Hg3, Hg4, Hg5, Hg6, Hg7⟩, ⟨⟨Ht00, Ht01, Ht02⟩, ⟨Ht10, Ht11, Ht12⟩, ⟨Ht20, Ht21, Ht22⟩, ⟨Ht30, Ht31, Ht32⟩, ⟨Ht40, Ht41, Ht42⟩, ⟨Ht50, Ht51, Ht52⟩, ⟨Ht60, Ht61, Ht62⟩, ⟨Ht70, Ht71, Ht72⟩⟩, Hcb, Hab, ⟨⟨Ha00, Ha01, Ha02⟩, ⟨Ha10, Ha11, Ha12⟩, ⟨Ha20, Ha21, Ha22⟩, ⟨Ha30, Ha31, Ha32⟩, ⟨Ha40, Ha41, Ha42⟩, ⟨Ha50, Ha51, Ha52⟩, ⟨Ha60, Ha61, Ha62⟩, ⟨Ha70, Ha71, Ha72⟩⟩, ⟨⟨⟨Hr00, Hc00⟩, ⟨Hr01, Hc01⟩, Hr02, Hc02⟩, ⟨⟨Hr10, Hc10⟩, ⟨Hr11, Hc11⟩, Hr12, Hc12⟩, ⟨⟨Hr20, Hc20⟩, ⟨Hr21, Hc21⟩, Hr22, Hc22⟩, ⟨⟨Hr30, Hc30⟩, ⟨Hr31, Hc31⟩, Hr32, Hc32⟩, ⟨⟨Hr40, Hc40⟩, ⟨Hr41, Hc41⟩, Hr42, Hc42⟩, ⟨⟨Hr50, Hc50⟩, ⟨Hr51, Hc51⟩, Hr52, Hc52⟩, ⟨⟨Hr60, Hc60⟩, ⟨Hr61, Hc61⟩, Hr62, Hc62⟩, ⟨⟨Hr70, Hc70⟩, ⟨Hr71, Hc71⟩, Hr72, Hc72⟩⟩, %fo, Hout⟩, Hk⟩
  sl_exec_parts
  iapply (sig_c AM AL AO K c 0 _ (by decide) 31 (by decide) rfl) $$ HR HO Hg0; iintro HO; sl_exec_parts
  iapply (sig_c AM AL AO K c 1 _ (by decide) 30 (by decide) rfl) $$ HR HO Hg1; iintro HO; sl_exec_parts
  iapply (sig_c AM AL AO K c 2 _ (by decide) 29 (by decide) rfl) $$ HR HO Hg2; iintro HO; sl_exec_parts
  iapply (sig_c AM AL AO K c 3 _ (by decide) 28 (by decide) rfl) $$ HR HO Hg3; iintro HO; sl_exec_parts
  iapply (sig_c AM AL AO K c 4 _ (by decide) 27 (by decide) rfl) $$ HR HO Hg4; iintro HO; sl_exec_parts
  iapply (sig_c AM AL AO K c 5 _ (by decide) 26 (by decide) rfl) $$ HR HO Hg5; iintro HO; sl_exec_parts
  iapply (sig_c AM AL AO K c 6 _ (by decide) 25 (by decide) rfl) $$ HR HO Hg6; iintro HO; sl_exec_parts
  iapply (sig_c AM AL AO K c 7 _ (by decide) 24 (by decide) rfl) $$ HR HO Hg7; iintro HO; sl_exec_parts
  iapply (bar_c AM AL AO K Fr c hF rfl) $$ HR Hlev Hcb HO Hab; simp only [bigSep_dev]; iintro ⟨HO, ⟨⟨Hf00, Hf01, Hf02⟩, ⟨Hf10, Hf11, Hf12⟩, ⟨Hf20, Hf21, Hf22⟩, ⟨Hf30, Hf31, Hf32⟩, ⟨Hf40, Hf41, Hf42⟩, ⟨Hf50, Hf51, Hf52⟩, ⟨Hf60, Hf61, Hf62⟩, ⟨Hf70, Hf71, Hf72⟩⟩, Hz⟩; sl_exec_parts
  iapply (sendM_c AM AL AO K S Fr c 0 _ hS hF (by decide) 23 _ _ (by decide) (rsemM c) rfl) $$ HR HO Hs00 Hf00 Ht00; iintro ⟨Hd00, HO⟩; simp only [wp_bind, Prog.bind_ret, Prog.pure_eq_ret, wp_ret, fupd_wp_eq]
  iapply (sendL_c AM AL AO K S Fr c 0 _ hS hF (by decide) 22 _ _ (by decide) (rsemL c) rfl) $$ HR HO Hs01 Hf01 Ht01; iintro ⟨Hd01, HO⟩; simp only [wp_bind, Prog.bind_ret, Prog.pure_eq_ret, wp_ret, fupd_wp_eq]; simp only [wp_bind, Prog.bind_ret, Prog.pure_eq_ret, wp_ret, fupd_wp_eq, k0_part27]
  iapply (sendO_c AM AL AO K S Fr c 0 _ hS hF (by decide) 21 _ _ (by decide) (rsemO c) rfl) $$ HR HO Hs02 Hf02 Ht02; iintro ⟨Hd02, HO⟩; simp only [wp_bind, Prog.bind_ret, Prog.pure_eq_ret, wp_ret, fupd_wp_eq]
  iapply (sendM_c AM AL AO K S Fr c 1 _ hS hF (by decide) 20 _ _ (by decide) (rsemM c) rfl) $$ HR HO Hs10 Hf10 Ht10; iintro ⟨Hd10, HO⟩; simp only [wp_bind, Prog.bind_ret, Prog.pure_eq_ret, wp_ret, fupd_wp_eq]; simp only [wp_bind, Prog.bind_ret, Prog.pure_eq_ret, wp_ret, fupd_wp_eq, k0_part28]
  iapply (sendL_c AM AL AO K S Fr c 1 _ hS hF (by decide) 19 _ _ (by decide) (rsemL c) rfl) $$ HR HO Hs11 Hf11 Ht11; iintro ⟨Hd11, HO⟩; simp only [wp_bind, Prog.bind_ret, Prog.pure_eq_ret, wp_ret, fupd_wp_eq]
  iapply (sendO_c AM AL AO K S Fr c 1 _ hS hF (by decide) 18 _ _ (by decide) (rsemO c) rfl) $$ HR HO Hs12 Hf12 Ht12; iintro ⟨Hd12, HO⟩; simp only [wp_bind, Prog.bind_ret, Prog.pure_eq_ret, wp_ret, fupd_wp_eq]
  iapply (sendM_c AM AL AO K S Fr c 2 _ hS hF (by decide) 17 _ _ (by decide) (rsemM c) rfl) $$ HR HO Hs20 Hf20 Ht20; iintro ⟨Hd20, HO⟩; simp only [wp_bind, Prog.bind_ret, Prog.pure_eq_ret, wp_ret, fupd_wp_eq]; simp only [wp_bind, Prog.bind_ret, Prog.pure_eq_ret, wp_ret, fupd_wp_eq, k0_part29]
  iapply (sendL_c AM AL AO K S Fr c 2 _ hS hF (by decide) 16 _ _ (by decide) (rsemL c) rfl) $$ HR HO Hs21 Hf21 Ht21; iintro ⟨Hd21, HO⟩; simp only [wp_bind, Prog.bind_ret, Prog.pure_eq_ret, wp_ret, fupd_wp_eq]
  iapply (sendO_c AM AL AO K S Fr c 2 _ hS hF (by decide) 15 _ _ (by decide) (rsemO c) rfl) $$ HR HO Hs22 Hf22 Ht22; iintro ⟨Hd22, HO⟩; simp only [wp_bind, Prog.bind_ret, Prog.pure_eq_ret, wp_ret, fupd_wp_eq]
  iapply (sendM_c AM AL AO K S Fr c 3 _ hS hF (by decide) 14 _ _ (by decide) (rsemM c) rfl) $$ HR HO Hs30 Hf30 Ht30; iintro ⟨Hd30, HO⟩; simp only [wp_bind, Prog.bind_ret, Prog.pure_eq_ret, wp_ret, fupd_wp_eq]; simp only [wp_bind, Prog.bind_ret, Prog.pure_eq_ret, wp_ret, fupd_wp_eq, k0_part30]
  iapply (sendL_c AM AL AO K S Fr c 3 _ hS hF (by decide) 13 _ _ (by decide) (rsemL c) rfl) $$ HR HO Hs31 Hf31 Ht31; iintro ⟨Hd31, HO⟩; simp only [wp_bind, Prog.bind_ret, Prog.pure_eq_ret, wp_ret, fupd_wp_eq]
  iapply (sendO_c AM AL AO K S Fr c 3 _ hS hF (by decide) 12 _ _ (by decide) (rsemO c) rfl) $$ HR HO Hs32 Hf32 Ht32; iintro ⟨Hd32, HO⟩; simp only [wp_bind, Prog.bind_ret, Prog.pure_eq_ret, wp_ret, fupd_wp_eq]; simp only [wp_bind, Prog.bind_ret, Prog.pure_eq_ret, wp_ret, fupd_wp_eq, k0_part31]
  iapply (sendM_c AM AL AO K S Fr c 4 _ hS hF (by decide) 11 _ _ (by decide) (rsemM c) rfl) $$ HR HO Hs40 Hf40 Ht40; iintro ⟨Hd40, HO⟩; simp only [wp_bind, Prog.bind_ret, Prog.pure_eq_ret, wp_ret, fupd_wp_eq]
  iapply (sendL_c AM AL AO K S Fr c 4 _ hS hF (by decide) 10 _ _ (by decide) (rsemL c) rfl) $$ HR HO Hs41 Hf41 Ht41; iintro ⟨Hd41, HO⟩; simp only [wp_bind, Prog.bind_ret, Prog.pure_eq_ret, wp_ret, fupd_wp_eq]
  iapply (sendO_c AM AL AO K S Fr c 4 _ hS hF (by decide) 9 _ _ (by decide) (rsemO c) rfl) $$ HR HO Hs42 Hf42 Ht42; iintro ⟨Hd42, HO⟩; simp only [wp_bind, Prog.bind_ret, Prog.pure_eq_ret, wp_ret, fupd_wp_eq]; simp only [wp_bind, Prog.bind_ret, Prog.pure_eq_ret, wp_ret, fupd_wp_eq, k0_part32]
  iapply (sendM_c AM AL AO K S Fr c 5 _ hS hF (by decide) 8 _ _ (by decide) (rsemM c) rfl) $$ HR HO Hs50 Hf50 Ht50; iintro ⟨Hd50, HO⟩; simp only [wp_bind, Prog.bind_ret, Prog.pure_eq_ret, wp_ret, fupd_wp_eq]
  iapply (sendL_c AM AL AO K S Fr c 5 _ hS hF (by decide) 7 _ _ (by decide) (rsemL c) rfl) $$ HR HO Hs51 Hf51 Ht51; iintro ⟨Hd51, HO⟩; simp only [wp_bind, Prog.bind_ret, Prog.pure_eq_ret, wp_ret, fupd_wp_eq]; simp only [wp_bind, Prog.bind_ret, Prog.pure_eq_ret, wp_ret, fupd_wp_eq, k0_part33]
  iapply (sendO_c AM AL AO K S Fr c 5 _ hS hF (by decide) 6 _ _ (by decide) (rsemO c) rfl) $$ HR HO Hs52 Hf52 Ht52; iintro ⟨Hd52, HO⟩; simp only [wp_bind, Prog.bind_ret, Prog.pure_eq_ret, wp_ret, fupd_wp_eq]
  iapply (sendM_c AM AL AO K S Fr c 6 _ hS hF (by decide) 5 _ _ (by decide) (rsemM c) rfl) $$ HR HO Hs60 Hf60 Ht60; iintro ⟨Hd60, HO⟩; simp only [wp_bind, Prog.bind_ret, Prog.pure_eq_ret, wp_ret, fupd_wp_eq]
  iapply (sendL_c AM AL AO K S Fr c 6 _ hS hF (by decide) 4 _ _ (by decide) (rsemL c) rfl) $$ HR HO Hs61 Hf61 Ht61; iintro ⟨Hd61, HO⟩; simp only [wp_bind, Prog.bind_ret, Prog.pure_eq_ret, wp_ret, fupd_wp_eq]; simp only [wp_bind, Prog.bind_ret, Prog.pure_eq_ret, wp_ret, fupd_wp_eq, k0_part34]
  iapply (sendO_c AM AL AO K S Fr c 6 _ hS hF (by decide) 3 _ _ (by decide) (rsemO c) rfl) $$ HR HO Hs62 Hf62 Ht62; iintro ⟨Hd62, HO⟩; simp only [wp_bind, Prog.bind_ret, Prog.pure_eq_ret, wp_ret, fupd_wp_eq]
  iapply (sendM_c AM AL AO K S Fr c 7 _ hS hF (by decide) 2 _ _ (by decide) (rsemM c) rfl) $$ HR HO Hs70 Hf70 Ht70; iintro ⟨Hd70, HO⟩; simp only [wp_bind, Prog.bind_ret, Prog.pure_eq_ret, wp_ret, fupd_wp_eq]; simp only [wp_bind, Prog.bind_ret, Prog.pure_eq_ret, wp_ret, fupd_wp_eq, k0_part35]
  iapply (sendL_c AM AL AO K S Fr c 7 _ hS hF (by decide) 1 _ _ (by decide) (rsemL c) rfl) $$ HR HO Hs71 Hf71 Ht71; iintro ⟨Hd71, HO⟩; simp only [wp_bind, Prog.bind_ret, Prog.pure_eq_ret, wp_ret, fupd_wp_eq]
  iapply (sendO_c AM AL AO K S Fr c 7 _ hS hF (by decide) 0 _ _ (by decide) (rsemO c) rfl) $$ HR HO Hs72 Hf72 Ht72; iintro ⟨Hd72, HO⟩; simp only [wp_bind, Prog.bind_ret, Prog.pure_eq_ret, wp_ret, fupd_wp_eq]
  iapply (wait_snd_c AM AL AO K S c 0 hS 0 (fun _ => wpE_waitDma2_eq 𝒱₀ (c : Thread nD τ) none Set.univ ..) (by decide) (by rfl)) $$ HR Hd00 HO Ha00; iintro ⟨HO, Hs00, Hy00⟩; simp only [wp_bind, Prog.bind_ret, Prog.pure_eq_ret, wp_ret, fupd_wp_eq]
  iapply (wait_snd_c AM AL AO K S c 0 hS 1 (fun _ => wpE_waitDma2_eq 𝒱₀ (c : Thread nD τ) none Set.univ ..) (by decide) (by rfl)) $$ HR Hd01 HO Ha01; iintro ⟨HO, Hs01, Hy01⟩; simp only [wp_bind, Prog.bind_ret, Prog.pure_eq_ret, wp_ret, fupd_wp_eq]; simp only [wp_bind, Prog.bind_ret, Prog.pure_eq_ret, wp_ret, fupd_wp_eq, k0_part36]
  iapply (wait_snd_c AM AL AO K S c 0 hS 2 (fun _ => wpE_waitDma2_eq 𝒱₀ (c : Thread nD τ) none Set.univ ..) (by decide) (by rfl)) $$ HR Hd02 HO Ha02; iintro ⟨HO, Hs02, Hy02⟩; simp only [wp_bind, Prog.bind_ret, Prog.pure_eq_ret, wp_ret, fupd_wp_eq]
  iapply (wait_snd_c AM AL AO K S c 1 hS 0 (fun _ => wpE_waitDma2_eq 𝒱₀ (c : Thread nD τ) none Set.univ ..) (by decide) (by rfl)) $$ HR Hd10 HO Ha10; iintro ⟨HO, Hs10, Hy10⟩; simp only [wp_bind, Prog.bind_ret, Prog.pure_eq_ret, wp_ret, fupd_wp_eq]
  iapply (wait_snd_c AM AL AO K S c 1 hS 1 (fun _ => wpE_waitDma2_eq 𝒱₀ (c : Thread nD τ) none Set.univ ..) (by decide) (by rfl)) $$ HR Hd11 HO Ha11; iintro ⟨HO, Hs11, Hy11⟩; simp only [wp_bind, Prog.bind_ret, Prog.pure_eq_ret, wp_ret, fupd_wp_eq]
  iapply (wait_snd_c AM AL AO K S c 1 hS 2 (fun _ => wpE_waitDma2_eq 𝒱₀ (c : Thread nD τ) none Set.univ ..) (by decide) (by rfl)) $$ HR Hd12 HO Ha12; iintro ⟨HO, Hs12, Hy12⟩; simp only [wp_bind, Prog.bind_ret, Prog.pure_eq_ret, wp_ret, fupd_wp_eq]
  iapply (wait_snd_c AM AL AO K S c 2 hS 0 (fun _ => wpE_waitDma2_eq 𝒱₀ (c : Thread nD τ) none Set.univ ..) (by decide) (by rfl)) $$ HR Hd20 HO Ha20; iintro ⟨HO, Hs20, Hy20⟩; simp only [wp_bind, Prog.bind_ret, Prog.pure_eq_ret, wp_ret, fupd_wp_eq]; simp only [wp_bind, Prog.bind_ret, Prog.pure_eq_ret, wp_ret, fupd_wp_eq, k0_part37]
  iapply (wait_snd_c AM AL AO K S c 2 hS 1 (fun _ => wpE_waitDma2_eq 𝒱₀ (c : Thread nD τ) none Set.univ ..) (by decide) (by rfl)) $$ HR Hd21 HO Ha21; iintro ⟨HO, Hs21, Hy21⟩; simp only [wp_bind, Prog.bind_ret, Prog.pure_eq_ret, wp_ret, fupd_wp_eq]
  iapply (wait_snd_c AM AL AO K S c 2 hS 2 (fun _ => wpE_waitDma2_eq 𝒱₀ (c : Thread nD τ) none Set.univ ..) (by decide) (by rfl)) $$ HR Hd22 HO Ha22; iintro ⟨HO, Hs22, Hy22⟩; simp only [wp_bind, Prog.bind_ret, Prog.pure_eq_ret, wp_ret, fupd_wp_eq]
  iapply (wait_snd_c AM AL AO K S c 3 hS 0 (fun _ => wpE_waitDma2_eq 𝒱₀ (c : Thread nD τ) none Set.univ ..) (by decide) (by rfl)) $$ HR Hd30 HO Ha30; iintro ⟨HO, Hs30, Hy30⟩; simp only [wp_bind, Prog.bind_ret, Prog.pure_eq_ret, wp_ret, fupd_wp_eq]
  iapply (wait_snd_c AM AL AO K S c 3 hS 1 (fun _ => wpE_waitDma2_eq 𝒱₀ (c : Thread nD τ) none Set.univ ..) (by decide) (by rfl)) $$ HR Hd31 HO Ha31; iintro ⟨HO, Hs31, Hy31⟩; simp only [wp_bind, Prog.bind_ret, Prog.pure_eq_ret, wp_ret, fupd_wp_eq]
  iapply (wait_snd_c AM AL AO K S c 3 hS 2 (fun _ => wpE_waitDma2_eq 𝒱₀ (c : Thread nD τ) none Set.univ ..) (by decide) (by rfl)) $$ HR Hd32 HO Ha32; iintro ⟨HO, Hs32, Hy32⟩; simp only [wp_bind, Prog.bind_ret, Prog.pure_eq_ret, wp_ret, fupd_wp_eq]; simp only [wp_bind, Prog.bind_ret, Prog.pure_eq_ret, wp_ret, fupd_wp_eq, k0_part38]
  iapply (wait_snd_c AM AL AO K S c 4 hS 0 (fun _ => wpE_waitDma2_eq 𝒱₀ (c : Thread nD τ) none Set.univ ..) (by decide) (by rfl)) $$ HR Hd40 HO Ha40; iintro ⟨HO, Hs40, Hy40⟩; simp only [wp_bind, Prog.bind_ret, Prog.pure_eq_ret, wp_ret, fupd_wp_eq]
  iapply (wait_snd_c AM AL AO K S c 4 hS 1 (fun _ => wpE_waitDma2_eq 𝒱₀ (c : Thread nD τ) none Set.univ ..) (by decide) (by rfl)) $$ HR Hd41 HO Ha41; iintro ⟨HO, Hs41, Hy41⟩; simp only [wp_bind, Prog.bind_ret, Prog.pure_eq_ret, wp_ret, fupd_wp_eq]
  iapply (wait_snd_c AM AL AO K S c 4 hS 2 (fun _ => wpE_waitDma2_eq 𝒱₀ (c : Thread nD τ) none Set.univ ..) (by decide) (by rfl)) $$ HR Hd42 HO Ha42; iintro ⟨HO, Hs42, Hy42⟩; simp only [wp_bind, Prog.bind_ret, Prog.pure_eq_ret, wp_ret, fupd_wp_eq]
  iapply (wait_snd_c AM AL AO K S c 5 hS 0 (fun _ => wpE_waitDma2_eq 𝒱₀ (c : Thread nD τ) none Set.univ ..) (by decide) (by rfl)) $$ HR Hd50 HO Ha50; iintro ⟨HO, Hs50, Hy50⟩; simp only [wp_bind, Prog.bind_ret, Prog.pure_eq_ret, wp_ret, fupd_wp_eq]
  iapply (wait_snd_c AM AL AO K S c 5 hS 1 (fun _ => wpE_waitDma2_eq 𝒱₀ (c : Thread nD τ) none Set.univ ..) (by decide) (by rfl)) $$ HR Hd51 HO Ha51; iintro ⟨HO, Hs51, Hy51⟩; simp only [wp_bind, Prog.bind_ret, Prog.pure_eq_ret, wp_ret, fupd_wp_eq]; simp only [wp_bind, Prog.bind_ret, Prog.pure_eq_ret, wp_ret, fupd_wp_eq, k0_part39]
  iapply (wait_snd_c AM AL AO K S c 5 hS 2 (fun _ => wpE_waitDma2_eq 𝒱₀ (c : Thread nD τ) none Set.univ ..) (by decide) (by rfl)) $$ HR Hd52 HO Ha52; iintro ⟨HO, Hs52, Hy52⟩; simp only [wp_bind, Prog.bind_ret, Prog.pure_eq_ret, wp_ret, fupd_wp_eq]
  iapply (wait_snd_c AM AL AO K S c 6 hS 0 (fun _ => wpE_waitDma2_eq 𝒱₀ (c : Thread nD τ) none Set.univ ..) (by decide) (by rfl)) $$ HR Hd60 HO Ha60; iintro ⟨HO, Hs60, Hy60⟩; simp only [wp_bind, Prog.bind_ret, Prog.pure_eq_ret, wp_ret, fupd_wp_eq]
  iapply (wait_snd_c AM AL AO K S c 6 hS 1 (fun _ => wpE_waitDma2_eq 𝒱₀ (c : Thread nD τ) none Set.univ ..) (by decide) (by rfl)) $$ HR Hd61 HO Ha61; iintro ⟨HO, Hs61, Hy61⟩; simp only [wp_bind, Prog.bind_ret, Prog.pure_eq_ret, wp_ret, fupd_wp_eq]
  iapply (wait_snd_c AM AL AO K S c 6 hS 2 (fun _ => wpE_waitDma2_eq 𝒱₀ (c : Thread nD τ) none Set.univ ..) (by decide) (by rfl)) $$ HR Hd62 HO Ha62; iintro ⟨HO, Hs62, Hy62⟩; simp only [wp_bind, Prog.bind_ret, Prog.pure_eq_ret, wp_ret, fupd_wp_eq]
  iapply (wait_snd_c AM AL AO K S c 7 hS 0 (fun _ => wpE_waitDma2_eq 𝒱₀ (c : Thread nD τ) none Set.univ ..) (by decide) (by rfl)) $$ HR Hd70 HO Ha70; iintro ⟨HO, Hs70, Hy70⟩; simp only [wp_bind, Prog.bind_ret, Prog.pure_eq_ret, wp_ret, fupd_wp_eq]; simp only [wp_bind, Prog.bind_ret, Prog.pure_eq_ret, wp_ret, fupd_wp_eq, k0_part40]
  iapply (wait_snd_c AM AL AO K S c 7 hS 1 (fun _ => wpE_waitDma2_eq 𝒱₀ (c : Thread nD τ) none Set.univ ..) (by decide) (by rfl)) $$ HR Hd71 HO Ha71; iintro ⟨HO, Hs71, Hy71⟩; simp only [wp_bind, Prog.bind_ret, Prog.pure_eq_ret, wp_ret, fupd_wp_eq]
  iapply (wait_snd_c AM AL AO K S c 7 hS 2 (fun _ => wpE_waitDma2_eq 𝒱₀ (c : Thread nD τ) none Set.univ ..) (by decide) (by rfl)) $$ HR Hd72 HO Ha72; iintro ⟨HO, Hs72, Hy72⟩; simp only [wp_bind, Prog.bind_ret, Prog.pure_eq_ret, wp_ret, fupd_wp_eq]
  iapply (wait_rcv_c AM AL AO K G c 0 hG 0 (fun _ => wpE_waitDma2_eq 𝒱₀ (c : Thread nD τ) none Set.univ ..) (by decide) (by rfl)) $$ HR Hc00 HO Hr00; iintro ⟨HO, Hg00, Hw00⟩; simp only [wp_bind, Prog.bind_ret, Prog.pure_eq_ret, wp_ret, fupd_wp_eq]; simp only [wp_bind, Prog.bind_ret, Prog.pure_eq_ret, wp_ret, fupd_wp_eq, k0_part41]
  iapply (wait_rcv_c AM AL AO K G c 0 hG 1 (fun _ => wpE_waitDma2_eq 𝒱₀ (c : Thread nD τ) none Set.univ ..) (by decide) (by rfl)) $$ HR Hc01 HO Hr01; iintro ⟨HO, Hg01, Hw01⟩; simp only [wp_bind, Prog.bind_ret, Prog.pure_eq_ret, wp_ret, fupd_wp_eq]
  iapply (wait_rcv_c AM AL AO K G c 0 hG 2 (fun _ => wpE_waitDma2_eq 𝒱₀ (c : Thread nD τ) none Set.univ ..) (by decide) (by rfl)) $$ HR Hc02 HO Hr02; iintro ⟨HO, Hg02, Hw02⟩; simp only [wp_bind, Prog.bind_ret, Prog.pure_eq_ret, wp_ret, fupd_wp_eq]
  iapply (wait_rcv_c AM AL AO K G c 1 hG 0 (fun _ => wpE_waitDma2_eq 𝒱₀ (c : Thread nD τ) none Set.univ ..) (by decide) (by rfl)) $$ HR Hc10 HO Hr10; iintro ⟨HO, Hg10, Hw10⟩; simp only [wp_bind, Prog.bind_ret, Prog.pure_eq_ret, wp_ret, fupd_wp_eq]; simp only [wp_bind, Prog.bind_ret, Prog.pure_eq_ret, wp_ret, fupd_wp_eq, k0_part42]
  iapply (wait_rcv_c AM AL AO K G c 1 hG 1 (fun _ => wpE_waitDma2_eq 𝒱₀ (c : Thread nD τ) none Set.univ ..) (by decide) (by rfl)) $$ HR Hc11 HO Hr11; iintro ⟨HO, Hg11, Hw11⟩; simp only [wp_bind, Prog.bind_ret, Prog.pure_eq_ret, wp_ret, fupd_wp_eq]
  iapply (wait_rcv_c AM AL AO K G c 1 hG 2 (fun _ => wpE_waitDma2_eq 𝒱₀ (c : Thread nD τ) none Set.univ ..) (by decide) (by rfl)) $$ HR Hc12 HO Hr12; iintro ⟨HO, Hg12, Hw12⟩; simp only [wp_bind, Prog.bind_ret, Prog.pure_eq_ret, wp_ret, fupd_wp_eq]
  iapply (wait_rcv_c AM AL AO K G c 2 hG 0 (fun _ => wpE_waitDma2_eq 𝒱₀ (c : Thread nD τ) none Set.univ ..) (by decide) (by rfl)) $$ HR Hc20 HO Hr20; iintro ⟨HO, Hg20, Hw20⟩; simp only [wp_bind, Prog.bind_ret, Prog.pure_eq_ret, wp_ret, fupd_wp_eq]; simp only [wp_bind, Prog.bind_ret, Prog.pure_eq_ret, wp_ret, fupd_wp_eq, k0_part43]
  iapply (wait_rcv_c AM AL AO K G c 2 hG 1 (fun _ => wpE_waitDma2_eq 𝒱₀ (c : Thread nD τ) none Set.univ ..) (by decide) (by rfl)) $$ HR Hc21 HO Hr21; iintro ⟨HO, Hg21, Hw21⟩; simp only [wp_bind, Prog.bind_ret, Prog.pure_eq_ret, wp_ret, fupd_wp_eq]
  iapply (wait_rcv_c AM AL AO K G c 2 hG 2 (fun _ => wpE_waitDma2_eq 𝒱₀ (c : Thread nD τ) none Set.univ ..) (by decide) (by rfl)) $$ HR Hc22 HO Hr22; iintro ⟨HO, Hg22, Hw22⟩; simp only [wp_bind, Prog.bind_ret, Prog.pure_eq_ret, wp_ret, fupd_wp_eq]
  iapply (wait_rcv_c AM AL AO K G c 3 hG 0 (fun _ => wpE_waitDma2_eq 𝒱₀ (c : Thread nD τ) none Set.univ ..) (by decide) (by rfl)) $$ HR Hc30 HO Hr30; iintro ⟨HO, Hg30, Hw30⟩; simp only [wp_bind, Prog.bind_ret, Prog.pure_eq_ret, wp_ret, fupd_wp_eq]; simp only [wp_bind, Prog.bind_ret, Prog.pure_eq_ret, wp_ret, fupd_wp_eq, k0_part44]
  iapply (wait_rcv_c AM AL AO K G c 3 hG 1 (fun _ => wpE_waitDma2_eq 𝒱₀ (c : Thread nD τ) none Set.univ ..) (by decide) (by rfl)) $$ HR Hc31 HO Hr31; iintro ⟨HO, Hg31, Hw31⟩; simp only [wp_bind, Prog.bind_ret, Prog.pure_eq_ret, wp_ret, fupd_wp_eq]
  iapply (wait_rcv_c AM AL AO K G c 3 hG 2 (fun _ => wpE_waitDma2_eq 𝒱₀ (c : Thread nD τ) none Set.univ ..) (by decide) (by rfl)) $$ HR Hc32 HO Hr32; iintro ⟨HO, Hg32, Hw32⟩; simp only [wp_bind, Prog.bind_ret, Prog.pure_eq_ret, wp_ret, fupd_wp_eq]
  iapply (wait_rcv_c AM AL AO K G c 4 hG 0 (fun _ => wpE_waitDma2_eq 𝒱₀ (c : Thread nD τ) none Set.univ ..) (by decide) (by rfl)) $$ HR Hc40 HO Hr40; iintro ⟨HO, Hg40, Hw40⟩; simp only [wp_bind, Prog.bind_ret, Prog.pure_eq_ret, wp_ret, fupd_wp_eq]; simp only [wp_bind, Prog.bind_ret, Prog.pure_eq_ret, wp_ret, fupd_wp_eq, k0_part45]
  iapply (wait_rcv_c AM AL AO K G c 4 hG 1 (fun _ => wpE_waitDma2_eq 𝒱₀ (c : Thread nD τ) none Set.univ ..) (by decide) (by rfl)) $$ HR Hc41 HO Hr41; iintro ⟨HO, Hg41, Hw41⟩; simp only [wp_bind, Prog.bind_ret, Prog.pure_eq_ret, wp_ret, fupd_wp_eq]
  iapply (wait_rcv_c AM AL AO K G c 4 hG 2 (fun _ => wpE_waitDma2_eq 𝒱₀ (c : Thread nD τ) none Set.univ ..) (by decide) (by rfl)) $$ HR Hc42 HO Hr42; iintro ⟨HO, Hg42, Hw42⟩; simp only [wp_bind, Prog.bind_ret, Prog.pure_eq_ret, wp_ret, fupd_wp_eq]
  iapply (wait_rcv_c AM AL AO K G c 5 hG 0 (fun _ => wpE_waitDma2_eq 𝒱₀ (c : Thread nD τ) none Set.univ ..) (by decide) (by rfl)) $$ HR Hc50 HO Hr50; iintro ⟨HO, Hg50, Hw50⟩; simp only [wp_bind, Prog.bind_ret, Prog.pure_eq_ret, wp_ret, fupd_wp_eq]; simp only [wp_bind, Prog.bind_ret, Prog.pure_eq_ret, wp_ret, fupd_wp_eq, k0_part46]
  iapply (wait_rcv_c AM AL AO K G c 5 hG 1 (fun _ => wpE_waitDma2_eq 𝒱₀ (c : Thread nD τ) none Set.univ ..) (by decide) (by rfl)) $$ HR Hc51 HO Hr51; iintro ⟨HO, Hg51, Hw51⟩; simp only [wp_bind, Prog.bind_ret, Prog.pure_eq_ret, wp_ret, fupd_wp_eq]
  iapply (wait_rcv_c AM AL AO K G c 5 hG 2 (fun _ => wpE_waitDma2_eq 𝒱₀ (c : Thread nD τ) none Set.univ ..) (by decide) (by rfl)) $$ HR Hc52 HO Hr52; iintro ⟨HO, Hg52, Hw52⟩; simp only [wp_bind, Prog.bind_ret, Prog.pure_eq_ret, wp_ret, fupd_wp_eq]
  iapply (wait_rcv_c AM AL AO K G c 6 hG 0 (fun _ => wpE_waitDma2_eq 𝒱₀ (c : Thread nD τ) none Set.univ ..) (by decide) (by rfl)) $$ HR Hc60 HO Hr60; iintro ⟨HO, Hg60, Hw60⟩; simp only [wp_bind, Prog.bind_ret, Prog.pure_eq_ret, wp_ret, fupd_wp_eq]; simp only [wp_bind, Prog.bind_ret, Prog.pure_eq_ret, wp_ret, fupd_wp_eq, k0_part47]
  iapply (wait_rcv_c AM AL AO K G c 6 hG 1 (fun _ => wpE_waitDma2_eq 𝒱₀ (c : Thread nD τ) none Set.univ ..) (by decide) (by rfl)) $$ HR Hc61 HO Hr61; iintro ⟨HO, Hg61, Hw61⟩; simp only [wp_bind, Prog.bind_ret, Prog.pure_eq_ret, wp_ret, fupd_wp_eq]
  iapply (wait_rcv_c AM AL AO K G c 6 hG 2 (fun _ => wpE_waitDma2_eq 𝒱₀ (c : Thread nD τ) none Set.univ ..) (by decide) (by rfl)) $$ HR Hc62 HO Hr62; iintro ⟨HO, Hg62, Hw62⟩; simp only [wp_bind, Prog.bind_ret, Prog.pure_eq_ret, wp_ret, fupd_wp_eq]
  iapply (wait_rcv_c AM AL AO K G c 7 hG 0 (fun _ => wpE_waitDma2_eq 𝒱₀ (c : Thread nD τ) none Set.univ ..) (by decide) (by rfl)) $$ HR Hc70 HO Hr70; iintro ⟨HO, Hg70, Hw70⟩; simp only [wp_bind, Prog.bind_ret, Prog.pure_eq_ret, wp_ret, fupd_wp_eq]; simp only [wp_bind, Prog.bind_ret, Prog.pure_eq_ret, wp_ret, fupd_wp_eq, k0_part48]
  iapply (wait_rcv_c AM AL AO K G c 7 hG 1 (fun _ => wpE_waitDma2_eq 𝒱₀ (c : Thread nD τ) none Set.univ ..) (by decide) (by rfl)) $$ HR Hc71 HO Hr71; iintro ⟨HO, Hg71, Hw71⟩; simp only [wp_bind, Prog.bind_ret, Prog.pure_eq_ret, wp_ret, fupd_wp_eq]
  iapply (wait_rcv_c AM AL AO K G c 7 hG 2 (fun _ => wpE_waitDma2_eq 𝒱₀ (c : Thread nD τ) none Set.univ ..) (by decide) (by rfl)) $$ HR Hc72 HO Hr72; iintro ⟨HO, Hg72, Hw72⟩; skip
  ihave Hmm := (Entails.of_eq (show iprop(S 0 0 ∗ S 0 1 ∗ S 0 2 ∗ S 0 3 ∗ S 0 4 ∗ S 0 5 ∗ S 0 6 ∗ S 0 7) = _ from by rw [hS, ← bigSep_dev, ← deal_m AM AL AO c])) $$ [Hs00 Hs10 Hs20 Hs30 Hs40 Hs50 Hs60 Hs70]
  · iframe Hs00 Hs10 Hs20 Hs30 Hs40 Hs50 Hs60 Hs70
  ihave Hlm := (Entails.of_eq (show iprop(G 0 0 ∗ G 0 1 ∗ G 0 2 ∗ G 0 3 ∗ G 0 4 ∗ G 0 5 ∗ G 0 6 ∗ G 0 7) = _ from by rw [hG, ← bigSep_dev, ← got_m AM AL AO c])) $$ [Hg00 Hg10 Hg20 Hg30 Hg40 Hg50 Hg60 Hg70]
  · iframe Hg00 Hg10 Hg20 Hg30 Hg40 Hg50 Hg60 Hg70
  ihave Hml := (Entails.of_eq (show iprop(S 1 0 ∗ S 1 1 ∗ S 1 2 ∗ S 1 3 ∗ S 1 4 ∗ S 1 5 ∗ S 1 6 ∗ S 1 7) = _ from by rw [hS, ← bigSep_dev, ← deal_l AM AL AO c])) $$ [Hs01 Hs11 Hs21 Hs31 Hs41 Hs51 Hs61 Hs71]
  · iframe Hs01 Hs11 Hs21 Hs31 Hs41 Hs51 Hs61 Hs71
  ihave Hll := (Entails.of_eq (show iprop(G 1 0 ∗ G 1 1 ∗ G 1 2 ∗ G 1 3 ∗ G 1 4 ∗ G 1 5 ∗ G 1 6 ∗ G 1 7) = _ from by rw [hG, ← bigSep_dev, ← got_l AM AL AO c])) $$ [Hg01 Hg11 Hg21 Hg31 Hg41 Hg51 Hg61 Hg71]
  · iframe Hg01 Hg11 Hg21 Hg31 Hg41 Hg51 Hg61 Hg71
  ihave Hmo := (Entails.of_eq (show iprop(S 2 0 ∗ S 2 1 ∗ S 2 2 ∗ S 2 3 ∗ S 2 4 ∗ S 2 5 ∗ S 2 6 ∗ S 2 7) = _ from by rw [hS, ← bigSep_dev, ← deal_o AM AL AO c])) $$ [Hs02 Hs12 Hs22 Hs32 Hs42 Hs52 Hs62 Hs72]
  · iframe Hs02 Hs12 Hs22 Hs32 Hs42 Hs52 Hs62 Hs72
  ihave Hlo := (Entails.of_eq (show iprop(G 2 0 ∗ G 2 1 ∗ G 2 2 ∗ G 2 3 ∗ G 2 4 ∗ G 2 5 ∗ G 2 6 ∗ G 2 7) = _ from by rw [hG, ← bigSep_dev, ← got_o AM AL AO c])) $$ [Hg02 Hg12 Hg22 Hg32 Hg42 Hg52 Hg62 Hg72]
  · iframe Hg02 Hg12 Hg22 Hg32 Hg42 Hg52 Hg62 Hg72
  ihave Hout := (show ((Memref.whole cc0_stg3_0).view.loc (c : Thread nD τ) ↦{fullShare} fo : sProp 𝕄)
      ⊢ (Memref.whole cc0_stg3_0).view.loc (c : Thread nD τ) ↦{fullShare} fo from .rfl) $$ Hout
  sl_exec_parts
  simp only [wp_ret, fupd_wp_eq]
  imodintro
  imodintro
  iapply Hk
  unfold postPost
  simp only [bigSep_dev, bigSep_three]
  isplitl [HO]; · iexact HO
  isplitl [Hmm]; · iexact Hmm
  isplitl [Hml]; · iexact Hml
  isplitl [Hmo]; · iexact Hmo
  isplitl [Hlm]; · iexact Hlm
  isplitl [Hll]; · iexact Hll
  isplitl [Hlo]; · iexact Hlo
  isplitl [Hz]; · iexact Hz
  isplitr [Hout Hw00 Hw01 Hw02 Hw10 Hw11 Hw12 Hw20 Hw21 Hw22 Hw30 Hw31 Hw32 Hw40 Hw41 Hw42 Hw50 Hw51 Hw52 Hw60 Hw61 Hw62 Hw70 Hw71 Hw72]
  · iframe Hy00 Hy01 Hy02 Hy10 Hy11 Hy12 Hy20 Hy21 Hy22 Hy30 Hy31 Hy32 Hy40 Hy41 Hy42 Hy50 Hy51 Hy52 Hy60 Hy61 Hy62 Hy70 Hy71 Hy72
  isplitr [Hout]
  · iframe Hw00 Hw01 Hw02 Hw10 Hw11 Hw12 Hw20 Hw21 Hw22 Hw30 Hw31 Hw32 Hw40 Hw41 Hw42 Hw50 Hw51 Hw52 Hw60 Hw61 Hw62 Hw70 Hw71 Hw72
  ihave Hout := (Entails.of_eq (congrArg (fun f => ((Memref.whole cc0_stg3_0).view.loc (c : Thread nD τ) ↦{fullShare} f : sProp 𝕄)) (writes_out fo _))) $$ Hout
  iexact Hout

end Cert.PagedProof

end
-- ==== Proof.Cells.lean ====
/-
The cells of the exchange at the launch: their invariants allocated, their tokens dealt to the devices that pay with them,
and the launch credit each device starts from.
-/
module

public import proofs.«01_k».proof.Proof.Post
public import proofs.«01_k».proof.Proof.Gen.KernelIdeal.Launch

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (AM : Dev nD → (cc0_scratch2 : Ref sig .tc).ty.Contents (Elt F)) (AL : Dev nD → (cc0_scratch3 : Ref sig .tc).ty.Contents (Elt F))
  (AO : Dev nD → (cc0_scratch4 : Ref sig .tc).ty.Contents (Elt F))

/-! ## The cells of one device, by what they are for -/

/-- A transfer semaphore of the exchange: a send semaphore (target, array) or a receive semaphore (sender, array). -/
abbrev TI : Type := (Dev nD × Fin 3) ⊕ (Dev nD × Fin 3)

set_option backward.proofsInPublic true in
def tix : TI → Fin 49
  | .inl x => ksnd x.1 x.2
  | .inr x => krcv x.2 x.1
set_option backward.proofsInPublic true in
def kix : Unit ⊕ TI → Fin 49
  | .inl _ => 0
  | .inr x => tix x

theorem kix_bij : Function.Bijective kix := by decide
def kE : Unit ⊕ TI ≃ Fin 49 := Equiv.ofBijective kix kix_bij

/-- A product over a device's transfer semaphores is one over its send cells and one over its receive cells. -/
theorem bigSep_t (Φ : TI → sProp (MT nD τ sig Unit (Elt F) ℕ UU ℕ)) : bigSep Finset.univ Φ
    = iprop((bigSep Finset.univ fun t : Dev nD => bigSep Finset.univ fun i : Fin 3 => Φ (.inl (t, i)))
        ∗ (bigSep Finset.univ fun q : Dev nD => bigSep Finset.univ fun i : Fin 3 => Φ (.inr (q, i)))) := by
  rw [bigSep_univ_sum, bigSep_univ_prod, bigSep_univ_prod]; rfl

/-- A product over a device's cells is its barrier cell's factor, its send cells' and its receive cells'. -/
theorem bigSep_k (Φ : Fin 49 → sProp (MT nD τ sig Unit (Elt F) ℕ UU ℕ)) : bigSep Finset.univ Φ
    = iprop(Φ 0 ∗ (bigSep Finset.univ fun t : Dev nD => bigSep Finset.univ fun i : Fin 3 => Φ (ksnd t i))
        ∗ (bigSep Finset.univ fun q : Dev nD => bigSep Finset.univ fun i : Fin 3 => Φ (krcv i q))) := by
  rw [bigSep_univ_equiv kE, bigSep_univ_sum, bigSep_t]
  rw [bigSep_univ_eq_bigSepL [()] (by decide) (by decide)]
  rfl

/-! ## The semaphores the kernel holds for itself -/

set_option backward.proofsInPublic true in
/-- The four semaphores of the page copies, then the exchange's. -/
def osem : Fin 4 ⊕ TI → SemLoc sig
  | .inl i => .dma ⟨4 + i.val, by have := i.isLt; show 4 + i.val < 56; omega⟩
  | .inr x => csem (tix x)

theorem ownSemFacts : Pipeline.OwnSemFacts cfg0.spec osem := by decide

def fourR (c : Dev nD) : sProp 𝕄 :=
  iprop(semVal ((c : Thread nD τ), osem (.inl 0)) 0 ∗ semVal ((c : Thread nD τ), osem (.inl 1)) 0
    ∗ semVal ((c : Thread nD τ), osem (.inl 2)) 0 ∗ semVal ((c : Thread nD τ), osem (.inl 3)) 0)

theorem ownSems0_eq (c : Dev nD) : (Pipeline.ownSems0 (Ix := Unit) (Name := ℕ) (U := UU) (Lvl := ℕ) (Val := Elt F) (τ := τ) osem c : sProp 𝕄)
    = iprop(fourR (F := F) c ∗ (bigSep Finset.univ fun t : Dev nD => bigSep Finset.univ fun i : Fin 3 => zR (F := F) c (ksnd t i))
        ∗ (bigSep Finset.univ fun q : Dev nD => bigSep Finset.univ fun i : Fin 3 => zR (F := F) c (krcv i q))) := by
  unfold Pipeline.ownSems0
  rw [bigSep_univ_sum, bigSep_t, bigSep_univ_eq_bigSepL [(0 : Fin 4), 1, 2, 3] (by decide) (by decide)]
  rfl

theorem unscopedSems0_eq (c : Dev nD) : (unscopedSems0 c : sProp 𝕄) = zR (F := F) c 0 := by
  unfold unscopedSems0; rw [bigSep_eq_bigSepL_of_eq [SemLoc.reg barS] (by decide) (by decide)]; rfl

/-! ## The launch element -/

theorem kcell_injective : Function.Injective (kcell : Dev nD × Fin 49 → GSem nD τ sig) := by
  rintro ⟨c, k⟩ ⟨c', k'⟩ h
  have h1 : c = c' := congrArg (fun g : GSem nD τ sig => g.1.1) h
  subst h1
  exact congrArg (Prod.mk c) (csem_inj (congrArg Prod.snd h))

def ringCells : Finset (GSem nD τ sig) := Finset.univ.map ⟨kcell, kcell_injective⟩

/-- The duties of a device's own cells: its barrier's, one a device; one of each transfer semaphore. -/
abbrev tokOf (x : Dev nD × (Dev nD ⊕ TI)) : GSem nD τ sig × ℕ × Dev nD := match x.2 with
  | .inl d => (kcell (x.1, 0), 0, d)
  | .inr s => (kcell (x.1, tix s), 0, 0)

theorem tix_ne (s : TI) : tix s ≠ 0 := by
  rcases s with s | s
  · exact ksnd_ne _ _
  · exact krcv_ne _ _
theorem tix_inj : Function.Injective tix := fun a b h => Sum.inr_injective (kix_bij.1 (show kix (.inr a) = kix (.inr b) from h))

theorem tokOf_injective : Function.Injective tokOf := by
  rintro ⟨c, x⟩ ⟨c', x'⟩ h
  have h1 : kcell (c, 0) = kcell (c', 0) := by
    have : c = c' := by
      have := congrArg (fun y : GSem nD τ sig × ℕ × Dev nD => y.1.1.1) h
      rcases x with d | s <;> rcases x' with d' | s' <;> exact this
    rw [this]
  have hc : c = c' := congrArg Prod.fst (kcell_injective h1)
  subst hc
  rcases x with d | s <;> rcases x' with d' | s'
  · exact congrArg (fun y => (c, Sum.inl y)) (congrArg (fun y : GSem nD τ sig × ℕ × Dev nD => y.2.2) h)
  · exact absurd (congrArg Prod.snd (kcell_injective (congrArg Prod.fst h))).symm (tix_ne s')
  · exact absurd (congrArg Prod.snd (kcell_injective (congrArg Prod.fst h))) (tix_ne s)
  · exact congrArg (fun y => (c, Sum.inr y)) (tix_inj (congrArg Prod.snd (kcell_injective (congrArg Prod.fst h))))

def ringToks : Finset (GSem nD τ sig × ℕ × Dev nD) := Finset.univ.map ⟨tokOf, tokOf_injective⟩

def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of a device's own cells. -/
def toks (c : Dev nD) : sProp 𝕄 :=
  iprop((bigSep Finset.univ fun d : Dev nD => dutyTok ER (kcell (c, 0)) 0 d)
    ∗ (bigSep Finset.univ fun t : Dev nD => bigSep Finset.univ fun i : Fin 3 => dutyTok ER (kcell (c, ksnd t i)) 0 0)
    ∗ (bigSep Finset.univ fun q : Dev nD => bigSep Finset.univ fun i : Fin 3 => dutyTok ER (kcell (c, krcv i q)) 0 0))

/-- The tokens a device pays with. -/
def payToks (c : Dev nD) : sProp 𝕄 :=
  iprop((bigSep Finset.univ fun t : Dev nD => dutyTok ER (kcell (t, 0)) 0 c)
    ∗ (bigSep Finset.univ fun t : Dev nD => bigSep Finset.univ fun i : Fin 3 => tokR (F := F) c t i))

/-- What the launch element deals a device. -/
def deal (c : Dev nD) : sProp 𝕄 :=
  iprop((bigSep Finset.univ fun k : Fin 49 => roundState ER (Rd AM AL AO) (kcell (c, k)) 0)
    ∗ ((bigSep Finset.univ fun k : Fin 49 => atR (F := F) c k) ∗ (bigSep Finset.univ fun k : Fin 49 => reached ER (kcell (c, k)) 0)) ∗ toks (F := F) c)

/-- What a device's body starts from, of the exchange: the records, its positions, the tokens it pays with, the semaphores
    of its page copies at zero. -/
def ghost (K : Dev nD × Fin 49 → ℕ) (c : Dev nD) : sProp 𝕄 :=
  iprop(records AM AL AO K ∗ (bigSep Finset.univ fun k : Fin 49 => atR (F := F) c k) ∗ payToks (F := F) c ∗ fourR (F := F) c)

def ghosts (c : Dev nD) : sProp 𝕄 := iprop(∃ K, ghost AM AL AO K c)

theorem fund_ring : BI.own (ER (F := F) (initOf ringCells ringToks)) ⊢ (|==> bigSep Finset.univ (deal AM AL AO) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_sum, bigSep_t]; rfl
  iintro HX
  imod (Rounds.fund ER (Rd AM AL AO) ringCells ringToks) $$ HX with ⟨Hst, Hr, Hat, Htok⟩
  imodintro
  ihave Hst' := (Entails.of_eq (hX fun g => roundState ER (Rd AM AL AO) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal atR; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ deal AM AL AO c)
      ⊢ |={Set.univ}=> iprop((bigSep Finset.univ fun k => iprop(∃ κ : ℕ, cellInv ER (Rd AM AL AO) κ (kcell (c, k))))
          ∗ (bigSep Finset.univ fun k : Fin 49 => reached ER (kcell (c, k)) 0)
          ∗ ((bigSep Finset.univ fun k : Fin 49 => atR (F := F) c k) ∗ fourR (F := F) c) ∗ toks (F := F) c) := by
  unfold deal
  rw [ownSems0_eq, unscopedSems0_eq]
  iintro ⟨⟨H4, Hs, Hr⟩, Hb, Hst, ⟨Hat, Hre⟩, Htok⟩
  ihave Hv := (Entails.of_eq (bigSep_k (F := F) fun k => zR (F := F) c k).symm) $$ [Hb Hs Hr]
  · isplitl [Hb]; · iexact Hb
    isplitl [Hs] <;> iassumption
  imod (show iprop((bigSep Finset.univ fun k : Fin 49 => zR (F := F) c k) ∗ bigSep Finset.univ fun k : Fin 49 => roundState ER (Rd AM AL AO) (kcell (c, k)) 0)
      ⊢ (|={Set.univ}=> bigSep Finset.univ fun k => iprop(∃ κ : ℕ, cellInv ER (Rd AM AL AO) κ (kcell (c, k))) : sProp 𝕄) from by
        unfold zR
        rw [← bigSep_sep']
        exact (bigSep_mono fun k _ => (Rounds.body_intro ER (Rd AM AL AO) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat H4]; · isplitl [Hat] <;> iassumption
  iexact Htok

/-- The barrier's tokens go to the devices that signal, a receive cell's to the sender. -/
theorem toks_around : (bigSep Finset.univ fun c : Dev nD => (toks (F := F) c : sProp 𝕄)) ⊢ bigSep Finset.univ fun c : Dev nD => payToks (F := F) c := by
  unfold toks payToks tokR
  simp only [bigSep_sep']
  rw [bigSep_univ_comm (fun c d : Dev nD => (dutyTok ER (kcell (c, 0)) 0 d : sProp 𝕄)),
    bigSep_univ_comm (fun c q : Dev nD => (bigSep Finset.univ fun i : Fin 3 => dutyTok ER (kcell (c, krcv i q)) 0 0 : sProp 𝕄))]

theorem regroup :
    (bigSep Finset.univ fun c : Dev nD => iprop((bigSep Finset.univ fun k => iprop(∃ κ : ℕ, cellInv ER (Rd AM AL AO) κ (kcell (c, k))))
          ∗ (bigSep Finset.univ fun k : Fin 49 => reached ER (kcell (c, k)) 0)
          ∗ ((bigSep Finset.univ fun k : Fin 49 => atR (F := F) c k) ∗ fourR (F := F) c) ∗ toks (F := F) c) : sProp 𝕄)
      ⊢ bigSep Finset.univ (ghosts AM AL AO) := by
  rw [bigSep_sep', bigSep_sep', bigSep_sep', ← bigSep_univ_prod (fun ck : Dev nD × Fin 49 => iprop(∃ κ : ℕ, cellInv ER (Rd AM AL AO) κ (kcell ck))),
    ← bigSep_univ_prod (fun ck : Dev nD × Fin 49 => (reached ER (kcell ck) 0 : sProp 𝕄))]
  iintro ⟨HI, #HR, Hlin, Htok⟩
  ihave HK := (BI.bigSep_exists_pi Finset.univ (fun (ck : Dev nD × Fin 49) (κ : ℕ) => (cellInv ER (Rd AM AL AO) κ (kcell ck) : sProp 𝕄))) $$ HI
  icases HK with ⟨%K, #HI⟩
  ihave Htk := (toks_around (F := F)) $$ Htok
  iapply (BI.bigSep_with_persistent (R := records AM AL AO K)
    (Φ := fun c : Dev nD => iprop(((bigSep Finset.univ fun k : Fin 49 => atR (F := F) c k) ∗ fourR (F := F) c) ∗ payToks (F := F) c)) fun c _ => ?_)
  · unfold ghosts ghost
    iintro ⟨#HR, ⟨Ha, H4⟩, Ht⟩
    iexists K
    isplitr; · iexact HR
    isplitl [Ha]; · iexact Ha
    isplitl [Ht] <;> iassumption
  · isplitr
    · unfold records; isplitl; · iexact HI
      iexact HR
    · iapply (Entails.of_eq (bigSep_sep' Finset.univ (fun c : Dev nD => iprop((bigSep Finset.univ fun k : Fin 49 => atR (F := F) c k) ∗ fourR (F := F) c)) (payToks (F := F))).symm)
      isplitl [Hlin]; · iexact Hlin
      iexact Htk

/-- The global step: every device's own and barrier semaphores at once. -/
theorem glob : (bigSep Finset.univ fun c => iprop(Pipeline.ownSems0 (Ix := Unit) (Name := ℕ) (U := UU) (Lvl := ℕ) (Val := Elt F) (τ := τ) osem c ∗ unscopedSems0 c ∗ deal AM AL AO c) : sProp 𝕄)
    ⊢ |={Set.univ}=> bigSep Finset.univ (ghosts AM AL AO) :=
  ((bigSep_mono fun c _ => core_alloc AM AL AO c).trans (bigSep_fupd _ _)).trans (BI.fupd_mono (regroup AM AL AO))

/-! ## The launch credit -/

theorem Ow_apply (c : Dev nD) (g : GSem nD τ sig) (u : Unit) : ∀ k, Ow c k g u = ∑ j ∈ Finset.range k, pay c (31 - j) g u
  | 0 => rfl
  | k + 1 => by rw [Ow, Pi.add_apply, Finsupp.add_apply, Ow_apply c g u k, Finset.sum_range_succ]

theorem O₀_apply (c : Dev nD) (g : GSem nD τ sig) : O₀ c g () = ∑ j ∈ Finset.range 32, pay c j g () := by
  rw [O₀, Ow_apply]
  exact Finset.sum_nbij' (fun j => 31 - j) (fun j => 31 - j) (fun j hj => Finset.mem_range.mpr (by have := Finset.mem_range.mp hj; omega))
    (fun j hj => Finset.mem_range.mpr (by have := Finset.mem_range.mp hj; omega))
    (fun j hj => by have := Finset.mem_range.mp hj; omega) (fun j hj => by have := Finset.mem_range.mp hj; omega) (fun _ _ => rfl)

theorem owes_bar (d c : Dev nD) (j : ℕ) (hj : j < 32) : pay d j (kcell (c, 0)) () = if j = c.val then 1 else 0 := by
  unfold pay
  have hc : c.val < 8 := c.isLt
  by_cases h : j < 8
  · rw [if_pos h, tallyAt_apply]
    refine if_congr ⟨fun h' => ?_, fun h' => ⟨?_, rfl⟩⟩ rfl rfl
    · have := congrArg (fun x : Dev nD × Fin 49 => x.1.val) (kcell_injective h'.1)
      have e : c.val = j % 8 := this
      omega
    · exact congrArg (fun x => kcell (x, 0)) (Fin.ext (show c.val = j % 8 by omega))
  · rw [if_neg h, tallyAt_apply, if_neg, if_neg (by omega)]
    rintro ⟨h', -⟩
    exact krcv_ne _ _ (congrArg Prod.snd (kcell_injective h')).symm

theorem owes_rcv (d c : Dev nD) (i : Fin 3) (q : Dev nD) (j : ℕ) (hj : j < 32) :
    pay d j (kcell (c, krcv i q)) () = if j = 8 + 3 * c.val + i.val then (if d = q then NN i else 0) else 0 := by
  unfold pay
  have hc : c.val < 8 := c.isLt
  have hq : q.val < 8 := q.isLt
  have hd : d.val < 8 := d.isLt
  have hi := i.isLt
  by_cases h : j < 8
  · rw [if_pos h, tallyAt_apply, if_neg, if_neg (by omega)]
    rintro ⟨h', -⟩
    exact krcv_ne _ _ (congrArg Prod.snd (kcell_injective h'))
  · rw [if_neg h, tallyAt_apply]
    by_cases hh : j = 8 + 3 * c.val + i.val ∧ d = q
    · obtain ⟨rfl, rfl⟩ := hh
      have e1 : (⟨(8 + 3 * c.val + i.val - 8) / 3 % 8, Nat.mod_lt _ (by decide)⟩ : Dev nD) = c := Fin.ext (show (8 + 3 * c.val + i.val - 8) / 3 % 8 = c.val by omega)
      have e2 : (⟨(8 + 3 * c.val + i.val - 8) % 3, Nat.mod_lt _ (by decide)⟩ : Fin 3) = i := Fin.ext (show (8 + 3 * c.val + i.val - 8) % 3 = i.val by omega)
      rw [e1, e2, if_pos ⟨rfl, rfl⟩, if_pos rfl, if_pos rfl]
    · rw [if_neg]
      · rw [← ite_and, if_neg hh]
      · rintro ⟨h', -⟩
        have h1 := congrArg (fun x : Dev nD × Fin 49 => x.1.val) (kcell_injective h')
        have h2 := congrArg (fun x : Dev nD × Fin 49 => x.2.val) (kcell_injective h')
        have e1 : c.val = (j - 8) / 3 % 8 := h1
        have e2 : 25 + 8 * i.val + q.val = 25 + 8 * ((j - 8) % 3) + d.val := h2
        exact hh ⟨by omega, Fin.ext (by omega)⟩

theorem owed_bar (d c : Dev nD) : O₀ d (kcell (c, 0)) () = 1 := by
  have hc : c.val < 8 := c.isLt
  rw [O₀_apply, Finset.sum_congr rfl fun j hj => owes_bar d c j (Finset.mem_range.mp hj), Finset.sum_ite_eq', if_pos (Finset.mem_range.mpr (by omega))]

theorem owed_rcv (d c : Dev nD) (i : Fin 3) (q : Dev nD) : O₀ d (kcell (c, krcv i q)) () = if d = q then NN i else 0 := by
  have hc : c.val < 8 := c.isLt
  have hi := i.isLt
  rw [O₀_apply, Finset.sum_congr rfl fun j hj => owes_rcv d c i q j (Finset.mem_range.mp hj), Finset.sum_ite_eq', if_pos (Finset.mem_range.mpr (by omega))]

theorem launch_bar (c : Dev nD) :
    tallyOn (kcell (c, 0)) (launchCredit (Pipeline.owing O₀) 0 (kcell (c, 0))) = (tallyAt (kcell (c, 0)) () 8 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_rcv (c : Dev nD) (i : Fin 3) (q : Dev nD) :
    tallyOn (kcell (c, krcv i q)) (launchCredit (Pipeline.owing O₀) 0 (kcell (c, krcv i q))) = (tallyAt (kcell (c, krcv i q)) () (NN i) : CellTallies nD τ sig Unit) := by
  unfold tallyAt; refine congrArg _ (Finsupp.ext fun u => ?_); cases u
  rw [Pipeline.launchCredit_owing, Finsupp.single_eq_same, Finset.sum_congr rfl fun d _ => owed_rcv d c i q,
    Finset.sum_ite_eq' Finset.univ q fun _ => NN i, if_pos (Finset.mem_univ _)]

theorem creds (c : Dev nD) :
    (Pipeline.launchCred O₀ c : sProp 𝕄) ⊢ iprop(cred (tallyAt (kcell (c, 0)) () 8)
      ∗ (bigSep Finset.univ fun q : Dev nD => bigSep Finset.univ fun i : Fin 3 => credR (F := F) c (krcv i q) i)) := by
  unfold Pipeline.launchCred
  refine (bigSep_subset (Finset.subset_univ (Finset.univ.map ⟨csem, csem_inj⟩))).trans ?_
  rw [bigSep_map, bigSep_k]
  refine Entails.trans (Q := iprop(cred (tallyOn (kcell (c, 0)) (launchCredit (Pipeline.owing O₀) 0 (kcell (c, 0))))
      ∗ bigSep Finset.univ fun q : Dev nD => bigSep Finset.univ fun i : Fin 3 =>
          cred (tallyOn (kcell (c, krcv i q)) (launchCredit (Pipeline.owing O₀) 0 (kcell (c, krcv i q)))))) ?_ (Entails.of_eq ?_)
  · iintro ⟨H1, -, H2⟩
    isplitl [H1]; · iexact H1
    iexact H2
  unfold credR
  rw [show (fun q : Dev nD => bigSep Finset.univ fun i : Fin 3 => (cred (tallyAt (kcell (c, krcv i q)) () (NN i)) : sProp 𝕄))
      = fun q : Dev nD => bigSep Finset.univ fun i : Fin 3 => cred (tallyOn (kcell (c, krcv i q)) (launchCredit (Pipeline.owing O₀) 0 (kcell (c, krcv i q)))) from
        funext fun q => congrArg _ (funext fun i => congrArg _ (launch_rcv c i q).symm), ← launch_bar c]

end Cert.PagedProof

end
-- ==== Proof.Body.lean ====
/-
The body on one device, from what the launch hands it: the first half leaves the partial result, the second half
exchanges it and writes the device's result.
-/
module

public import proofs.«01_k».proof.Proof.Pre
public import proofs.«01_k».proof.Proof.Post
public import proofs.«01_k».proof.Proof.Cells
public import proofs.«01_k».proof.Proof.Gen.KernelIdeal.Points

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The staged queries, block table and lengths. -/
def qAt (c : Dev nD) : (cc0_stg0_0 : Ref sig .tc).ty.Contents (Elt F) := (win0_0.blk (0 : Fin 1)).view.read (Elt F) (m ((c : Thread nD τ).loc main_arg0))
def bAt (c : Dev nD) : (cc0_stg1_0 : Ref sig .tc).ty.Contents (Elt F) := (win0_1.blk (0 : Fin 1)).view.read (Elt F) (m ((c : Thread nD τ).loc main_arg3))
def lAt (c : Dev nD) : (cc0_stg2_0 : Ref sig .tc).ty.Contents (Elt F) := (win0_2.blk (0 : Fin 1)).view.read (Elt F) (m ((c : Thread nD τ).loc main_arg4))

/-- The page pools of a device. -/
abbrev kAt (c : Dev nD) : Buf (Elt F) ((c : Thread nD τ).loc main_arg1) := m ((c : Thread nD τ).loc main_arg1)
abbrev vAt (c : Dev nD) : Buf (Elt F) ((c : Thread nD τ).loc main_arg2) := m ((c : Thread nD τ).loc main_arg2)

/-- Each device's partial result: the running maxima, the weighted sums of exponentials, the weighted values. -/
def AM (c : Dev nD) : (cc0_scratch2 : Ref sig .tc).ty.Contents (Elt F) := mAcc c (qAt m c) (kAt m c)
def AL (c : Dev nD) : (cc0_scratch3 : Ref sig .tc).ty.Contents (Elt F) := lAcc c (qAt m c) (kAt m c) (bAt m c) (lAt m c)
def AO (c : Dev nD) : (cc0_scratch4 : Ref sig .tc).ty.Contents (Elt F) := oAcc c (qAt m c) (kAt m c) (vAt m c) (bAt m c) (lAt m c)

/-- What every device's result holds. -/
def outv : (cc0_stg3_0 : Ref sig .tc).ty.Contents (Elt F) := outOf (GM (AM m)) (GL (AL m)) (GO (AO m))

/-! ## What the body starts from and what it leaves -/

def pools (c : Dev nD) : sProp 𝕄 :=
  iprop((((c : Thread nD τ).loc main_arg1) ↦{fullShare} kAt m c) ∗ (((c : Thread nD τ).loc main_arg2) ↦{fullShare} vAt m c))

def scr (c : Dev nD) (b : Ref sig .tc) : sProp 𝕄 := iprop(∃ f : Buf (Elt F) ((c : Thread nD τ).loc b), ((c : Thread nD τ).loc b) ↦{fullShare} f)
def scrs (c : Dev nD) : sProp 𝕄 :=
  iprop(scr (F := F) c cc0_scratch0 ∗ scr (F := F) c cc0_scratch1 ∗ scr (F := F) c cc0_scratch2 ∗ scr (F := F) c cc0_scratch3
    ∗ scr (F := F) c cc0_scratch4 ∗ scr (F := F) c cc0_scratch5 ∗ scr (F := F) c cc0_scratch6 ∗ scr (F := F) c cc0_scratch7)

def start (c : Dev nD) : sProp 𝕄 :=
  iprop(ghosts (AM m) (AL m) (AO m) c ∗ cred (tallyAt (kcell (c, 0)) () 8)
    ∗ (bigSep Finset.univ fun q : Dev nD => bigSep Finset.univ fun i : Fin 3 => credR (F := F) c (krcv i q) i) ∗ levAts L lv ∗ pools m c)

def Φ₀ (c : Dev nD) : sProp 𝕄 := iprop(start m c ∗ scrs (F := F) c)
def Φ₁ (c : Dev nD) : sProp 𝕄 :=
  iprop(scrs (F := F) c ∗ fourR (F := F) c ∗ zR (F := F) c 0 ∗ (bigSep Finset.univ fun t : Dev nD => bigSep Finset.univ fun i : Fin 3 => zR (F := F) c (ksnd t i))
    ∗ (bigSep Finset.univ fun q : Dev nD => bigSep Finset.univ fun i : Fin 3 => zR (F := F) c (krcv i q)) ∗ pools m c)

def dats (_ : Fin 1) (c : Dev nD) : Dat τ (Elt F) Unit ℕ UU ℕ cfg0 c where
  A w := m ((cfg0.win w).arr.view.loc (c : Thread nD τ))
  after w _ := match w with
    | ⟨0, _⟩ => qAt m c
    | ⟨1, _⟩ => bAt m c
    | ⟨2, _⟩ => lAt m c
    | ⟨3, _⟩ => outv m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Regroupings -/

/-- A points-to as the part kept back and the two shares the page copies read under. -/
theorem two_shares (ℓ : Loc nD τ sig) (f : Buf (Elt F) ℓ) :
    (ℓ ↦{fullShare} f : sProp 𝕄) ⊣⊢ iprop((ℓ ↦{Transfers.shareDrop fullShare 2} f) ∗ (ℓ ↦{Transfers.shareTok fullShare 2 0} f) ∗ (ℓ ↦{Transfers.shareTok fullShare 2 1} f)) := by
  have h := Transfers.pointsTo_toks (Ix := Unit) (Name := ℕ) (U := UU) (Lvl := ℕ) (ℓ := ℓ) (S := Finset.univ) (f := f) fullShare 2
  rw [bigSep_univ_eq_bigSepL [(0 : Fin 2), 1] (by decide) (by decide)] at h
  exact h

/-- The landing arrays of a device are what its signals hand over. -/
theorem slots_pay (c : Dev nD) :
    iprop(scr (F := F) c cc0_scratch5 ∗ scr (F := F) c cc0_scratch6 ∗ scr (F := F) c cc0_scratch7) ⊢ bigSep Finset.univ fun t : Dev nD => barPay (F := F) t c := by
  unfold barPay scr
  rw [bigSep_sep', bigSep_sep']
  iintro ⟨⟨%f, H5⟩, ⟨%g, H6⟩, ⟨%h, H7⟩⟩
  isplitl [H5]
  · iapply ((Entails.of_eq (slotsM c f)).trans (bigSep_mono fun t _ => show atM (F := F) c t f ⊢ freeM (F := F) c t from by
      unfold freeM; iintro H; iexists f; iexact H)); iexact H5
  isplitl [H6]
  · iapply ((Entails.of_eq (slotsL c g)).trans (bigSep_mono fun t _ => show atL (F := F) c t g ⊢ freeL (F := F) c t from by
      unfold freeL; iintro H; iexists g; iexact H)); iexact H6
  · iapply ((Entails.of_eq (slotsO c h)).trans (bigSep_mono fun t _ => show atO (F := F) c t h ⊢ freeO (F := F) c t from by
      unfold freeO; iintro H; iexists h; iexact H)); iexact H7

/-! ## The body -/

def bodyPost (c : Dev nD) : sProp 𝕄 :=
  iprop(Φ₁ m c ∗ (dats m 0 c).owesAt () t0_0.succ ∗ stg c cc0_stg0_0 (qAt m c) ∗ stg c cc0_stg1_0 (bAt m c) ∗ stg c cc0_stg2_0 (lAt m c) ∗ stg c cc0_stg3_0 (outv m))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))

abbrev body : Prog (TpuEff nD τ sig (Elt F) Λ₀ .tc) PUnit :=
  cc0_body (Memref.whole cc0_stg0_0) (Memref.isWhole_whole _) (Memref.whole main_arg1) (Memref.isWhole_whole _) (Memref.whole main_arg2) (Memref.isWhole_whole _)
    (Memref.whole cc0_stg1_0) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13

theorem four_eq (c : Dev nD) : (fourR (F := F) c : sProp 𝕄)
    = iprop(semVal ((c : Thread nD τ), SemLoc.dma (((cc0_scratch8 : DmaSems sig S2).slice (Rect.unit (s := S2) ![0] S1.size inb_S2_S1_0)).squeeze S_ squeezes_S1_S_).sem) 0
        ∗ semVal ((c : Thread nD τ), SemLoc.dma (((cc0_scratch8 : DmaSems sig S2).slice (Rect.unit (s := S2) ![1] S1.size inb_S2_S1_1)).squeeze S_ squeezes_S1_S_).sem) 0
        ∗ semVal ((c : Thread nD τ), SemLoc.dma (((cc0_scratch9 : DmaSems sig S2).slice (Rect.unit (s := S2) ![0] S1.size inb_S2_S1_0)).squeeze S_ squeezes_S1_S_).sem) 0
        ∗ semVal ((c : Thread nD τ), SemLoc.dma (((cc0_scratch9 : DmaSems sig S2).slice (Rect.unit (s := S2) ![1] S1.size inb_S2_S1_1)).squeeze S_ squeezes_S1_S_).sem) 0) := rfl

set_option maxHeartbeats 2000000 in
theorem sound_body (c : Dev nD) : bodyPre m c ⊢ wp frame (wpE (defs₀ (F := F)) 𝒱₀ (c : Thread nD τ) none) Set.univ (body (F := F)) (fun _ => bodyPost m c) := by
  unfold bodyPre Φ₀ start ghosts ghost pools Dat.owesAt Pipeline.owesWithin scrs
  iintro ⟨⟨⟨⟨%K, #HR, Hat, Htk, H4⟩, Hc8, Hcr, #Hlev, HK, HV⟩, H0, H1, H2, H3, H4s, H5, H6, H7⟩, ⟨%W, -, HO⟩, ⟨%d0, %g0, %h0, Hq⟩, ⟨%d1, %g1, %h1, Hb⟩, ⟨%d2, %g2, %h2, Hl⟩, ⟨%d3, %g3, -, Hout⟩⟩
  ihave Hp := (slots_pay (F := F) c) $$ [H5 H6 H7]
  · isplitl [H5]; · iexact H5
    isplitl [H6] <;> iassumption
  unfold scr
  icases H0 with ⟨%f0, H0⟩
  icases H1 with ⟨%f1, H1⟩
  icases H2 with ⟨%f2, H2⟩
  icases H3 with ⟨%f3, H3⟩
  icases H4s with ⟨%f4, H4s⟩
  have e0 : g0 = qAt m c := h0.trans (by unfold Dat.before; rw [if_pos (fetch0_0 t0_0)]; rfl)
  have e1 : g1 = bAt m c := h1.trans (by unfold Dat.before; rw [if_pos (fetch0_1 t0_0)]; rfl)
  have e2 : g2 = lAt m c := h2.trans (by unfold Dat.before; rw [if_pos (fetch0_2 t0_0)]; rfl)
  subst e0 e1 e2
  ihave HKs := (two_shares (F := F) _ _).1 $$ HK
  icases HKs with ⟨HKd, HK0, HK1⟩
  ihave HVs := (two_shares (F := F) _ _).1 $$ HV
  icases HVs with ⟨HVd, HV0, HV1⟩
  unfold body
  ihave H4 := (Entails.of_eq (four_eq (F := F) c)) $$ H4
  icases H4 with ⟨Hs4, Hs5, Hs6, Hs7⟩
  iapply (Entails.of_eq (split (F := F) _ _ _ _ _ _ _ _ _ _ _ _ _ _ _ _ _ _ _ _ _ _ _ _ _ _ _ _ _ _ _ _ _ _ c).symm)
  iapply (pre_run c (fun q hq => mayWait_low c q hq 32) (qAt m c) (kAt m c) (vAt m c) (bAt m c) (lAt m c) f0 f1 f2 f3 f4 W)
  unfold preRead
  isplitl [Hq HK0 HK1 HV0 HV1 Hb Hl Hs4 Hs5 Hs6 Hs7]
  · isplitl [Hq]; · iexact Hq
    isplitl [HK0]; · iexact HK0
    isplitl [HK1]; · iexact HK1
    isplitl [HV0]; · iexact HV0
    isplitl [HV1]; · iexact HV1
    isplitl [Hb]; · iexact Hb
    isplitl [Hl]; · iexact Hl
    isplitl [Hs4]; · iexact Hs4
    isplitl [Hs5]; · iexact Hs5
    isplitl [Hs6]; · iexact Hs6
    iexact Hs7
  isplitl [H0]; · iexact H0
  isplitl [H1]; · iexact H1
  isplitl [H2]; · iexact H2
  isplitl [H3]; · iexact H3
  isplitl [H4s]; · iexact H4s
  isplitl [HO]; · iexact HO
  isplitr; · iexact Hlev
  iintro %a %b %d %e %f ⟨⟨Hq, HK0, HK1, HV0, HV1, Hb, Hl, Hs4, Hs5, Hs6, Hs7⟩, H0, H1, H2, H3, H4, HO⟩
  iapply (post_run (AM m) (AL m) (AO m) K c a b d e f)
  unfold payToks
  icases Htk with ⟨Hbt, Htr⟩
  ihave Hat' := (Entails.of_eq (bigSep_k (F := F) fun k => atR (F := F) c k)) $$ Hat
  icases Hat' with ⟨Ha0, Has, Har⟩
  unfold postPre
  isplitl [HO H2 H3 H4 Hbt Hp Htr Hc8 Ha0 Has Har Hcr Hout]
  · isplitr; · iexact HR
    isplitr; · iexact Hlev
    isplitl [HO]; · iexact HO
    isplitl [H2]; · iexact H2
    isplitl [H3]; · iexact H3
    isplitl [H4]; · iexact H4
    isplitl [Hbt Hp]
    · unfold sigR
      rw [bigSep_sep']
      isplitl [Hbt] <;> iassumption
    isplitl [Htr]; · iexact Htr
    isplitl [Hc8]; · iexact Hc8
    isplitl [Ha0]; · iexact Ha0
    isplitl [Has]; · iexact Has
    isplitl [Har Hcr]
    · simp only [bigSep_sep']
      isplitl [Har] <;> iassumption
    iexists g3; iexact Hout
  unfold postPost
  iintro ⟨HO, H2, H3, H4, H5, H6, H7, Hz0, Hzs, Hzr, Hout⟩
  ihave HK := (two_shares (F := F) _ _).2 $$ [HKd HK0 HK1]
  · isplitl [HKd]; · iexact HKd
    isplitl [HK0]; · iexact HK0
    iexact HK1
  ihave HV := (two_shares (F := F) _ _).2 $$ [HVd HV0 HV1]
  · isplitl [HVd]; · iexact HVd
    isplitl [HV0]; · iexact HV0
    iexact HV1
  unfold bodyPost Φ₁ pools scrs scr Dat.owesAt Pipeline.owesWithin owesAny
  rw [four_eq]
  icases HO with ⟨%W', HO⟩
  isplitr [HO Hq Hb Hl Hout]
  · isplitl [H0 H1 H2 H3 H4 H5 H6 H7]
    · isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7
    isplitl [Hs4 Hs5 Hs6 Hs7]
    · isplitl [Hs4]; · iexact Hs4
      isplitl [Hs5]; · iexact Hs5
      isplitl [Hs6]; · iexact Hs6
      iexact Hs7
    isplitl [Hz0]; · iexact Hz0
    isplitl [Hzs]; · iexact Hzs
    isplitl [Hzr]; · iexact Hzr
    isplitl [HK]; · iexact HK
    iexact HV
  isplitl [HO]
  · iexists W'; isplitr; · ipureintro; exact fun _ _ => Or.inl trivial
    iexact HO
  isplitl [Hq]; · iexists _; isplitr; · (ipureintro; rfl)
                  iexact Hq
  isplitl [Hb]; · iexists _; isplitr; · (ipureintro; rfl)
                  iexact Hb
  isplitl [Hl]; · iexists _; isplitr; · (ipureintro; rfl)
                  iexact Hl
  iexists _; isplitr; · (ipureintro; rfl)
  iexact Hout

/-- The library's body obligation on core `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

end Cert.PagedProof

end
-- ==== Proof.Run.lean ====
/-
The run of the kernel on the mesh: every execution ends, with each device's result at the computed contents, the
arguments as they were and every semaphore at zero.
-/
module

public import proofs.«01_k».proof.Proof.Body
public import Idealize.ShloMosaic.Lib.Quiescent
public import Idealize.ShloMosaic.Lib.Pipeline.CollectiveSegs

@[expose] public section

set_option maxRecDepth 16384

noncomputable section

namespace Cert.PagedProof

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghosts (AM m) (AL m) (AO m) c)
      ⊢ |={Set.univ}=> iprop(start m c ∗ emp) := by
  rw [Pipeline.unscopedRestP_none, unscopedRest0_eq]
  iintro ⟨Hp, Hlev, Hcr, -, HG⟩
  ihave Hc := (creds (F := F) c) $$ Hcr
  icases Hc with ⟨H1, HN⟩
  imodintro
  unfold start pools
  isplitl
  · isplitl [HG]; · iexact HG
    isplitl [H1]; · iexact H1
    isplitl [HN]; · iexact HN
    isplitl [Hlev]; · iexact Hlev
    iexact Hp
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs scr
  iintro ⟨Hs, -, Hr⟩
  isplitl [Hs]; · iexact Hs
  iexact Hr

theorem phi1_exit (c : Dev nD) :
    (dats m 0 c).Φ (Fin.last cfg0.N) ⊢ iprop((unscopedSems0 c ∗ pools m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scrs scr
  iintro ⟨Hr, H4, Hz0, Hzs, Hzr, Hp⟩
  isplitl [Hz0 Hp]
  · isplitl [Hz0] <;> iassumption
  isplitl [H4 Hzs Hzr]
  · isplitl [H4]; · iexact H4
    isplitl [Hzs] <;> iassumption
  iexact Hr

theorem waits (c : Dev nD) : (levAts L lv : sProp 𝕄) ⊢ Pipeline.cellsWaits cfgs (dats m) () 0 c :=
  Pipeline.cellsWaits_intro cfgs (dats m) () 0 c fun w s t => by
    have hq : ((cfg0.win w).sem s).val < 32 := by
      clear t; revert s; fin_cases w <;> decide
    rcases t with ⟨_ | _, ht⟩
    · exact mayWait_low c _ hq 32
    · exact mayWait_low c _ hq 0

/-! ### The run -/

def finalA (c : Dev nD) (w : Fin cfg0.W) : Buf (Elt F) ((cfg0.win w).arr.view.loc (c : Thread nD τ)) := (dats m 0 c).arrAt w cfg0.N

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = kAt m c ∧ s.mem ((c : Thread nD τ).loc main_arg2) = vAt m c

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = kAt m c ∧ r.2.mem ((c : Thread nD τ).loc main_arg2) = vAt m c

/-- What is kept past the region is read off the final state. -/
theorem read_end (c : Dev nD) (s' : Phys nD τ sig (Elt F)) :
    iprop((unscopedSems0 c ∗ pools m c) ∗ emp ∗ SI s') ⊢ (|={Set.univ}=> iprop(⌜QY m c s'.mem⌝ ∗ SI s') : sProp 𝕄) := by
  unfold pools
  iintro ⟨⟨Hu, HK, HV⟩, -, HSI⟩
  imod (Pipeline.unscopedSems0_read (X := unscopedSems0 c) (c := c) fupd_intro s') $$ [Hu HSI] with ⟨%h1, HSI⟩
  · isplitl [Hu] <;> iassumption
  ihave H := (persistent_entails_right (SI_pointsTo_agree (st := s') (ℓ := (c : Thread nD τ).loc main_arg1) (I := Finset.univ) (q := fullShare) (f := kAt m c))) $$ [HSI HK]
  · isplitl [HSI] <;> iassumption
  icases H with ⟨%h2, HSI, -⟩
  ihave H := (persistent_entails_right (SI_pointsTo_agree (st := s') (ℓ := (c : Thread nD τ).loc main_arg2) (I := Finset.univ) (q := fullShare) (f := vAt m c))) $$ [HSI HV]
  · isplitl [HSI] <;> iassumption
  icases H with ⟨%h3, HSI, -⟩
  imodintro
  isplitr
  · ipureintro; exact ⟨h1, funext fun i => h2 i (Finset.mem_univ i), funext fun i => h3 i (Finset.mem_univ i)⟩
  iexact HSI

theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal (AM m) (AL m) (AO m)) (G' := ghosts (AM m) (AL m) (AO m)) (u₀ := u₀)
    (hu₀ := by
      unfold u₀
      iintro Hu
      ihave H := (ownU_split _ _) $$ Hu
      icases H with ⟨HP, HX⟩
      imod (fund_ring (AM m) (AL m) (AO m)) $$ HX with HG
      imodintro
      isplitl [HP] <;> iassumption)
    (hglob := glob (AM m) (AL m) (AO m))
    (hA := fun _ _ => rfl) (hpf := fun _ k => k.elim0)
    (X := start m) (Y := fun c => iprop(unscopedSems0 c ∗ pools m c)) (Z := fun _ => iprop(emp))
    (hX := start_intro m ρ) (hin := phi0_intro m) (hout := phi1_exit m)
    (QY := QY m) (hY := read_end m)
    (hQ := fun _ h hs => ⟨fun c => ⟨fun w => (h c).1 w, (h c).2.2.2⟩, sem_eq_zero hs fun c => (h c).2.2.1⟩)

end Cert.PagedProof

end
-- ==== Proof.Frames.lean ====
/-
What a final state of the launch holds, array by array: the result's contents, the arguments as they were, every
semaphore at zero.
-/
module

public import proofs.«01_k».proof.Proof.Run

@[expose] public section

set_option maxRecDepth 16384

noncomputable section

namespace Cert.PagedProof

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The result array at the end: the last window's array after its only block is written back. -/
def resAt (c : Dev nD) : Buf (Elt F) ((c.tc : Thread nD τ).loc main_v1) := finalA m c 3

/-- The first, fourth and fifth arguments are staged by windows that are only read; the second and third are read by the
    body's own copies. -/
theorem run_arrays :
    θ_run defs (onTc (τ := τ) (main (F := F))) ⟨m, fun _ => 0, ρ⟩ (fun r => (∀ c : Dev nD,
      r.2.mem ((c.tc : Thread nD τ).loc main_v1) = resAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).1 0).trans ((dats m 0 c).arrAt_in 0 rfl _),
      (h.1 c).2.1, (h.1 c).2.2,
      ((h.1 c).1 1).trans ((dats m 0 c).arrAt_in 1 rfl _),
      ((h.1 c).1 2).trans ((dats m 0 c).arrAt_in 2 rfl _)⟩, h.2⟩) (run_main m ρ)

end Cert.PagedProof

end
-- ==== Proof.Same.lean ====
/-
The kernel as printed and the kernel printed for the extended reals are one program: no rewrite was applied, so over
any float values the two bodies, and with them the two tables of bodies, are equal.
-/
module

public import proofs.«01_k».proof.Proof.Gen.Kernel
public import proofs.«01_k».proof.Proof.Gen.KernelIdeal

@[expose] public section

noncomputable section

namespace Cert.PagedProof

open Idealize.ShloMosaic Idealize.SL.Sem

variable {F : FTy → Type} [FloatOps F]

theorem body_same : @Cert.Kernel.cc0_body F _ _ = @Cert.KernelIdeal.cc0_body F _ _ := rfl

theorem defs₀_same : Cert.Kernel.defs₀ (F := F) = Cert.KernelIdeal.defs₀ := by
  unfold Cert.Kernel.defs₀ Cert.KernelIdeal.defs₀
  refine congrArg Defs.onTc ?_
  funext l a
  match l, a with
  | 0, (t, s) =>
    have e := body_same (F := F)
    simp only [e]

theorem defs_same : Cert.Kernel.defs (F := F) = Cert.KernelIdeal.defs :=
  congrArg (Pipeline.defs (Cert.KernelIdeal.pcfgs (F := F))) defs₀_same

theorem main_same : Cert.Kernel.main (F := F) = Cert.KernelIdeal.main := rfl

end Cert.PagedProof

end
-- ==== Proof.Whole.lean ====
/-
The windows are whole arrays: what the launch stages is the argument, and the result array ends as the body left it.
-/
module

public import proofs.«01_k».proof.Proof.Frames
public import Idealize.ShloMosaic.Lib.Pipeline.ValueKit.Geometry
public import Idealize.ShloMosaic.Lib.Pointwise

@[expose] public section

set_option maxRecDepth 16384

noncomputable section

namespace Cert.PagedProof

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

theorem qAt_eq : qAt m c = m ((c.tc : Thread nD τ).loc main_arg0) := by
  funext i
  exact congrArg (m ((c.tc : Thread nD τ).loc main_arg0)) (funext fun a => Fin.ext (by
    show (((win0_0.blk (0 : Fin 1)).view.emb i) a).val = (i a).val
    have h : ∀ a, win0_0.index (0 : Fin 1) a = 0 := by decide +kernel
    fin_cases a <;> simp [h]))
theorem bAt_eq : bAt m c = m ((c.tc : Thread nD τ).loc main_arg3) := by
  funext i
  exact congrArg (m ((c.tc : Thread nD τ).loc main_arg3)) (funext fun a => Fin.ext (by
    show (((win0_1.blk (0 : Fin 1)).view.emb i) a).val = (i a).val
    have h : ∀ a, win0_1.index (0 : Fin 1) a = 0 := by decide +kernel
    fin_cases a <;> simp [h]))
theorem lAt_eq : lAt m c = m ((c.tc : Thread nD τ).loc main_arg4) := by
  funext i
  exact congrArg (m ((c.tc : Thread nD τ).loc main_arg4)) (funext fun a => Fin.ext (by
    show (((win0_2.blk (0 : Fin 1)).view.emb i) a).val = (i a).val
    have h : ∀ a, win0_2.index (0 : Fin 1) a = 0 := by decide +kernel
    fin_cases a <;> simp [h]))

theorem resAt_eq : resAt m c = (outv m : Buf (Elt F) ((c.tc : Thread nD τ).loc main_v1)) :=
  (dats m 0 c).arrAt_eq_of_after_last 3 t0_0 (by decide +kernel) _ fun j => rfl

end Cert.PagedProof

end
-- ==== Proof.Chunk.lean ====
/-
What one update of the accumulators computes, read at an index over the extended reals.
-/
module

public import proofs.«01_k».proof.Proof.Value
public import Idealize.ShloMosaic.Lib.Pointwise

@[expose] public section

set_option maxRecDepth 16384

noncomputable section

namespace Cert.PagedProof

open Cert.KernelIdeal Cert.KernelIdeal.Gen
open Idealize.ShloMosaic Idealize.ShloMosaic.TcCoe

theorem ofBits_bot : Ideal.ofBits .f32 0xFF800000#32 = ⊥ := by simp [Ideal.ofBits, Ideal.ieee]

theorem qh_apply (q : FVec Ideal S8x1x8x128 .f32) (h b : Fin 8) (d : Fin 128) :
    qh (k0_pay6 q) h (ix2 b d) = q (ix4 b 0 h d) * Ideal.ofBits .f32 0x3DB504F3#32 := by
  pointwise [qh, k0_pay6]

theorem slab_apply (P : S64x16x8x128.Idx → Elt Ideal .f32) (h : Fin 8) (n : Fin 1024) (d : Fin 128) :
    k0_pay11 (slab P h) (ix2 n d) = P (ix4 ⟨n.val / 16, by omega⟩ ⟨n.val % 16, by omega⟩ h d) := by
  have e : slab P h = fun i => P (ix4 (i 1) (i 2) h (i 4)) := by
    funext i; exact congrArg P (ix4_eq_valueIdx _ _ _ _).symm
  rw [e]
  pointwise [k0_pay11]

theorem pay12_apply (x : FVec Ideal S8x128 .f32) (y : FVec Ideal S1024x128 .f32) (b : Fin 8) (n : Fin 1024) :
    k0_pay12 x y (ix2 b n) = ∑ d : Fin 128, x (ix2 b d) * y (ix2 n d) := by
  pointwise [k0_pay12]

theorem pay17_apply (x : FVec Ideal S8x128 .f32) (y : FVec Ideal S1024x128 .f32) (m : Vec Ideal S8x1 .f32) (b : Fin 8) :
    k0_pay17 x y m (ix2 b 0) = max (m (ix2 b 0)) (Finset.univ.fold max ⊥ fun n : Fin 1024 => k0_pay12 x y (ix2 b n)) := by
  pointwise [k0_pay17, k0_pay13, ofBits_bot]

theorem pay18_apply (w : FVec Ideal S8x1024 .f32) (x : FVec Ideal S8x128 .f32) (y : FVec Ideal S1024x128 .f32) (m l : Vec Ideal S8x1 .f32) (b : Fin 8) :
    k0_pay18 w x y m l (ix2 b 0) = Ideal.exp (m (ix2 b 0) - k0_pay17 x y m (ix2 b 0)) * l (ix2 b 0)
      + ∑ n : Fin 1024, w (ix2 b n) * Ideal.exp (k0_pay12 x y (ix2 b n) - k0_pay17 x y m (ix2 b 0)) := by
  pointwise [k0_pay18, k0_pay14, k0_pay15, k0_pay17]

theorem pay16_apply (w : FVec Ideal S8x1024 .f32) (x : FVec Ideal S8x128 .f32) (y : FVec Ideal S1024x128 .f32) (z : Vec Ideal S1x64x16x1x128 .f32)
    (m : Vec Ideal S8x1 .f32) (o : Vec Ideal S8x1x128 .f32) (b : Fin 8) (d : Fin 128) :
    k0_pay16 w x y z m o (ix3 b 0 d) = Ideal.exp (m (ix2 b 0) - k0_pay17 x y m (ix2 b 0)) * o (ix3 b 0 d)
      + ∑ n : Fin 1024, w (ix2 b n) * Ideal.exp (k0_pay12 x y (ix2 b n) - k0_pay17 x y m (ix2 b 0)) * k0_pay11 z (ix2 n d) := by
  pointwise [k0_pay16, k0_pay14, k0_pay15, k0_pay17, k0_pay11]

end Cert.PagedProof

end
-- ==== Proof.Weights.lean ====
/-
The weights of a device's tokens, read at an index over the extended reals.
-/
module

public import proofs.«01_k».proof.Proof.Chunk

@[expose] public section

set_option maxRecDepth 16384

noncomputable section

namespace Cert.PagedProof

open Cert.KernelIdeal Cert.KernelIdeal.Gen
open Idealize.ShloMosaic Idealize.ShloMosaic.TcCoe

/-- The first page of device `c` in the whole pool. -/
def base (c : Dev nD) : ℕ := c.val / 4 * 512 + c.val % 4 * 128

theorem base_lt (c : Dev nD) : base c + 128 ≤ 1024 := by revert c; decide

theorem base_word (c : Dev nD) :
    Scalar.addi (Scalar.muli (Scalar.remsi (Scalar.divsi (BitVec.ofNat 32 c.val) 4#32) 2#32) 512#32)
      (Scalar.muli (Scalar.addi (Scalar.muli (Scalar.remsi (Scalar.divsi (BitVec.ofNat 32 c.val) 2#32) 2#32) 2#32)
        (Scalar.remsi (Scalar.divsi (BitVec.ofNat 32 c.val) 1#32) 2#32)) 128#32) = BitVec.ofNat 32 (base c) := by
  revert c; decide

/-- Row `b` attends, by its entry `j`, to page `p` of the whole pool. -/
def hit (le : Vec Ideal S8 .i32) (bt : Vec Ideal S8x512 .i32) (b : Fin 8) (j : Fin 512) (p : ℕ) : Prop :=
  (j.val : ℤ) < (le (ix1 b)).toInt ∧ (bt (ix2 b j)).toInt = p

instance (le : Vec Ideal S8 .i32) (bt : Vec Ideal S8x512 .i32) (b : Fin 8) (j : Fin 512) (p : ℕ) : Decidable (hit le bt b j p) :=
  instDecidableAnd

theorem bit_real (w : BitVec 1) : (FloatOps.sitofp (F := Ideal) FTy.f32 (BitVec.setWidth 32 w) : EReal) = if w = 1#1 then 1 else 0 := by
  rcases BitVec.eq_zero_or_eq_one w with rfl | rfl
  · show (((BitVec.setWidth 32 0#1).toInt : ℝ) : EReal) = _
    simp
  · show (((BitVec.setWidth 32 1#1).toInt : ℝ) : EReal) = _
    simp

theorem ofBool_one (x : Bool) : BitVec.ofBool x = 1#1 ↔ x = true := by cases x <;> decide

theorem toInt_small (n : ℕ) (hn : n < 8192) : (BitVec.ofNat 32 n).toInt = n := by
  have : (BitVec.ofNat 32 n).toNat = n := by rw [BitVec.toNat_ofNat]; omega
  rw [BitVec.toInt_eq_toNat_of_lt (by omega), this]

theorem word_hit (a b : BitVec 32) (j q : ℕ) (hj : j < 512) (hq : q < 1024) :
    IntOp.cmpi CmpIPredicate.eq (Scalar.select (IntOp.cmpi CmpIPredicate.slt (BitVec.ofNat 32 j) a) b 4294967295#32) (BitVec.ofNat 32 q) = 1#1
      ↔ (j : ℤ) < a.toInt ∧ b.toInt = q := by
  have e := toInt_small j (by omega)
  have e2 := toInt_small q (by omega)
  simp only [IntOp.cmpi, Scalar.select, ofBool_one, beq_iff_eq, BitVec.slt, decide_eq_true_eq]
  rw [← e, ← e2]
  by_cases h : (BitVec.ofNat 32 j).toInt < a.toInt
  · simp only [h, if_true, true_and]
    exact BitVec.toInt_inj.symm
  · simp only [h, if_false, false_and, iff_false]
    intro hh
    have := congrArg BitVec.toInt hh
    rw [if_neg (show ¬ (BitVec.ofBool (decide False) = 1) by decide), e2] at this
    have e3 : (4294967295#32 : BitVec 32).toInt = -1 := by decide
    omega

theorem pay7_apply (c : Dev nD) (le : Vec Ideal S8 .i32) (bt : Vec Ideal S8x512 .i32) (b : Fin 8) (j : Fin 512) (p : Fin 128) :
    k0_pay7 (F := Ideal) (Scalar.remsi (Scalar.divsi (BitVec.ofNat 32 c.val) 4#32) 2#32) (Scalar.remsi (Scalar.divsi (BitVec.ofNat 32 c.val) 2#32) 2#32)
      (Scalar.remsi (Scalar.divsi (BitVec.ofNat 32 c.val) 1#32) 2#32) le bt (ix3 b j p) = if hit le bt b j (base c + p.val) then (1 : EReal) else 0 := by
  pointwise [k0_pay7]
  rw [base_word, bit_real]
  have e : IntOp.addi (BitVec.ofNat 32 (base c)) (BitVec.ofNat 32 p.val) = BitVec.ofNat 32 (base c + p.val) := (BitVec.ofNat_add _ _).symm
  rw [e]
  have := base_lt c
  exact if_congr (word_hit _ _ _ _ j.isLt (by omega)) rfl rfl

theorem col_word : ∀ n : Fin 2048, (Scalar.select
                (IntOp.andi
                  (IntOp.cmpi CmpIPredicate.ne
                    (IntOp.subi (BitVec.setWidth 32 (IntOp.cmpi CmpIPredicate.sgt (BitVec.ofNat 32 n.val) 0#32))
                      (BitVec.setWidth 32 (IntOp.cmpi CmpIPredicate.slt (BitVec.ofNat 32 n.val) 0#32)))
                    (Scalar.subi (Scalar.extui (Scalar.cmpi CmpIPredicate.sgt 16#32 0#32))
                      (Scalar.extui (Scalar.cmpi CmpIPredicate.slt 16#32 0#32))))
                  (IntOp.cmpi CmpIPredicate.ne (IntOp.remsi ArithUnit.vector (BitVec.ofNat 32 n.val) 16#32) 0#32))
                (IntOp.subi (IntOp.divsi ArithUnit.vector (BitVec.ofNat 32 n.val) 16#32) 1#32)
                (IntOp.divsi ArithUnit.vector (BitVec.ofNat 32 n.val) 16#32)) = BitVec.ofNat 32 (n.val / 16) := by
  decide +kernel

theorem pay8_apply (v : FVec Ideal S8x512x128 .f32) (b : Fin 8) (n : Fin 2048) :
    k0_pay8 v (ix2 b n) = ∑ j : Fin 512, v (ix3 b j ⟨n.val / 16, by omega⟩) := by
  pointwise [k0_pay8]
  simp only [col_word n, bit_real]
  rw [Finset.sum_eq_single (⟨n.val / 16, by omega⟩ : Fin 128)]
  · simp [IntOp.cmpi, ofBool_one]
  · intro p _ hp
    have : ¬ (BitVec.ofNat 32 (n.val / 16) = BitVec.ofNat 32 p.val) := fun e => hp (Fin.ext (by
      have := congrArg BitVec.toNat e
      simp only [BitVec.toNat_ofNat] at this
      show p.val = n.val / 16
      omega))
    simp [IntOp.cmpi, ofBool_one, this]
  · exact fun h => absurd (Finset.mem_univ _) h

theorem wts_apply (c : Dev nD) (bt : Vec Ideal S8x512 .i32) (le : Vec Ideal S8 .i32) (b : Fin 8) (n : Fin 2048) :
    wts (F := Ideal) c bt le (ix2 b n) = ∑ j : Fin 512, if hit le bt b j (base c + n.val / 16) then (1 : EReal) else 0 := by
  unfold wts
  rw [pay8_apply]
  exact Finset.sum_congr rfl fun j _ => pay7_apply c le bt b j _

theorem wch0_apply (w : FVec Ideal S8x2048 .f32) (b : Fin 8) (n : Fin 1024) : wch w 0 (ix2 b n) = w (ix2 b ⟨n.val, by omega⟩) := by
  pointwise [wch, k0_pay9]
theorem wch1_apply (w : FVec Ideal S8x2048 .f32) (b : Fin 8) (n : Fin 1024) : wch w 1 (ix2 b n) = w (ix2 b ⟨1024 + n.val, by omega⟩) := by
  pointwise [wch, k0_pay81]

end Cert.PagedProof

end
-- ==== Proof.Reals.lean ====
/-
Sums of extended reals with real coefficients that are not negative, the largest of finitely many reals, and the softmax sums taken
in two chunks and on several devices.
-/
module

public import Idealize.ShloMosaic.Lib.Pointwise

@[expose] public section

noncomputable section

namespace Cert.PagedProof

open Idealize.ShloMosaic

variable {ι κ : Type*}

theorem coe_mul_sum (c : ℝ) (hc : 0 ≤ c) (s : Finset ι) (f : ι → EReal) : (c : EReal) * ∑ i ∈ s, f i = ∑ i ∈ s, (c : EReal) * f i := by
  classical
  induction s using Finset.induction with
  | empty => simp
  | insert a s ha ih =>
    rw [Finset.sum_insert ha, Finset.sum_insert ha, EReal.left_distrib_of_nonneg_of_ne_top (by exact_mod_cast hc) (EReal.coe_ne_top c), ih]

theorem sum_coe (s : Finset ι) (a : ι → ℝ) : ((∑ i ∈ s, a i : ℝ) : EReal) = ∑ i ∈ s, (a i : EReal) := by
  classical
  induction s using Finset.induction with
  | empty => simp
  | insert a s ha ih => rw [Finset.sum_insert ha, Finset.sum_insert ha, EReal.coe_add, ih]

theorem sum_coe_mul (s : Finset ι) (a : ι → ℝ) (ha : ∀ i, 0 ≤ a i) (v : EReal) :
    ((∑ i ∈ s, a i : ℝ) : EReal) * v = ∑ i ∈ s, (a i : EReal) * v := by
  classical
  induction s using Finset.induction with
  | empty => simp
  | insert x s hx ih =>
    rw [Finset.sum_insert hx, Finset.sum_insert hx, EReal.coe_add, EReal.right_distrib_of_nonneg (by exact_mod_cast ha x)
      (by exact_mod_cast Finset.sum_nonneg fun i _ => ha i), ih]

/-- The largest of finitely many values below `⊤`, one of them above `⊥`, is a real. -/
theorem fold_real [Fintype ι] (g : ι → EReal) (h1 : ∀ i, g i < ⊤) (h2 : ∃ i, ⊥ < g i) : ∃ r : ℝ, Finset.univ.fold max ⊥ g = (r : EReal) := by
  have a : Finset.univ.fold max ⊥ g < ⊤ := (Finset.fold_max_lt _).2 ⟨bot_lt_top, fun i _ => h1 i⟩
  have b : ⊥ < Finset.univ.fold max ⊥ g := (Finset.lt_fold_max _).2 (.inr (h2.elim fun i hi => ⟨i, Finset.mem_univ _, hi⟩))
  exact ⟨_, (EReal.coe_toReal a.ne b.ne').symm⟩

theorem fold_coe [Fintype ι] [Nonempty ι] (g : ι → ℝ) : ∃ r : ℝ, (Finset.univ.fold max ⊥ fun i => (g i : EReal)) = (r : EReal) :=
  fold_real _ (fun i => EReal.coe_lt_top _) ⟨Classical.arbitrary ι, EReal.bot_lt_coe _⟩

theorem exp_sub_coe (a b : ℝ) : Ideal.exp ((a : EReal) - (b : EReal)) = ((Real.exp (a - b) : ℝ) : EReal) := by
  rw [← EReal.coe_sub, Ideal.exp_coe]

/-- The sum of the values `V`, each weighted by `w` times the exponential of its score less `m`. -/
def expSum [Fintype ι] (w s : ι → ℝ) (V : ι → EReal) (m : ℝ) : EReal := ∑ i, ((w i * Real.exp (s i - m) : ℝ) : EReal) * V i

/-- Another number taken off the scores is a factor. -/
theorem expSum_shift [Fintype ι] (w s : ι → ℝ) (V : ι → EReal) (m m' : ℝ) :
    ((Real.exp (m - m') : ℝ) : EReal) * expSum w s V m = expSum w s V m' := by
  unfold expSum
  rw [coe_mul_sum _ (Real.exp_pos _).le]
  refine Finset.sum_congr rfl fun i _ => ?_
  rw [← mul_assoc, ← EReal.coe_mul]
  congr 2
  rw [show s i - m' = (m - m') + (s i - m) by ring, Real.exp_add]
  ring

theorem expSum_one [Fintype ι] (w s : ι → ℝ) (m : ℝ) : expSum w s (fun _ => 1) m = ((∑ i, w i * Real.exp (s i - m) : ℝ) : EReal) := by
  unfold expSum
  rw [sum_coe]
  simp only [mul_one]

/-- The largest score of two chunks, from a real start. -/
theorem max_coe (a : ℝ) (x : EReal) (h : ∃ r : ℝ, x = (r : EReal)) : ∃ r : ℝ, max (a : EReal) x = (r : EReal) := by
  obtain ⟨r, rfl⟩ := h
  exact ⟨max a r, (EReal.coe_strictMono.monotone.map_max).symm⟩

/-- One chunk: the sum so far is brought to the new largest score, the chunk's own is added. -/
theorem chunk_sum [Fintype ι] (w s : ι → ℝ) (V : ι → EReal) (m' : ℝ) :
    (∑ i, (w i : EReal) * Ideal.exp ((s i : EReal) - (m' : EReal)) * V i) = expSum w s V m' := by
  unfold expSum
  refine Finset.sum_congr rfl fun i _ => ?_
  rw [exp_sub_coe, ← EReal.coe_mul]

/-- The devices' sums brought to a common number and added. -/
theorem gathered_sum [Fintype κ] [Fintype ι] (w s : κ → ι → ℝ) (V : κ → ι → EReal) (r : κ → ℝ) (M : ℝ) :
    (∑ c, Ideal.exp ((r c : EReal) - (M : EReal)) * expSum (w c) (s c) (V c) (r c)) = ∑ c, expSum (w c) (s c) (V c) M :=
  Finset.sum_congr rfl fun c _ => by rw [exp_sub_coe, expSum_shift]

/-- Two sums of one softmax at the same number: the quotient does not name the number. -/
theorem quotient [Fintype ι] (w s : ι → ℝ) (V : ι → EReal) (M : ℝ) (hZ : 0 < ∑ i, w i * Real.exp (s i)) :
    Ideal.div (expSum w s V M) (expSum w s (fun _ => 1) M) = (((∑ i, w i * Real.exp (s i))⁻¹ : ℝ) : EReal) * expSum w s V 0 := by
  have e : (∑ i, w i * Real.exp (s i - M)) = Real.exp (-M) * ∑ i, w i * Real.exp (s i) := by
    rw [Finset.mul_sum]
    refine Finset.sum_congr rfl fun i _ => ?_
    rw [show s i - M = -M + s i by ring, Real.exp_add]; ring
  have hM := Real.exp_pos (-M)
  rw [expSum_one, Ideal.div_coe (by rw [e]; positivity), ← expSum_shift w s V 0 M, mul_comm, ← mul_assoc, ← EReal.coe_mul, e]
  congr 2
  rw [zero_sub]
  field_simp

end Cert.PagedProof

end
-- ==== Proof.Online.lean ====
/-
The accumulators of a device after both chunks, over the extended reals: the largest score, and the sums at that score.
-/
module

public import proofs.«01_k».proof.Proof.Weights
public import proofs.«01_k».proof.Proof.Reals

@[expose] public section

set_option maxRecDepth 16384

noncomputable section

namespace Cert.PagedProof

open Cert.KernelIdeal Cert.KernelIdeal.Gen
open Idealize.ShloMosaic Idealize.ShloMosaic.TcCoe

/-- A quantity of head `h` that only updates `h` and `8 + h` of sixteen change. -/
theorem two_updates {α : Type*} (f : ℕ → α) (g : ℕ → ℕ → α → α) (h : ℕ) (hh : h < 8)
    (hf : ∀ n, f (n + 1) = if h = n % 8 then g (n / 8) n (f n) else f n) :
    f h = f 0 ∧ f (8 + h) = g 0 h (f 0) ∧ f 16 = g 1 (8 + h) (g 0 h (f 0)) := by
  have a : ∀ n, n ≤ h → f n = f 0 := fun n => by
    induction n with
    | zero => exact fun _ => rfl
    | succ n ih => exact fun hn => by rw [hf, if_neg (by omega), ih (by omega)]
  have b : ∀ j, j ≤ 7 → f (h + 1 + j) = g 0 h (f 0) := fun j => by
    induction j with
    | zero => exact fun _ => by rw [Nat.add_zero, hf, if_pos (by omega), a h le_rfl, Nat.div_eq_of_lt hh]
    | succ j ih => exact fun hj => by rw [← Nat.add_assoc, hf, if_neg (by omega), ih (by omega)]
  have b7 : f (8 + h) = g 0 h (f 0) := by rw [show 8 + h = h + 1 + 7 by omega]; exact b 7 le_rfl
  have c : ∀ j, h + 9 + j ≤ 16 → f (h + 9 + j) = g 1 (8 + h) (g 0 h (f 0)) := fun j => by
    induction j with
    | zero => exact fun _ => by rw [Nat.add_zero, show h + 9 = (8 + h) + 1 by omega, hf, if_pos (by omega), b7, show (8 + h) / 8 = 1 by omega]
    | succ j ih => exact fun hj => by rw [← Nat.add_assoc, hf, if_neg (by omega), ih (by omega)]
  exact ⟨a h le_rfl, b7, by have := c (7 - h) (by omega); rwa [show h + 9 + (7 - h) = 16 by omega] at this⟩

/-- The start of the running maximum, a real. -/
theorem start_coe : ∃ r : ℝ, Ideal.ofBits .f32 0xF149F2CA#32 = (r : EReal) := by
  simp only [Ideal.ofBits, Ideal.ieee]
  norm_num
  exact ⟨_, rfl⟩

/-- The accumulators at the start. -/
def m00 : Vec Ideal S8x1 .f32 := fun _ => Scalar.ofBits (F := Ideal) .f32 0xF149F2CA#32
def l00 : Vec Ideal S8x1 .f32 := fun _ => Scalar.ofBits (F := Ideal) .f32 0x00000000#32
def o00 : Vec Ideal S8x1x128 .f32 := fun _ => Scalar.ofBits (F := Ideal) .f32 0x00000000#32

section
variable (qs : FVec Ideal S8x1x8x128 .f32) (w : FVec Ideal S8x2048 .f32) (P P' : ℕ → S64x16x8x128.Idx → Elt Ideal .f32) (h : Fin 8)

theorem mcol_16 : mcol qs P 16 h = mst qs (P 1) h (mst qs (P 0) h m00) :=
  (two_updates (fun n => mcol qs P n h) (fun k _ m => mst qs (P k) h m) h.val h.isLt fun n => rfl).2.2
theorem lcol_16 : lcol qs w P 16 h = lst qs (wch w 1) (P 1) h (mst qs (P 0) h m00)
    (lst qs (wch w 0) (P 0) h m00 l00) := by
  have a := two_updates (fun n => mcol qs P n h) (fun k _ m => mst qs (P k) h m) h.val h.isLt fun n => rfl
  have b := (two_updates (fun n => lcol qs w P n h) (fun k n l => lst qs (wch w k) (P k) h (mcol qs P n h) l) h.val h.isLt fun n => rfl).2.2
  simp only [a.1, a.2.1] at b
  exact b
theorem ocol_16 : ocol qs w P P' 16 h = ost qs (wch w 1) (P 1) (P' 1) h (mst qs (P 0) h m00)
    (ost qs (wch w 0) (P 0) (P' 0) h m00 o00) := by
  have a := two_updates (fun n => mcol qs P n h) (fun k _ m => mst qs (P k) h m) h.val h.isLt fun n => rfl
  have b := (two_updates (fun n => ocol qs w P P' n h) (fun k n o => ost qs (wch w k) (P k) (P' k) h (mcol qs P n h) o) h.val h.isLt fun n => rfl).2.2
  simp only [a.1, a.2.1] at b
  exact b

/-- A sum over a device's tokens, chunk by chunk. -/
theorem expSum_halves (W S : Fin 2048 → ℝ) (V : Fin 2048 → EReal) (m : ℝ) :
    expSum W S V m = expSum (fun n : Fin 1024 => W ⟨n.val, by omega⟩) (fun n => S ⟨n.val, by omega⟩) (fun n => V ⟨n.val, by omega⟩) m
      + expSum (fun n : Fin 1024 => W ⟨1024 + n.val, by omega⟩) (fun n => S ⟨1024 + n.val, by omega⟩) (fun n => V ⟨1024 + n.val, by omega⟩) m := by
  unfold expSum
  exact Fin.sum_univ_two_halves 1024 1024 rfl _

/-- Both chunks, from a start at zero. -/
theorem two_chunks (W S : Fin 2048 → ℝ) (V : Fin 2048 → EReal) (m0 m1 m2 : ℝ) (z : EReal) (hz : z = 0) :
    Ideal.exp ((m1 : EReal) - (m2 : EReal)) * (Ideal.exp ((m0 : EReal) - (m1 : EReal)) * z
        + ∑ n : Fin 1024, (W ⟨n.val, by omega⟩ : EReal) * Ideal.exp ((S ⟨n.val, by omega⟩ : EReal) - (m1 : EReal)) * V ⟨n.val, by omega⟩)
      + ∑ n : Fin 1024, (W ⟨1024 + n.val, by omega⟩ : EReal) * Ideal.exp ((S ⟨1024 + n.val, by omega⟩ : EReal) - (m2 : EReal)) * V ⟨1024 + n.val, by omega⟩
      = expSum W S V m2 := by
  subst hz
  rw [chunk_sum (fun n : Fin 1024 => W ⟨n.val, by omega⟩) (fun n => S ⟨n.val, by omega⟩),
    chunk_sum (fun n : Fin 1024 => W ⟨1024 + n.val, by omega⟩) (fun n => S ⟨1024 + n.val, by omega⟩), mul_zero, zero_add, exp_sub_coe, expSum_shift,
    expSum_halves]

theorem accumulators (b : Fin 8) (W S : Fin 2048 → ℝ) (V : Fin 128 → Fin 2048 → EReal)
    (hw : ∀ x, w (ix2 b x) = (W x : EReal))
    (hS0 : ∀ n : Fin 1024, k0_pay12 (qh qs h) (k0_pay11 (slab (P 0) h)) (ix2 b n) = (S ⟨n.val, by omega⟩ : EReal))
    (hS1 : ∀ n : Fin 1024, k0_pay12 (qh qs h) (k0_pay11 (slab (P 1) h)) (ix2 b n) = (S ⟨1024 + n.val, by omega⟩ : EReal))
    (hV0 : ∀ (n : Fin 1024) (d : Fin 128), k0_pay11 (slab (P' 0) h) (ix2 n d) = V d ⟨n.val, by omega⟩)
    (hV1 : ∀ (n : Fin 1024) (d : Fin 128), k0_pay11 (slab (P' 1) h) (ix2 n d) = V d ⟨1024 + n.val, by omega⟩) :
    ∃ r : ℝ, mcol qs P 16 h (ix2 b 0) = (r : EReal) ∧ lcol qs w P 16 h (ix2 b 0) = expSum W S (fun _ => 1) r
      ∧ ∀ d : Fin 128, ocol qs w P P' 16 h (ix3 b 0 d) = expSum W S (V d) r := by
  obtain ⟨m0, hm0⟩ := start_coe
  have zl : l00 (ix2 b 0) = (0 : EReal) := Ideal.ofBits_zero_f32
  have zo : ∀ d : Fin 128, o00 (ix3 b 0 d) = (0 : EReal) := fun d => Ideal.ofBits_zero_f32
  have hm0' : m00 (ix2 b 0) = (m0 : EReal) := hm0
  have hm1 : ∃ r : ℝ, mst qs (P 0) h m00 (ix2 b 0) = (r : EReal) := by
    unfold mst
    rw [pay17_apply, hm0']
    simp only [hS0]
    exact max_coe _ _ (fold_coe _)
  obtain ⟨m1, hm1⟩ := hm1
  have hm2 : ∃ r : ℝ, mst qs (P 1) h (mst qs (P 0) h m00) (ix2 b 0) = (r : EReal) := by
    rw [mst, pay17_apply, hm1]
    simp only [hS1]
    exact max_coe _ _ (fold_coe _)
  obtain ⟨m2, hm2⟩ := hm2
  refine ⟨m2, by rw [mcol_16]; exact hm2, ?_, fun d => ?_⟩
  · rw [lcol_16, lst, pay18_apply, lst, pay18_apply]
    change Ideal.exp (_ - mst qs (P 1) h _ _) * (Ideal.exp (_ - mst qs (P 0) h _ _) * _ + ∑ n, _ * Ideal.exp (_ - mst qs (P 0) h _ _)) + ∑ n, _ * Ideal.exp (_ - mst qs (P 1) h _ _) = _
    simp only [hm1, hm2, hm0', hS0, hS1, wch0_apply, wch1_apply, hw]
    rw [← two_chunks W S (fun _ => 1) m0 m1 m2 _ zl]
    simp only [mul_one]
  · rw [ocol_16, ost, pay16_apply, ost, pay16_apply]
    change Ideal.exp (_ - mst qs (P 1) h _ _) * (Ideal.exp (_ - mst qs (P 0) h _ _) * _ + ∑ n, _ * Ideal.exp (_ - mst qs (P 0) h _ _) * _) + ∑ n, _ * Ideal.exp (_ - mst qs (P 1) h _ _) * _ = _
    simp only [hm1, hm2, hm0', hS0, hS1, wch0_apply, wch1_apply, hw, hV0, hV1]
    rw [← two_chunks W S (V d) m0 m1 m2 _ (zo d)]
end

end Cert.PagedProof

end
-- ==== Proof.Ref.lean ====
/-
The reference's result, in pieces, read at an index over the extended reals.
-/
module

public import proofs.«01_k».proof.Proof.Gen.ReferenceIdeal.Run
public import Idealize.ShloMosaic.Lib.Pointwise

@[expose] public section

set_option maxRecDepth 16384

noncomputable section

namespace Cert.PagedProof.Ref

open Cert.ReferenceIdeal Cert.ReferenceIdeal.Gen
open Idealize.ShloMosaic Idealize.ShloMosaic.TcCoe

/-- The rows of the cache that the page table names. -/
def rows (x : Vec Ideal S1024x16x8x128 .f32) (bt : Vec Ideal S8x512 .i32) : FVec Ideal S8x8192x8x128 .f32 :=
  shapeCast S8x8192x8x128 (Host.gather gather_S1024x16x8x128_S8x512x1_S8x512x16x8x128_234_0_n_n_0_2_1168128 x
    (broadcastInDim S8x512x1 ![0, 1] bcast_S8x512_S8x512x1_0_1 bt)) shapeCasts_S8x512x16x8x128_S8x8192x8x128

/-- Which positions a row attends to. -/
def mask (le : Vec Ideal S8 .i32) : IVec S8x8x1x8192 1 :=
  (broadcastInDim S8x8x1x8192 ![0, 1, 2, 3] bcast_S8x1x1x8192_S8x8x1x8192_0_1_2_3 (cmpi .slt (broadcastInDim S8x1x1x8192 ![0, 1, 2, 3] bcast_S1x1x1x8192_S8x1x1x8192_0_1_2_3 (broadcastInDim S1x1x1x8192 ![3] bcast_S8192_S1x1x1x8192_3 (select (andi (cmpi .ne (signi (iotaInDim S8192 32 0)) (broadcastInDim S8192 ![] bcast_S_S8192 (signi (id (constantI S_ 32 16#32))))) (cmpi .ne (Host.remsi (iotaInDim S8192 32 0) (broadcastInDim S8192 ![] bcast_S_S8192 (id (constantI S_ 32 16#32)))) (broadcastInDim S8192 ![] bcast_S_S8192 (constantI S_ 32 0#32)))) (subi (Host.divsi (iotaInDim S8192 32 0) (broadcastInDim S8192 ![] bcast_S_S8192 (id (constantI S_ 32 16#32)))) (broadcastInDim S8192 ![] bcast_S_S8192 (constantI S_ 32 1#32))) (Host.divsi (iotaInDim S8192 32 0) (broadcastInDim S8192 ![] bcast_S_S8192 (id (constantI S_ 32 16#32))))))) (broadcastInDim S8x1x1x8192 ![0, 1, 2, 3] bcast_S8x1x1x1_S8x1x1x8192_0_1_2_3 (broadcastInDim S8x1x1x1 ![0] bcast_S8_S8x1x1x1_0 le))))

/-- The scores, −∞ where a row does not attend. -/
def scores (q : Vec Ideal S8x1x8x128 .f32) (kg : FVec Ideal S8x8192x8x128 .f32) (mk : IVec S8x8x1x8192 1) : FVec Ideal S8x8x1x8192 .f32 :=
  select mk (mulf (Host.dotGeneral (φ₁ := .f32) (φ₂ := .f32) dot_S8x1x8x128_S8x8192x8x128_S8x8x1x8192_3_3_1_1_02_02 none q kg)
    (broadcastInDim S8x8x1x8192 ![] bcast_S_S8x8x1x8192 (constant S_ .f32 0x3DB504F3#32)))
    (broadcastInDim S8x8x1x8192 ![] bcast_S_S8x8x1x8192 (id (constant S_ .f32 0xFF800000#32)))

/-- The exponentials of the scores less their largest. -/
def powers (s : FVec Ideal S8x8x1x8192 .f32) : FVec Ideal S8x8x1x8192 .f32 :=
  Host.exp (subf s (broadcastInDim S8x8x1x8192 ![0, 1, 2, 3] bcast_S8x8x1x1_S8x8x1x8192_0_1_2_3
    (broadcastInDim S8x8x1x1 ![0, 1, 2] bcast_S8x8x1_S8x8x1x1_0_1_2
      (Host.reduce FloatOps.maximumf s (constant S_ .f32 0xFF800000#32) reducesTo_S8x8x1x8192_S8x8x1_d3 h_S_))))

/-- The attention probabilities. -/
def probs (p : FVec Ideal S8x8x1x8192 .f32) : FVec Ideal S8x8x1x8192 .f32 :=
  Host.divf p (broadcastInDim S8x8x1x8192 ![0, 1, 2, 3] bcast_S8x8x1x1_S8x8x1x8192_0_1_2_3
    (broadcastInDim S8x8x1x1 ![0, 1, 2] bcast_S8x8x1_S8x8x1x1_0_1_2
      (Host.reduceAdd p (constant S_ .f32 0x00000000#32) reducesTo_S8x8x1x8192_S8x8x1_d3 h_S_)))

/-- The weighted sums of the values. -/
def mixed (vg : FVec Ideal S8x8192x8x128 .f32) (p : FVec Ideal S8x8x1x8192 .f32) : FVec Ideal S8x1x8x128 .f32 :=
  transpose S8x1x8x128 [0, 3, 1, 2] (Host.dotGeneral (φ₁ := .f32) (φ₂ := .f32) dot_S8x8192x8x128_S8x8x1x8192_S8x8x128x1_1_3_3_2_02_01 none vg p)
    transposes_S8x8x128x1_S8x1x8x128_0_3_1_2

theorem res_eq (m : (ℓ : Loc nD τ sig) → Buf (Elt Ideal) ℓ) (c : Dev nD) :
    Value.res_main_v25 m c = mixed (rows (m ((c.tc : Thread nD τ).loc main_arg2)) (m ((c.tc : Thread nD τ).loc main_arg3)))
      (probs (powers (scores (m ((c.tc : Thread nD τ).loc main_arg0)) (rows (m ((c.tc : Thread nD τ).loc main_arg1)) (m ((c.tc : Thread nD τ).loc main_arg3)))
        (mask (m ((c.tc : Thread nD τ).loc main_arg4)))))) := rfl

theorem page_word : ∀ k : Fin 8192, (Scalar.select
        (IntOp.andi
          (IntOp.cmpi CmpIPredicate.ne
            (if BitVec.ofNat 32 k.val = 0 then (0 : BitVec 32) else if (BitVec.ofNat 32 k.val).msb = true then -1 else 1)
            (if 16#32 = 0 then (0 : BitVec 32) else if (16#32).msb = true then -1 else 1))
          (IntOp.cmpi CmpIPredicate.ne (IntOp.remsi ArithUnit.host (BitVec.ofNat 32 k.val) 16#32) 0#32))
        (IntOp.subi (IntOp.divsi ArithUnit.host (BitVec.ofNat 32 k.val) 16#32) 1#32)
        (IntOp.divsi ArithUnit.host (BitVec.ofNat 32 k.val) 16#32)) = BitVec.ofNat 32 (k.val / 16) := by
  decide +kernel

theorem mask_apply (le : Vec Ideal S8 .i32) (b h : Fin 8) (k : Fin 8192) :
    mask le (ix4 b h 0 k) = IntOp.cmpi CmpIPredicate.slt (BitVec.ofNat 32 (k.val / 16)) (le (ix1 b)) := by
  rw [← page_word k]
  pointwise [mask, id_eq]

theorem scores_apply (q : Vec Ideal S8x1x8x128 .f32) (kg : FVec Ideal S8x8192x8x128 .f32) (mk : IVec S8x8x1x8192 1) (b h : Fin 8) (k : Fin 8192) :
    scores q kg mk (ix4 b h 0 k) = if mk (ix4 b h 0 k) = 1#1
      then (∑ d : Fin 128, q (ix4 b 0 h d) * kg (ix4 b k h d)) * Ideal.ofBits FTy.f32 0x3DB504F3#32 else Ideal.ofBits FTy.f32 0xFF800000#32 := by
  pointwise [scores, id_eq]
  rfl

theorem powers_apply (s : FVec Ideal S8x8x1x8192 .f32) (b h : Fin 8) (k : Fin 8192) :
    powers s (ix4 b h 0 k) = Ideal.exp (s (ix4 b h 0 k) - Finset.fold max (Ideal.ofBits FTy.f32 0xFF800000#32) (fun x => s (ix4 b h 0 x)) Finset.univ) := by
  pointwise [powers]

theorem probs_apply (s : FVec Ideal S8x8x1x8192 .f32) (b h : Fin 8) (k : Fin 8192) :
    probs s (ix4 b h 0 k) = Ideal.div (s (ix4 b h 0 k)) (∑ x : Fin 8192, s (ix4 b h 0 x)) := by
  pointwise [probs]

theorem mixed_apply (vg : FVec Ideal S8x8192x8x128 .f32) (s : FVec Ideal S8x8x1x8192 .f32) (b h : Fin 8) (d : Fin 128) :
    mixed vg s (ix4 b 0 h d) = ∑ k : Fin 8192, vg (ix4 b k h d) * s (ix4 b h 0 k) := by
  pointwise [mixed]

/-- The page that entry `j` of row `b` names. -/
def page (bt : Vec Ideal S8x512 .i32) (b : Fin 8) (j : Fin 512) : Fin 1024 := ⟨min (bt (ix2 b j)).toInt.toNat 1023, by omega⟩

theorem gather_apply (x : Vec Ideal S1024x16x8x128 .f32) (idx : IVec S8x512x1 32) (b : Fin 8) (j : Fin 512) (t : Fin 16) (h : Fin 8) (d : Fin 128) :
    Host.gather gather_S1024x16x8x128_S8x512x1_S8x512x16x8x128_234_0_n_n_0_2_1168128 x idx (ix5 b j t h d)
      = x (ix4 ⟨min (idx (ix3 b j 0)).toInt.toNat 1023, by omega⟩ t h d) := by
  unfold Host.gather
  refine congrArg x (funext fun a => Fin.ext ?_)
  match a with
  | ⟨0, _⟩ =>
    show min (idx (GatherDims.siIdx _ _ _)).toInt.toNat 1023 = min (idx (ix3 b j 0)).toInt.toNat 1023
    refine congrArg (fun i => min (idx i).toInt.toNat 1023) (funext fun e => Fin.ext ?_)
    match e with
    | ⟨0, _⟩ => rfl
    | ⟨1, _⟩ => rfl
    | ⟨2, _⟩ => rfl
  | ⟨1, _⟩ => exact Nat.zero_add _
  | ⟨2, _⟩ => exact Nat.zero_add _
  | ⟨3, _⟩ => exact Nat.zero_add _

theorem rows_apply (x : Vec Ideal S1024x16x8x128 .f32) (bt : Vec Ideal S8x512 .i32) (b : Fin 8) (k : Fin 8192) (h : Fin 8) (d : Fin 128) :
    rows x bt (ix4 b k h d) = x (ix4 (page bt b ⟨k.val / 16, by omega⟩) ⟨k.val % 16, by omega⟩ h d) := by
  pointwise [rows, page]
  rw [gather_apply]
  pointwise

end Cert.PagedProof.Ref

end
-- ==== Proof.Pages.lean ====
/-
The sums over the devices' pages, as sums over the pages of the whole cache, and those as sums over the entries of the page table.
-/
module

public import proofs.«01_k».proof.Proof.Online
public import proofs.«01_k».proof.Proof.Ref

@[expose] public section

set_option maxRecDepth 16384

noncomputable section

namespace Cert.PagedProof

open Cert.KernelIdeal Cert.KernelIdeal.Gen
open Idealize.ShloMosaic Idealize.ShloMosaic.TcCoe

theorem sum_prod_range (m n : ℕ) (g : ℕ → EReal) : (∑ i : Fin m, ∑ j : Fin n, g (j.val + n * i.val)) = ∑ k ∈ Finset.range (m * n), g k := by
  rw [Finset.sum_range, ← Fintype.sum_prod_type', ← finProdFinEquiv.sum_comp]
  rfl

/-- A function of page and token, by the token's number in the whole cache. -/
def flat (G : Fin 1024 → Fin 16 → EReal) (i : ℕ) : EReal := if h : i / 16 < 1024 then G ⟨i / 16, h⟩ ⟨i % 16, Nat.mod_lt _ (by omega)⟩ else 0

theorem base_eq (c : Dev nD) : base c = 128 * c.val := by
  have : c.val < 8 := c.isLt
  unfold base; omega

theorem base_bound (c : Dev nD) (x : Fin 2048) : base c + x.val / 16 < 1024 := by
  have := base_lt c; have := x.isLt; omega

/-- Every page of the cache is one of a device's, once. -/
theorem sum_devices (G : Fin 1024 → Fin 16 → EReal) :
    (∑ c : Dev nD, ∑ x : Fin 2048, G ⟨base c + x.val / 16, base_bound c x⟩ ⟨x.val % 16, by omega⟩) = ∑ p : Fin 1024, ∑ t : Fin 16, G p t := by
  have a := sum_prod_range 8 2048 (flat G)
  have b := sum_prod_range 1024 16 (flat G)
  rw [show 1024 * 16 = 8 * 2048 from rfl, ← a] at b
  refine Eq.trans ?_ (b.symm.trans ?_)
  · refine Finset.sum_congr rfl fun c _ => Finset.sum_congr rfl fun x _ => ?_
    have h := base_bound c x
    have e := base_eq c
    have h' : (x.val + 2048 * c.val) / 16 < 1024 := by omega
    unfold flat
    rw [dif_pos h']
    exact congrArg₂ G (Fin.ext (by show base c + x.val / 16 = (x.val + 2048 * c.val) / 16; omega))
      (Fin.ext (by show x.val % 16 = (x.val + 2048 * c.val) % 16; omega))
  · refine Finset.sum_congr rfl fun p _ => Finset.sum_congr rfl fun t _ => ?_
    have h' : (t.val + 16 * p.val) / 16 < 1024 := by omega
    unfold flat
    rw [dif_pos h']
    exact congrArg₂ G (Fin.ext (by show (t.val + 16 * p.val) / 16 = p.val; omega))
      (Fin.ext (by show (t.val + 16 * p.val) % 16 = t.val; omega))

/-- A sum over a row's positions is one over its table entries and the tokens of a page. -/
theorem sum_positions (G : Fin 512 → Fin 16 → EReal) :
    (∑ k : Fin 8192, G ⟨k.val / 16, by omega⟩ ⟨k.val % 16, by omega⟩) = ∑ j : Fin 512, ∑ t : Fin 16, G j t := by
  have b := sum_prod_range 512 16 fun i => if h : i / 16 < 512 then G ⟨i / 16, h⟩ ⟨i % 16, Nat.mod_lt _ (by omega)⟩ else 0
  rw [show 512 * 16 = 8192 from rfl, Finset.sum_range] at b
  refine Eq.trans ?_ (b.symm.trans ?_)
  · refine Finset.sum_congr rfl fun k _ => ?_
    rw [dif_pos (by omega)]
  · refine Finset.sum_congr rfl fun p _ => Finset.sum_congr rfl fun t _ => ?_
    have h' : (t.val + 16 * p.val) / 16 < 512 := by omega
    rw [dif_pos h']
    exact congrArg₂ G (Fin.ext (by show (t.val + 16 * p.val) / 16 = p.val; omega))
      (Fin.ext (by show (t.val + 16 * p.val) % 16 = t.val; omega))

section
variable (le : Vec Ideal S8 .i32) (bt : Vec Ideal S8x512 .i32) (b : Fin 8)

/-- Row `b` attends to its entry `j`. -/
def live (j : Fin 512) : Prop := (j.val : ℤ) < (le (ix1 b)).toInt
instance (j : Fin 512) : Decidable (live le b j) := Int.decLt _ _

/-- How often row `b` attends to page `p`. -/
def cnt (p : ℕ) : ℝ := ∑ j : Fin 512, if hit le bt b j p then 1 else 0

theorem wts_cnt (c : Dev nD) (x : Fin 2048) : wts (F := Ideal) c bt le (ix2 b x) = (cnt le bt b (base c + x.val / 16) : EReal) := by
  rw [wts_apply, cnt, sum_coe]
  refine Finset.sum_congr rfl fun j _ => ?_
  split <;> simp

/-- The table entries that a row attends to name pages of the cache. -/
def Named : Prop := ∀ j : Fin 512, live le b j → 0 ≤ (bt (ix2 b j)).toInt ∧ (bt (ix2 b j)).toInt ≤ 1023

theorem hit_iff (hn : Named le bt b) (j : Fin 512) (p : Fin 1024) : hit le bt b j p.val ↔ live le b j ∧ Ref.page bt b j = p := by
  have hp := p.isLt
  unfold hit
  constructor
  · rintro ⟨h1, h2⟩
    refine ⟨h1, Fin.ext ?_⟩
    show min (bt (ix2 b j)).toInt.toNat 1023 = p.val
    omega
  · rintro ⟨h1, h2⟩
    have := hn j h1
    have h3 : min (bt (ix2 b j)).toInt.toNat 1023 = p.val := congrArg Fin.val h2
    exact ⟨h1, by omega⟩

/-- The weight of position `k`: whether row `b` attends to it. -/
def vld (k : Fin 8192) : ℝ := if live le b ⟨k.val / 16, by omega⟩ then 1 else 0

/-- Over all devices the pages' sums are the sum over the row's positions. -/
theorem table_sum (hn : Named le bt b) (s : Fin 1024 → Fin 16 → ℝ) (V : Fin 1024 → Fin 16 → EReal) (m : ℝ) :
    (∑ c : Dev nD, expSum (fun x : Fin 2048 => cnt le bt b (base c + x.val / 16)) (fun x => s ⟨base c + x.val / 16, base_bound c x⟩ ⟨x.val % 16, by omega⟩)
        (fun x => V ⟨base c + x.val / 16, base_bound c x⟩ ⟨x.val % 16, by omega⟩) m)
      = expSum (vld le b) (fun k => s (Ref.page bt b ⟨k.val / 16, by omega⟩) ⟨k.val % 16, by omega⟩)
        (fun k => V (Ref.page bt b ⟨k.val / 16, by omega⟩) ⟨k.val % 16, by omega⟩) m := by
  unfold expSum
  rw [sum_devices fun p t => ((cnt le bt b p.val * Real.exp (s p t - m) : ℝ) : EReal) * V p t]
  unfold vld
  rw [sum_positions fun j t => (((if live le b j then 1 else 0) * Real.exp (s (Ref.page bt b j) t - m) : ℝ) : EReal) * V (Ref.page bt b j) t]
  have e : ∀ (p : Fin 1024) (t : Fin 16), ((cnt le bt b p.val * Real.exp (s p t - m) : ℝ) : EReal) * V p t
      = ∑ j : Fin 512, (((if hit le bt b j p.val then 1 else 0) * Real.exp (s p t - m) : ℝ) : EReal) * V p t := fun p t => by
    rw [← sum_coe_mul _ (fun j => (if hit le bt b j p.val then 1 else 0) * Real.exp (s p t - m)), ← Finset.sum_mul]
    · rfl
    · intro j
      have := (Real.exp_pos (s p t - m)).le
      split <;> simp [this]
  simp only [e]
  rw [Finset.sum_congr rfl fun p _ => Finset.sum_comm, Finset.sum_comm]
  refine Finset.sum_congr rfl fun j _ => ?_
  rw [Finset.sum_comm]
  refine Finset.sum_congr rfl fun t _ => ?_
  rw [Finset.sum_eq_single (Ref.page bt b j)]
  · by_cases hl : live le b j
    · rw [if_pos hl, if_pos ((hit_iff le bt b hn j _).2 ⟨hl, rfl⟩)]
    · rw [if_neg hl, if_neg fun h => hl ((hit_iff le bt b hn j _).1 h).1]
  · intro p _ hp
    rw [if_neg fun h => hp ((hit_iff le bt b hn j _).1 h).2.symm]
    simp
  · exact fun h => absurd (Finset.mem_univ _) h

end

end Cert.PagedProof

end
-- ==== Proof.Scores.lean ====
/-
The scores over the extended reals, as reals, of finite queries and keys: as a device computes them, the scale on the query, and as
the reference does, the scale on the product, −∞ where a row does not attend.
-/
module

public import proofs.«01_k».proof.Proof.Pages

@[expose] public section

set_option maxRecDepth 16384

noncomputable section

namespace Cert.PagedProof

open Cert.KernelIdeal Cert.KernelIdeal.Gen
open Idealize.ShloMosaic Idealize.ShloMosaic.TcCoe

/-- The scale, a real. -/
theorem scale_coe : ∃ r : ℝ, Ideal.ofBits .f32 0x3DB504F3#32 = (r : EReal) := by
  simp only [Ideal.ofBits, Ideal.ieee]
  norm_num
  exact ⟨_, rfl⟩
def scale : ℝ := scale_coe.choose
theorem scale_eq : Ideal.ofBits .f32 0x3DB504F3#32 = (scale : EReal) := scale_coe.choose_spec

section
variable (q : Vec Ideal S8x1x8x128 .f32) (K : Vec Ideal Cert.ReferenceIdeal.S1024x16x8x128 .f32)

/-- Every element is a real. -/
def Finite {s : Shape} (x : s.Idx → EReal) : Prop := ∀ i, x i = ((x i).toReal : EReal)

/-- The score of row `b`, head `h`, against token `t` of page `p`. -/
def sc (b h : Fin 8) (p : Fin 1024) (t : Fin 16) : ℝ :=
  (∑ d : Fin 128, (q (ix4 b 0 h d) : EReal).toReal * (K (ix4 p t h d) : EReal).toReal) * scale

variable (hq : Finite (s := S8x1x8x128) q) (hK : Finite (s := Cert.ReferenceIdeal.S1024x16x8x128) K)
include hq hK

theorem sc_ref (b h : Fin 8) (p : Fin 1024) (t : Fin 16) :
    (∑ d : Fin 128, (q (ix4 b 0 h d) : EReal) * (K (ix4 p t h d) : EReal)) * Ideal.ofBits .f32 0x3DB504F3#32 = (sc q K b h p t : EReal) := by
  rw [scale_eq, sc, EReal.coe_mul, sum_coe]
  congr 1
  refine Finset.sum_congr rfl fun d _ => ?_
  rw [EReal.coe_mul, ← hq, ← hK]

theorem sc_dev (b h : Fin 8) (p : Fin 1024) (t : Fin 16) :
    (∑ d : Fin 128, (q (ix4 b 0 h d) : EReal) * Ideal.ofBits .f32 0x3DB504F3#32 * (K (ix4 p t h d) : EReal)) = (sc q K b h p t : EReal) := by
  rw [scale_eq, sc, Finset.sum_mul, sum_coe]
  refine Finset.sum_congr rfl fun d _ => ?_
  rw [EReal.coe_mul, EReal.coe_mul, ← hq, ← hK, mul_assoc, mul_assoc, mul_comm (scale : EReal)]

end

/-! ## A device's pages -/

section
variable (c : Dev nD) (x : S512x16x8x128.Idx → Elt Ideal .f32) (X : Vec Ideal Cert.ReferenceIdeal.S1024x16x8x128 .f32)

/-- The pool `x` of device `c` is its half of the cache `X`. -/
def Half : Prop := ∀ (r : Fin 512) (t : Fin 16) (h : Fin 8) (d : Fin 128), x (ix4 r t h d) = X (ix4 ⟨c.val / 4 * 512 + r.val, by have : c.val < 8 := c.isLt; omega⟩ t h d)

theorem slab0 (hx : Half c x X) (h : Fin 8) (n : Fin 1024) (d : Fin 128) :
    k0_pay11 (slab (chunk c x 0) h) (ix2 n d)
      = X (ix4 ⟨base c + n.val / 16, base_bound c ⟨n.val, by omega⟩⟩ ⟨n.val % 16, by omega⟩ h d) := by
  rw [slab_apply]
  refine Eq.trans ?_ ((hx (row c 0 ⟨n.val / 16, by omega⟩) ⟨n.val % 16, by omega⟩ h d).trans ?_)
  · exact congrArg x (ix4_eq_valueIdx _ _ _ _).symm
  · refine congrArg X (congrArg (fun i => ix4 i _ h d) (Fin.ext ?_))
    show c.val / 4 * 512 + (c.val % 4 * 128 + n.val / 16) = base c + n.val / 16
    unfold base; omega

theorem slab1 (hx : Half c x X) (h : Fin 8) (n : Fin 1024) (d : Fin 128) :
    k0_pay11 (slab (chunk c x 1) h) (ix2 n d)
      = X (ix4 ⟨base c + (1024 + n.val) / 16, base_bound c ⟨1024 + n.val, by omega⟩⟩ ⟨(1024 + n.val) % 16, by omega⟩ h d) := by
  rw [slab_apply]
  refine Eq.trans ?_ ((hx (row c 1 ⟨n.val / 16, by omega⟩) ⟨n.val % 16, by omega⟩ h d).trans ?_)
  · exact congrArg x (ix4_eq_valueIdx _ _ _ _).symm
  · refine congrArg X (congrArg₂ (fun i t => ix4 i t h d) (Fin.ext ?_) (Fin.ext ?_))
    · show c.val / 4 * 512 + (c.val % 4 * 128 + 64 + n.val / 16) = base c + (1024 + n.val) / 16
      unfold base; omega
    · show n.val % 16 = (1024 + n.val) % 16
      omega

end

/-- A device's accumulators: the sums over its own tokens, at some real. -/
theorem device (q : Vec Ideal S8x1x8x128 .f32) (K V : Vec Ideal Cert.ReferenceIdeal.S1024x16x8x128 .f32) (bt : Vec Ideal S8x512 .i32) (le : Vec Ideal S8 .i32)
    (hq : Finite (s := S8x1x8x128) q) (hK : Finite (s := Cert.ReferenceIdeal.S1024x16x8x128) K) (c : Dev nD) (kk vv : S512x16x8x128.Idx → Elt Ideal .f32)
    (hk : Half c kk K) (hv : Half c vv V) (b h : Fin 8) :
    ∃ r : ℝ, mcol (k0_pay6 q) (chunk c kk) 16 h (ix2 b 0) = (r : EReal)
      ∧ lcol (k0_pay6 q) (wts c bt le) (chunk c kk) 16 h (ix2 b 0)
        = expSum (fun x : Fin 2048 => cnt le bt b (base c + x.val / 16)) (fun x => sc q K b h ⟨base c + x.val / 16, base_bound c x⟩ ⟨x.val % 16, by omega⟩) (fun _ => 1) r
      ∧ ∀ d : Fin 128, ocol (k0_pay6 q) (wts c bt le) (chunk c kk) (chunk c vv) 16 h (ix3 b 0 d)
        = expSum (fun x : Fin 2048 => cnt le bt b (base c + x.val / 16)) (fun x => sc q K b h ⟨base c + x.val / 16, base_bound c x⟩ ⟨x.val % 16, by omega⟩)
          (fun x => V (ix4 ⟨base c + x.val / 16, base_bound c x⟩ ⟨x.val % 16, by omega⟩ h d)) r := by
  refine accumulators (k0_pay6 q) (wts c bt le) (chunk c kk) (chunk c vv) h b (fun x : Fin 2048 => cnt le bt b (base c + x.val / 16))
    (fun x => sc q K b h ⟨base c + x.val / 16, base_bound c x⟩ ⟨x.val % 16, by omega⟩)
    (fun d x => V (ix4 ⟨base c + x.val / 16, base_bound c x⟩ ⟨x.val % 16, by omega⟩ h d))
    (fun x => wts_cnt le bt b c x) (fun n => ?_) (fun n => ?_) (fun n d => slab0 c vv V hv h n d) (fun n d => slab1 c vv V hv h n d)
  · rw [pay12_apply, ← sc_dev q K hq hK]
    exact Finset.sum_congr rfl fun d _ => congrArg₂ (fun u v : EReal => u * v) (qh_apply q h b d) (slab0 c kk K hk h n d)
  · rw [pay12_apply, ← sc_dev q K hq hK]
    exact Finset.sum_congr rfl fun d _ => congrArg₂ (fun u v : EReal => u * v) (qh_apply q h b d) (slab1 c kk K hk h n d)

end Cert.PagedProof

end
-- ==== Proof.Decode.lean ====
/-
What the precondition says of one device's arrays: finite queries and keys, rows that attend to something, and attended table entries
that name pages.
-/
module

public import proofs.«01_k».proof.Defs
public import proofs.«01_k».proof.Proof.Gen.Pre_served_KernelIdeal
public import proofs.«01_k».proof.Proof.Scores

@[expose] public section

set_option maxRecDepth 16384

noncomputable section

namespace Cert.PagedProof

open Idealize.ShloMosaic Idealize.ShloMosaic.TcCoe

/-- An extended real whose absolute value is below infinity is a real. -/
theorem real_of_abs (x : EReal) (h : Ideal.cmp .olt (max x (-x)) (Ideal.ofBits .f32 0x7F800000#32) = 1#1) : x = (x.toReal : EReal) := by
  have t : Ideal.ofBits .f32 0x7F800000#32 = ⊤ := by simp [Ideal.ofBits, Ideal.ieee]
  rw [t] at h
  simp only [Ideal.cmp, ofBool_one, decide_eq_true_eq] at h
  refine (EReal.coe_toReal (fun e => ?_) (fun e => ?_)).symm
  · subst e; simp at h
  · subst e; simp at h

section
open Cert.Pre_served_KernelIdeal Cert.Pre_served_KernelIdeal.Gen
variable (q : FVec Ideal S8x1x8x128 .f32) (k v : FVec Ideal S512x16x8x128 .f32) (bt : IVec S8x512 32) (le : IVec S8 32)

theorem decode_q (h : (fn (F := Ideal) q k v bt le).1 = fun _ => 1#1) (i : S8x1x8x128.Idx) : (q i : EReal) = ((q i : EReal).toReal : EReal) :=
  real_of_abs (q i) (congrFun h i)

theorem decode_k (h : (fn (F := Ideal) q k v bt le).2.1 = fun _ => 1#1) (i : S512x16x8x128.Idx) : (k i : EReal) = ((k i : EReal).toReal : EReal) :=
  real_of_abs (k i) (congrFun h i)

theorem decode_lens (h : (fn (F := Ideal) q k v bt le).2.2.1 = fun _ => 1#1) (b : Fin 8) : 1 ≤ (le (ix1 b)).toInt := by
  have e : IntOp.cmpi .sge (le (ix1 b)) 1#32 = 1#1 := congrFun h (ix1 b)
  simp only [IntOp.cmpi, ofBool_one, BitVec.sle, decide_eq_true_eq] at e
  exact e

/-- The entry of a table where `live`, zero elsewhere, at an index. -/
theorem where_apply (mk : IVec S8x512 1) (b : Fin 8) (j : Fin 512) :
    fn_where (F := Ideal) mk bt (constantI S_ 32 0#32) (ix2 b j) = if mk (ix2 b j) = 1#1 then bt (ix2 b j) else 0#32 := by
  pointwise [fn_where, id_eq]
  rfl

theorem decode_named (h : (fn (F := Ideal) q k v bt le).2.2.2.1 = fun _ => 1#1) (h' : (fn (F := Ideal) q k v bt le).2.2.2.2 = fun _ => 1#1)
    (b : Fin 8) : Named le bt b := by
  intro j hj
  have l : IntOp.cmpi .slt (BitVec.ofNat 32 j.val) (le (ix1 b)) = 1#1 := by
    simp only [IntOp.cmpi, ofBool_one, BitVec.slt, decide_eq_true_eq]
    rw [toInt_small _ (by have := j.isLt; omega)]
    exact hj
  have a : IntOp.cmpi .sge (fn_where (F := Ideal) (cmpi .slt (broadcastInDim S8x512 ![0, 1] Facts.bcast_S1x512_S8x512_0_1 (broadcastInDim S1x512 ![1] Facts.bcast_S512_S1x512_1 (iotaInDim S512 32 0)))
      (broadcastInDim S8x512 ![0, 1] Facts.bcast_S8x1_S8x512_0_1 (broadcastInDim S8x1 ![0] Facts.bcast_S8_S8x1_0 le))) bt (constantI S_ 32 0#32) (ix2 b j)) 0#32 = 1#1 := congrFun h (ix2 b j)
  have a' : IntOp.cmpi .sle (fn_where (F := Ideal) (cmpi .slt (broadcastInDim S8x512 ![0, 1] Facts.bcast_S1x512_S8x512_0_1 (broadcastInDim S1x512 ![1] Facts.bcast_S512_S1x512_1 (iotaInDim S512 32 0)))
      (broadcastInDim S8x512 ![0, 1] Facts.bcast_S8x1_S8x512_0_1 (broadcastInDim S8x1 ![0] Facts.bcast_S8_S8x1_0 le))) bt (constantI S_ 32 0#32) (ix2 b j)) 1023#32 = 1#1 := congrFun h' (ix2 b j)
  have w : (cmpi .slt (broadcastInDim S8x512 ![0, 1] Facts.bcast_S1x512_S8x512_0_1 (broadcastInDim S1x512 ![1] Facts.bcast_S512_S1x512_1 (iotaInDim S512 32 0)))
      (broadcastInDim S8x512 ![0, 1] Facts.bcast_S8x1_S8x512_0_1 (broadcastInDim S8x1 ![0] Facts.bcast_S8_S8x1_0 le)) : IVec S8x512 1) (ix2 b j) = 1#1 := by
    rw [← l]
    pointwise
  rw [where_apply, if_pos w] at a a'
  simp only [IntOp.cmpi, ofBool_one, BitVec.sle, decide_eq_true_eq] at a a'
  exact ⟨a, a'⟩

end

end Cert.PagedProof

end
-- ==== Proof.Combine.lean ====
/-
The result of the last step, read at an index over the extended reals.
-/
module

public import proofs.«01_k».proof.Proof.Post
public import proofs.«01_k».proof.Proof.Chunk

@[expose] public section

set_option maxRecDepth 16384

noncomputable section

namespace Cert.PagedProof

open Cert.KernelIdeal Cert.KernelIdeal.Gen
open Idealize.ShloMosaic Idealize.ShloMosaic.TcCoe

theorem pay151_apply (g : Vec Ideal S8x8x8 .f32) (q b h : Fin 8) :
    k0_pay151 g (ix3 q b h) = Ideal.exp (g (ix3 q b h) - Finset.univ.fold max ⊥ fun c : Fin 8 => g (ix3 c b h)) := by
  pointwise [k0_pay151, ofBits_bot]

theorem pay152_apply (g l : Vec Ideal S8x8x8 .f32) (b h : Fin 8) :
    k0_pay152 g l (ix2 b h) = ∑ c : Fin 8, k0_pay151 g (ix3 c b h) * l (ix3 c b h) := by
  pointwise [k0_pay152]

theorem read3 (g : (cc0_scratch5 : Ref sig .tc).ty.Contents (Elt Ideal)) :
    (Memref.whole cc0_scratch5).view.readAt (Elt Ideal) (Rect.unit (s := S8x8x8) ![0, 0, 0] S8x8x8.size inb_S8x8x8_S8x8x8_0_0_0).toLoadRect g = g := by
  funext i
  exact congrArg g (funext fun a => Fin.ext (by fin_cases a <;> simp [LoadRect.idx, Rect.unit, Rect.toLoadRect]))

theorem read3' (g : (cc0_scratch6 : Ref sig .tc).ty.Contents (Elt Ideal)) :
    (Memref.whole cc0_scratch6).view.readAt (Elt Ideal) (Rect.unit (s := S8x8x8) ![0, 0, 0] S8x8x8.size inb_S8x8x8_S8x8x8_0_0_0).toLoadRect g = g := by
  funext i
  exact congrArg g (funext fun a => Fin.ext (by fin_cases a <;> simp [LoadRect.idx, Rect.unit, Rect.toLoadRect]))

/-- Device `q`'s weighted values among the gathered ones. -/
def part (go : S8x8x8x128.Idx → Elt Ideal .f32) (q : Fin 8) : Vec Ideal S1x8x8x128 .f32 := fun i => go (ix4 q (i 1) (i 2) (i 3))

theorem read4 (q : ℕ) (hq : q < 8) (hi : ∀ a, (![q, 0, 0, 0] : Fin 4 → ℕ) a + S1x8x8x128.size a ≤ S8x8x8x128.size a)
    (g : (cc0_scratch7 : Ref sig .tc).ty.Contents (Elt Ideal)) :
    (Memref.whole cc0_scratch7).view.readAt (Elt Ideal) (Rect.unit (s := S8x8x8x128) ![q, 0, 0, 0] S1x8x8x128.size hi).toLoadRect g = part g ⟨q, hq⟩ := by
  funext i
  have h0 : (i 0).val < 1 := (i 0).isLt
  refine congrArg g (funext fun a => Fin.ext ?_)
  fin_cases a
  · simp [LoadRect.idx, Rect.unit, Rect.toLoadRect, ix4]; omega
  · simp [LoadRect.idx, Rect.unit, Rect.toLoadRect, ix4]
  · simp [LoadRect.idx, Rect.unit, Rect.toLoadRect, ix4]; rfl
  · simp [LoadRect.idx, Rect.unit, Rect.toLoadRect, ix4]; rfl

theorem outOf_apply (gm : (cc0_scratch5 : Ref sig .tc).ty.Contents (Elt Ideal)) (gl : (cc0_scratch6 : Ref sig .tc).ty.Contents (Elt Ideal))
    (go : (cc0_scratch7 : Ref sig .tc).ty.Contents (Elt Ideal)) (b h : Fin 8) (d : Fin 128) :
    outOf (F := Ideal) gm gl go (ix4 b 0 h d) =
      Ideal.div (∑ c : Fin 8, k0_pay151 (F := Ideal) gm (ix3 c b h) * (go : S8x8x8x128.Idx → EReal) (ix4 c b h d))
        (∑ c : Fin 8, k0_pay151 (F := Ideal) gm (ix3 c b h) * (gl : S8x8x8.Idx → EReal) (ix3 c b h)) := by
  unfold outOf
  rw [read3, read3']
  rw [read4 0 (by omega), read4 1 (by omega), read4 2 (by omega), read4 3 (by omega), read4 4 (by omega), read4 5 (by omega), read4 6 (by omega), read4 7 (by omega)]
  rw [← pay152_apply]
  generalize k0_pay152 (F := Ideal) gm gl = L
  rw [Fin.sum_univ_eight]
  pointwise [k0_pay1, k0_pay153, k0_pay154, k0_pay155, k0_pay156, k0_pay157, k0_pay158, k0_pay159, part]

end Cert.PagedProof

end
-- ==== Proof.Equation.lean ====
/-
The equation: the devices' combined result is the reference's, both the quotient of two sums over a row's positions, taken at two
reals that the quotient does not name.
-/
module

public import proofs.«01_k».proof.Proof.Scores
public import proofs.«01_k».proof.Proof.Combine

@[expose] public section

set_option maxRecDepth 16384

noncomputable section

namespace Cert.PagedProof

open Cert.KernelIdeal Cert.KernelIdeal.Gen
open Idealize.ShloMosaic Idealize.ShloMosaic.TcCoe

section
variable (q : Vec Ideal S8x1x8x128 .f32) (K V : Vec Ideal Cert.ReferenceIdeal.S1024x16x8x128 .f32) (bt : Vec Ideal S8x512 .i32) (le : Vec Ideal S8 .i32)
variable (b h : Fin 8)

/-- The score and the value at position `k` of row `b`. -/
def scAt (k : Fin 8192) : ℝ := sc q K b h (Ref.page bt b ⟨k.val / 16, by omega⟩) ⟨k.val % 16, by omega⟩
def valAt (d : Fin 128) (k : Fin 8192) : EReal := V (ix4 (Ref.page bt b ⟨k.val / 16, by omega⟩) ⟨k.val % 16, by omega⟩ h d)

variable (hq : Finite (s := S8x1x8x128) q) (hK : Finite (s := Cert.ReferenceIdeal.S1024x16x8x128) K)
include hq hK

/-- The kernel's result at an index. -/
theorem kernel_at (hn : Named le bt b) (kk vv : Dev nD → S512x16x8x128.Idx → Elt Ideal .f32)
    (hk : ∀ c, Half c (kk c) K) (hv : ∀ c, Half c (vv c) V) (d : Fin 128) :
    ∃ M : ℝ, outOf (F := Ideal) (GM fun c => mAcc c q (kk c)) (PagedProof.GL fun c => lAcc c q (kk c) bt le) (GO fun c => oAcc c q (kk c) (vv c) bt le) (ix4 b 0 h d)
      = Ideal.div (expSum (vld le b) (scAt q K bt b h) (valAt V bt b h d) M) (expSum (vld le b) (scAt q K bt b h) (fun _ => 1) M) := by
  have D := fun c => device q K V bt le hq hK c (kk c) (vv c) (hk c) (hv c) b h
  choose r hm hl ho using D
  obtain ⟨M, hM⟩ := fold_coe r
  refine ⟨M, ?_⟩
  have em : ∀ c : Fin 8, (GM (F := Ideal) fun c => mAcc c q (kk c)) (ix3 c b h) = (r c : EReal) := fun c => by
    rw [← hm c, ix2_eq_valueIdx]; rfl
  have el : ∀ c : Fin 8, (PagedProof.GL (F := Ideal) fun c => lAcc c q (kk c) bt le) (ix3 c b h) = _ := fun c => Eq.trans (by rw [ix2_eq_valueIdx]; rfl) (hl c)
  have eo : ∀ c : Fin 8, (GO (F := Ideal) fun c => oAcc c q (kk c) (vv c) bt le) (ix4 c b h d) = _ := fun c => Eq.trans (by rw [ix3_eq_valueIdx]; rfl) (ho c d)
  have ew : ∀ c : Fin 8, k0_pay151 (F := Ideal) (GM fun c => mAcc c q (kk c)) (ix3 c b h) = Ideal.exp ((r c : EReal) - (M : EReal)) := fun c => by
    rw [pay151_apply, em, ← hM]
    simp only [em]
  rw [outOf_apply]
  refine congrArg₂ Ideal.div ?_ ?_
  · refine Eq.trans (Finset.sum_congr rfl fun c _ => congrArg₂ (fun u v : EReal => u * v) (ew c) (eo c)) ?_
    rw [gathered_sum]
    exact table_sum le bt b hn (sc q K b h) (fun p t => V (ix4 p t h d)) M
  · refine Eq.trans (Finset.sum_congr rfl fun c _ => congrArg₂ (fun u v : EReal => u * v) (ew c) (el c)) ?_
    rw [gathered_sum]
    exact table_sum le bt b hn (sc q K b h) (fun p t => 1) M

/-- The mask, at a position. -/
theorem mask_live (k : Fin 8192) : (Ref.mask le (ix4 b h 0 k) = 1#1) ↔ live le b ⟨k.val / 16, by omega⟩ := by
  rw [Ref.mask_apply]
  simp only [IntOp.cmpi, ofBool_one, BitVec.slt, decide_eq_true_eq, live]
  rw [toInt_small _ (by have := k.isLt; omega)]

theorem score_at (k : Fin 8192) : Ref.scores q (Ref.rows K bt) (Ref.mask le) (ix4 b h 0 k)
    = if live le b ⟨k.val / 16, by omega⟩ then (scAt q K bt b h k : EReal) else ⊥ := by
  rw [Ref.scores_apply, ofBits_bot]
  refine if_congr (mask_live q K le b h hq hK k) ?_ rfl
  rw [scAt, ← sc_ref q K hq hK]
  exact congrArg (fun u : EReal => u * _) (Finset.sum_congr rfl fun d _ => congrArg (fun u : EReal => _ * u) (Ref.rows_apply K bt b k h d))

/-- A row that attends to something attends to its first position. -/
theorem live_zero (hl : 1 ≤ (le (ix1 b)).toInt) : live le b ⟨(0 : Fin 8192).val / 16, by omega⟩ := by
  show ((0 : ℕ) : ℤ) < _
  omega

theorem vld_nonneg (k : Fin 8192) : 0 ≤ vld le b k := by
  unfold vld; split <;> norm_num

theorem reference_at (hl : 1 ≤ (le (ix1 b)).toInt) (d : Fin 128) :
    ∃ M : ℝ, Ref.mixed (Ref.rows V bt) (Ref.probs (Ref.powers (Ref.scores q (Ref.rows K bt) (Ref.mask le)))) (ix4 b 0 h d)
      = Ideal.div (expSum (vld le b) (scAt q K bt b h) (valAt V bt b h d) M) (expSum (vld le b) (scAt q K bt b h) (fun _ => 1) M) := by
  have h0 := live_zero q K le b hq hK hl
  obtain ⟨M, hM⟩ := fold_real (fun k : Fin 8192 => (Ref.scores q (Ref.rows K bt) (Ref.mask le) (ix4 b h 0 k) : EReal))
    (fun k => by
      rw [score_at q K bt le b h hq hK]
      split
      · exact EReal.coe_lt_top _
      · exact bot_lt_top)
    ⟨0, by
      rw [score_at q K bt le b h hq hK, if_pos h0]
      exact EReal.bot_lt_coe _⟩
  refine ⟨M, ?_⟩
  have ep : ∀ k : Fin 8192, Ref.powers (Ref.scores q (Ref.rows K bt) (Ref.mask le)) (ix4 b h 0 k)
      = ((vld le b k * Real.exp (scAt q K bt b h k - M) : ℝ) : EReal) := fun k => by
    rw [Ref.powers_apply, ofBits_bot, hM, score_at q K bt le b h hq hK, vld]
    split
    · rw [exp_sub_coe, one_mul]
    · rw [zero_mul]; rfl
  have hZ : (∑ k : Fin 8192, vld le b k * Real.exp (scAt q K bt b h k - M)) ≠ 0 := by
    refine (lt_of_lt_of_le ?_ (Finset.single_le_sum (fun k _ => mul_nonneg (vld_nonneg q K le b hq hK k) (Real.exp_pos _).le) (Finset.mem_univ (0 : Fin 8192)))).ne'
    rw [vld, if_pos h0, one_mul]
    exact Real.exp_pos _
  have es : (∑ x : Fin 8192, (Ref.powers (Ref.scores q (Ref.rows K bt) (Ref.mask le)) (ix4 b h 0 x) : EReal))
      = ((∑ k : Fin 8192, vld le b k * Real.exp (scAt q K bt b h k - M) : ℝ) : EReal) := by
    rw [sum_coe]
    exact Finset.sum_congr rfl fun k _ => ep k
  rw [Ref.mixed_apply, expSum_one, Ideal.div_coe hZ, mul_comm, expSum, coe_mul_sum]
  · refine Finset.sum_congr rfl fun k _ => ?_
    rw [Ref.probs_apply, es, Ideal.div_coe hZ, ep, Ref.rows_apply]
    rw [← mul_assoc, mul_comm]
    exact congrArg (fun u : EReal => _ * u) (mul_comm _ _)
  · exact one_div_nonneg.2 (Finset.sum_nonneg fun k _ => mul_nonneg (vld_nonneg q K le b hq hK k) (Real.exp_pos _).le)

/-- The two results at an index. -/
theorem equation_at (hn : Named le bt b) (hl : 1 ≤ (le (ix1 b)).toInt) (kk vv : Dev nD → S512x16x8x128.Idx → Elt Ideal .f32)
    (hk : ∀ c, Half c (kk c) K) (hv : ∀ c, Half c (vv c) V) (d : Fin 128) :
    outOf (F := Ideal) (GM fun c => mAcc c q (kk c)) (PagedProof.GL fun c => lAcc c q (kk c) bt le) (GO fun c => oAcc c q (kk c) (vv c) bt le) (ix4 b 0 h d)
      = Ref.mixed (Ref.rows V bt) (Ref.probs (Ref.powers (Ref.scores q (Ref.rows K bt) (Ref.mask le)))) (ix4 b 0 h d) := by
  obtain ⟨M, hM⟩ := kernel_at q K V bt le b h hq hK hn kk vv hk hv d
  obtain ⟨M', hM'⟩ := reference_at q K V bt le b h hq hK hl d
  have h0 := live_zero q K le b hq hK hl
  have hZ : 0 < ∑ k : Fin 8192, vld le b k * Real.exp (scAt q K bt b h k) := by
    refine lt_of_lt_of_le ?_ (Finset.single_le_sum (fun k _ => mul_nonneg (vld_nonneg q K le b hq hK k) (Real.exp_pos _).le) (Finset.mem_univ (0 : Fin 8192)))
    rw [vld, if_pos h0, one_mul]
    exact Real.exp_pos _
  rw [hM, hM', quotient _ _ _ M hZ, quotient _ _ _ M' hZ]

end

end Cert.PagedProof

end
-- ==== Proof.Claim.lean ====
/-
The value claim: from memories that agree and satisfy the precondition, every device's result is the reference's.
-/
module

public import proofs.«01_k».proof.Proof.Whole
public import proofs.«01_k».proof.Proof.Decode
public import proofs.«01_k».proof.Proof.Equation

@[expose] public section

set_option maxRecDepth 16384

noncomputable section

namespace Cert.PagedProof

open Cert.KernelIdeal Cert.KernelIdeal.Gen
open Idealize.ShloMosaic Idealize.ShloMosaic.TcCoe
open Idealize.SL.Sem

/-- Which of the two halves of the cache a device holds: the first mesh coordinate. -/
theorem half_block : ∀ c : Dev nD, (Layout.meshLin [2, 2, 2] c.val [0]) = c.val / 4 := by decide +kernel

theorem half_of_block (c : Dev nD) (x : S512x16x8x128.Idx → Elt Ideal .f32) (X : Vec Ideal Cert.ReferenceIdeal.S1024x16x8x128 .f32)
    (h : x = Layout.blockN ⟨4, ![512, 16, 8, 128]⟩ ⟨4, ![1024, 16, 8, 128]⟩ (Layout.meshBlock [2, 2, 2] ![[0], [], [], []] c) X) : Half c x X := by
  intro r t hd d
  rw [h, Layout.blockN_apply]
  refine congrArg X (funext fun a => Fin.ext ?_)
  rw [Layout.TilesN.idx_val, Layout.meshBlock_val]
  match a with
  | ⟨0, _⟩ =>
    show Layout.meshLin [2, 2, 2] c.val [0] * 512 + r.val = c.val / 4 * 512 + r.val
    rw [half_block]
  | ⟨1, _⟩ => exact (congrArg (· + _) (Nat.zero_mul _)).trans (Nat.zero_add _)
  | ⟨2, _⟩ => exact (congrArg (· + _) (Nat.zero_mul _)).trans (Nat.zero_add _)
  | ⟨3, _⟩ => exact (congrArg (· + _) (Nat.zero_mul _)).trans (Nat.zero_add _)

/-- A cache whose halves are finite is finite. -/
theorem finite_of_halves (x : Dev nD → S512x16x8x128.Idx → Elt Ideal .f32) (X : Vec Ideal Cert.ReferenceIdeal.S1024x16x8x128 .f32)
    (hx : ∀ c, Half c (x c) X) (hf : ∀ (c : Dev nD) (i : S512x16x8x128.Idx), (x c i : EReal) = ((x c i : EReal).toReal : EReal)) :
    Finite (s := Cert.ReferenceIdeal.S1024x16x8x128) X := by
  intro i
  obtain ⟨p, t, h, d, rfl⟩ : ∃ (p : Fin 1024) (t : Fin 16) (h : Fin 8) (d : Fin 128), i = ix4 p t h d :=
    ⟨i 0, i 1, i 2, i 3, funext fun a => by fin_cases a <;> rfl⟩
  have key : ∀ (c : Dev nD) (r : Fin 512), c.val / 4 * 512 + r.val = p.val → (X (ix4 p t h d) : EReal) = ((X (ix4 p t h d) : EReal).toReal : EReal) := by
    intro c r e
    have a := hx c r t h d
    have e' : (⟨c.val / 4 * 512 + r.val, by have : c.val < 8 := c.isLt; omega⟩ : Fin 1024) = p := Fin.ext e
    rw [e'] at a
    have b := hf c (ix4 r t h d)
    rw [a] at b
    exact b
  have hp := p.isLt
  by_cases hh : p.val < 512
  · exact key ⟨0, by decide⟩ ⟨p.val, hh⟩ (by show 0 / 4 * 512 + p.val = p.val; omega)
  · exact key ⟨4, by decide⟩ ⟨p.val - 512, by omega⟩ (by show 4 / 4 * 512 + (p.val - 512) = p.val; omega)

/-- Every device's result, from blocks of one cache and copies of the other arguments. -/
theorem result (m : (ℓ : Loc nD τ sig) → Buf (Elt Ideal) ℓ) (q : Vec Ideal S8x1x8x128 .f32) (K V : Vec Ideal Cert.ReferenceIdeal.S1024x16x8x128 .f32)
    (bt : Vec Ideal S8x512 .i32) (le : Vec Ideal S8 .i32)
    (e0 : ∀ c : Dev nD, m ((c.tc : Thread nD τ).loc main_arg0) = q)
    (e1 : ∀ c : Dev nD, Half c (m ((c.tc : Thread nD τ).loc main_arg1)) K)
    (e2 : ∀ c : Dev nD, Half c (m ((c.tc : Thread nD τ).loc main_arg2)) V)
    (e3 : ∀ c : Dev nD, m ((c.tc : Thread nD τ).loc main_arg3) = bt)
    (e4 : ∀ c : Dev nD, m ((c.tc : Thread nD τ).loc main_arg4) = le)
    (hq : Finite (s := S8x1x8x128) q) (hK : Finite (s := Cert.ReferenceIdeal.S1024x16x8x128) K)
    (hn : ∀ b, Named le bt b) (hl : ∀ b : Fin 8, 1 ≤ (le (ix1 b)).toInt) :
    outv m = Ref.mixed (Ref.rows V bt) (Ref.probs (Ref.powers (Ref.scores q (Ref.rows K bt) (Ref.mask le)))) := by
  have a : ∀ c, qAt m c = q := fun c => (qAt_eq m c).trans (e0 c)
  have a' : ∀ c, bAt m c = bt := fun c => (bAt_eq m c).trans (e3 c)
  have a'' : ∀ c, lAt m c = le := fun c => (lAt_eq m c).trans (e4 c)
  have hM : AM m = fun c => mAcc c q (m ((c.tc : Thread nD τ).loc main_arg1)) := funext fun c => by unfold AM; rw [a c]
  have hL : AL m = fun c => lAcc c q (m ((c.tc : Thread nD τ).loc main_arg1)) bt le := funext fun c => by unfold AL; rw [a c, a' c, a'' c]
  have hO : AO m = fun c => oAcc c q (m ((c.tc : Thread nD τ).loc main_arg1)) (m ((c.tc : Thread nD τ).loc main_arg2)) bt le := funext fun c => by
    unfold AO; rw [a c, a' c, a'' c]
  unfold outv
  rw [hM, hL, hO]
  funext i
  obtain ⟨b, h, d, rfl⟩ : ∃ (b h : Fin 8) (d : Fin 128), i = ix4 b 0 h d :=
    ⟨i 0, i 2, i 3, funext fun a => by fin_cases a <;> first | rfl | exact Subsingleton.elim (α := Fin 1) _ _⟩
  exact equation_at q K V bt le b h hq hK (hn b) (hl b) _ _ e1 e2 d

end Cert.PagedProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_served_KernelIdeal
public import proofs.«01_k».proof.Proof.Gen.Pre_served_ReferenceIdeal
public import proofs.«01_k».proof.Proof.Frames
public import proofs.«01_k».proof.Proof.Same
public import proofs.«01_k».proof.Proof.Claim
public import Idealize.ShloMosaic.Adequacy
public import Idealize.ShloMosaic.Init

@[expose] public section

noncomputable section

namespace Cert.Proof

open Idealize.ShloMosaic Idealize.SL.Sem Cert.PagedProof

/-- The frame of the kernel as printed, whose text over any float values is that of the kernel over the extended reals. -/
theorem frame_kernel : Cert.quiescent_Kernel := by
  intro m ρ _
  rw [defs_same (F := Bits), main_same (F := Bits)]
  refine (θ_run (Cert.KernelIdeal.defs (F := Bits)) _ _).mono ?_ (run_arrays (F := Bits) m ρ)
  exact fun _ h => ⟨fun c => (h.1 c).2, h.2⟩

/-- The frame of the kernel over the extended reals. -/
theorem frame_ideal : Cert.quiescent_KernelIdeal := fun m ρ _ =>
  (θ_run Cert.KernelIdeal.defs _ _).mono (fun _ h => ⟨fun c => (h.1 c).2, h.2⟩) (run_arrays (F := Ideal) m ρ)

/-- The frame of the reference over the extended reals. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Under the precondition every device's result is the reference's. -/
theorem equal : Cert.algebraic_KernelIdeal_ReferenceIdeal_pre_served_KernelIdeal := by
  intro m g m' g' hp he
  have e0 := fun c => (he c).1
  have e1 := fun c => half_of_block c _ _ (he c).2.1
  have e2 := fun c => half_of_block c _ _ (he c).2.2.1
  have e3 := fun c => (he c).2.2.2.1
  have e4 := fun c => (he c).2.2.2.2
  have p0 := hp 0
  have hq := decode_q _ _ _ _ _ p0.1
  have hl := decode_lens _ _ _ _ _ p0.2.2.1
  have hn := decode_named _ _ _ _ _ p0.2.2.2.1 p0.2.2.2.2
  rw [e0 0] at hq
  rw [e4 0] at hl
  rw [e3 0, e4 0] at hn
  have hK := finite_of_halves _ _ e1 fun c => decode_k _ _ _ _ _ (hp c).2.1
  have h := result m _ _ _ _ _ e0 e1 e2 e3 e4 hq hK hn hl
  refine ⟨Cert.ReferenceIdeal.Value.res_main_v25 m' 0, ?_, ?_⟩
  · refine (θ_run Cert.KernelIdeal.defs _ _).mono (fun r a c => ⟨?_, (a.1 c).2⟩) (run_arrays (F := Ideal) m g)
    exact (a.1 c).1.trans ((resAt_eq m c).trans (h.trans (Ref.res_eq m' 0).symm))
  · exact (θ_run Cert.ReferenceIdeal.defs _ _).mono (fun r a => a 0) (Cert.ReferenceIdeal.Value.run (F := Ideal) m' g')

theorem claim : Cert.Claim := ⟨Cert.Kernel.Gen.facts, Cert.KernelIdeal.Gen.facts, Cert.ReferenceIdeal.Gen.facts,
  Cert.Pre_served_KernelIdeal.Gen.facts, Cert.Pre_served_ReferenceIdeal.Gen.facts,
  frame_kernel, frame_ideal, fun m ρ _ => frame_ideal m ρ trivial, frame_reference, fun m ρ _ => frame_reference m ρ trivial, trivial, equal⟩

end Cert.Proof

end
